-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v74) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)) (v2 : (c : Dev Cert.Kernel3Ideal.nD) → Buf (Elt Ideal) ((c.tc : Thread Cert.Kernel3Ideal.nD Cert.Kernel3Ideal.τ).loc Cert.Kernel3Ideal.main_v10_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_v10_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v107) = v0 c
          ∧ r.2.mem ((c.tc : Thread Cert.Reference3Ideal.nD Cert.Reference3Ideal.τ).loc Cert.Reference3Ideal.main_v108) = v1 c
          ∧ r.2.mem ((c.tc : Thread Cert.Reference3Ideal.nD Cert.Reference3Ideal.τ).loc Cert.Reference3Ideal.main_v110) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v73) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S8x4096x2048 : Shape := ⟨3, ![8, 4096, 2048]⟩
abbrev S8x8x128x128 : Shape := ⟨4, ![8, 8, 128, 128]⟩
abbrev S1x2x4 : Shape := ⟨3, ![1, 2, 4]⟩
abbrev S1x512 : Shape := ⟨2, ![1, 512]⟩
abbrev S8x4096x1536 : Shape := ⟨3, ![8, 4096, 1536]⟩
abbrev S_ : Shape := ⟨0, ![]⟩

class Facts : Prop where
  slices_S8x4096x2048_S8x4096x1536_0_0_0 : S8x4096x2048.Slices ![0, 0, 0] S8x4096x1536
  bitsLt_bf16_f32 : FTy.bits .bf16 < FTy.bits .f32
  bcast_S_S8x4096x1536 : S_.BroadcastsInDim S8x4096x1536 (![] : Fin 0 → Fin S8x4096x1536.rank)
  reducesTo_S8x4096x1536_S_d0_1_2 : S8x4096x1536.ReducesTo [0, 1, 2] S_
  h_S_ : 0 < S_.numel

variable [Facts]

def fn {F : FTy → Type} [FloatOps F] (main_arg0 : FVec F S8x4096x2048 .bf16) (main_arg1 : FVec F S8x8x128x128 .f32) (main_arg2 : FVec F S1x2x4 .f32) (main_arg3 : FVec F S1x512 .f32) : IVec S_ 1 :=
  let main_v0 : FVec F S8x4096x1536 .bf16 := (extractStridedSlice S8x4096x1536 ![0, 0, 0] · slices_S8x4096x2048_S8x4096x1536_0_0_0) main_arg0
  let main_v1 : FVec F S8x4096x1536 .f32 := (extf .f32 · bitsLt_bf16_f32) main_v0
  let main_v2 : FVec F S8x4096x1536 .f32 := Host.absf main_v1
  let main_cst : FVec F S_ .f32 := constant S_ .f32 0x7F800000#32
  let main_v3 : FVec F S8x4096x1536 .f32 := broadcastInDim S8x4096x1536 ![] bcast_S_S8x4096x1536 main_cst
  let main_v4 : IVec S8x4096x1536 1 := cmpf .olt main_v2 main_v3
  let main_c : IVec S_ 1 := constantI S_ 1 1#1
  let main_v5 : IVec S_ 1 := (fun x v => Host.reduce IntOp.andi x v reducesTo_S8x4096x1536_S_d0_1_2 h_S_) main_v4 main_c
  main_v5
-- ==== Kernel.lean ====
abbrev S8x4096x2048 : Shape := ⟨3, ![8, 4096, 2048]⟩
abbrev S8x8x128x128 : Shape := ⟨4, ![8, 8, 128, 128]⟩
abbrev S1x2x4 : Shape := ⟨3, ![1, 2, 4]⟩
abbrev S1x512 : Shape := ⟨2, ![1, 512]⟩
abbrev S2x4 : Shape := ⟨2, ![2, 4]⟩
abbrev S8x1 : Shape := ⟨2, ![8, 1]⟩
abbrev S8x128 : Shape := ⟨2, ![8, 128]⟩
abbrev S8x4096x512 : Shape := ⟨3, ![8, 4096, 512]⟩
abbrev S1x4096x128 : Shape := ⟨3, ![1, 4096, 128]⟩
abbrev S1x1x128x128 : Shape := ⟨4, ![1, 1, 128, 128]⟩
abbrev S1x128 : Shape := ⟨2, ![1, 128]⟩
abbrev S6x256x128 : Shape := ⟨3, ![6, 256, 128]⟩
abbrev S256x256 : Shape := ⟨2, ![256, 256]⟩
abbrev S256x128 : Shape := ⟨2, ![256, 128]⟩
abbrev S1x256x128 : Shape := ⟨3, ![1, 256, 128]⟩
abbrev S1x256 : Shape := ⟨2, ![1, 256]⟩
abbrev S128x128 : Shape := ⟨2, ![128, 128]⟩
abbrev S1x128x128 : Shape := ⟨3, ![1, 128, 128]⟩
abbrev S256x512 : Shape := ⟨2, ![256, 512]⟩
abbrev S512x128 : Shape := ⟨2, ![512, 128]⟩
abbrev S256 : Shape := ⟨1, ![256]⟩
abbrev S256x1 : Shape := ⟨2, ![256, 1]⟩

abbrev nBuf : Space → Nat
  | .hbm => 8
  | .vmem => 19
  | .smem => 0
  | _ => 0

abbrev bufTy : (tb : Table) → Fin (tcTables nBuf tb) → BufTy
  | .hbm, ⟨0, _⟩ => ⟨S8x4096x2048, .bf16⟩
  | .hbm, ⟨1, _⟩ => ⟨S8x8x128x128, .f32⟩
  | .hbm, ⟨2, _⟩ => ⟨S1x2x4, .f32⟩
  | .hbm, ⟨3, _⟩ => ⟨S1x512, .f32⟩
  | .hbm, ⟨4, _⟩ => ⟨S2x4, .f32⟩
  | .hbm, ⟨5, _⟩ => ⟨S8x1, .f32⟩
  | .hbm, ⟨6, _⟩ => ⟨S8x128, .f32⟩
  | .hbm, ⟨7, _⟩ => ⟨S8x4096x512, .bf16⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x1x128x128, .f32⟩
  | .local _ .vmem, ⟨9, _⟩ => ⟨S1x1x128x128, .f32⟩
  | .local _ .vmem, ⟨10, _⟩ => ⟨S1x1x128x128, .f32⟩
  | .local _ .vmem, ⟨11, _⟩ => ⟨S1x1x128x128, .f32⟩
  | .local _ .vmem, ⟨12, _⟩ => ⟨S8x128, .f32⟩
  | .local _ .vmem, ⟨13, _⟩ => ⟨S1x128, .f32⟩
  | .local _ .vmem, ⟨14, _⟩ => ⟨S1x128, .f32⟩
  | .local _ .vmem, ⟨15, _⟩ => ⟨S1x4096x128, .bf16⟩
  | .local _ .vmem, ⟨16, _⟩ => ⟨S1x4096x128, .bf16⟩
  | .local _ .vmem, ⟨17, _⟩ => ⟨S6x256x128, .f32⟩
  | .local _ .vmem, ⟨18, _⟩ => ⟨S256x256, .f32⟩
  | _, _ => ⟨S8x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg0 : BitVec 32 := BitVec.ofNat 32 (i 0).val
  let v1102 : Index := Scalar.indexCast arg0
  let c0_691 : Index := 0#32
  ![v1102.toNat, 0]
def k0_off2 (i : grid0.Coords) : Fin 2 → Nat :=
  let arg0 : BitVec 32 := BitVec.ofNat 32 (i 0).val
  let c4_i32 : BitVec 32 := 4#32
  let v1109 : BitVec 32 := Scalar.addi arg0 c4_i32
  let v1110 : Index := Scalar.indexCast v1109
  let c0_693 : Index := 0#32
  ![v1110.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![arg1.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![arg1.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  ![arg1.toNat, c0_i32.toNat, v0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  ![arg1.toNat, v0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S8x4096x2048 : Shape := ⟨3, ![8, 4096, 2048]⟩
abbrev S8x8x128x128 : Shape := ⟨4, ![8, 8, 128, 128]⟩
abbrev S1x2x4 : Shape := ⟨3, ![1, 2, 4]⟩
abbrev S1x512 : Shape := ⟨2, ![1, 512]⟩
abbrev S8x4096x512 : Shape := ⟨3, ![8, 4096, 512]⟩
abbrev S8x4096x4x128 : Shape := ⟨4, ![8, 4096, 4, 128]⟩
abbrev S8x4x4096x128 : Shape := ⟨4, ![8, 4, 4096, 128]⟩
abbrev S2x4 : Shape := ⟨2, ![2, 4]⟩
abbrev S8x8x4096x128 : Shape := ⟨4, ![8, 8, 4096, 128]⟩
abbrev S8 : Shape := ⟨1, ![8]⟩
abbrev S8x8x32x128x128 : Shape := ⟨5, ![8, 8, 32, 128, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S8x1x1 : Shape := ⟨3, ![8, 1, 1]⟩
abbrev S1x128x128 : Shape := ⟨3, ![1, 128, 128]⟩
abbrev S8x128x128 : Shape := ⟨3, ![8, 128, 128]⟩
abbrev S1x8x1x128x128 : Shape := ⟨5, ![1, 8, 1, 128, 128]⟩
abbrev S8x1 : Shape := ⟨2, ![8, 1]⟩
abbrev S8x128 : Shape := ⟨2, ![8, 128]⟩
abbrev S1x8x1x128x1 : Shape := ⟨5, ![1, 8, 1, 128, 1]⟩
abbrev S32x8x8x128x128 : Shape := ⟨5, ![32, 8, 8, 128, 128]⟩
abbrev S1x8x1x1 : Shape := ⟨4, ![1, 8, 1, 1]⟩
abbrev S1x8x8x128x128 : Shape := ⟨5, ![1, 8, 8, 128, 128]⟩
abbrev S8x4x4096 : Shape := ⟨3, ![8, 4, 4096]⟩
abbrev S8x4x4096x1 : Shape := ⟨4, ![8, 4, 4096, 1]⟩
abbrev S512 : Shape := ⟨1, ![512]⟩
abbrev S1x1x512 : Shape := ⟨3, ![1, 1, 512]⟩

abbrev nBuf : Space → Nat
  | .hbm => 152
  | .vmem => 0
  | .smem => 0
  | _ => 0

abbrev hbmTy0_0 (i : Nat) : BufTy := match i % 128 with
  | 0 => ⟨S8x4096x2048, .bf16⟩
  | 1 => ⟨S8x8x128x128, .f32⟩
  | 2 => ⟨S1x2x4, .f32⟩
  | 3 => ⟨S1x512, .f32⟩
  | 4 => ⟨S8x4096x2048, .f32⟩
  | 5 => ⟨S8x4096x512, .f32⟩
  | 6 => ⟨S8x4096x4x128, .f32⟩
  | 7 => ⟨S8x4x4096x128, .f32⟩
  | 8 => ⟨S8x4096x512, .f32⟩
  | 9 => ⟨S8x4096x4x128, .f32⟩
  | 10 => ⟨S8x4x4096x128, .f32⟩
  | 11 => ⟨S8x4096x512, .f32⟩
  | 12 => ⟨S8x4096x4x128, .f32⟩
  | 13 => ⟨S8x4x4096x128, .f32⟩
  | 14 => ⟨S2x4, .f32⟩
  | 15 => ⟨S2x4, .f32⟩
  | 16 => ⟨S2x4, .f32⟩
  | 17 => ⟨S2x4, .f32⟩
  | 18 => ⟨S8x4x4096x128, .f32⟩
  | 19 => ⟨S8x8x4096x128, .f32⟩
  | 20 => ⟨S8x4x4096x128, .f32⟩
  | 21 => ⟨S8x8x4096x128, .f32⟩
  | 22 => ⟨S8x4x4096x128, .f32⟩
  | 23 => ⟨S8x8x4096x128, .f32⟩
  | 24 => ⟨S8, .f32⟩
  | 25 => ⟨S8x8x32x128x128, .f32⟩
  | 26 => ⟨S8x8x32x128x128, .f32⟩
  | 27 => ⟨S8x8x32x128x128, .f32⟩
  | 28 => ⟨S128, .f32⟩
  | 29 => ⟨S128x1, .f32⟩
  | 30 => ⟨S1x128, .f32⟩
  | 31 => ⟨S128x128, .f32⟩
  | 32 => ⟨S128x128, .f32⟩
  | 33 => ⟨S128x128, .f32⟩
  | 34 => ⟨S_, .f32⟩
  | 35 => ⟨S128x128, .f32⟩
  | 36 => ⟨S128x128, .i1⟩
  | 37 => ⟨S8x1x1, .f32⟩
  | 38 => ⟨S_, .f32⟩
  | 39 => ⟨S128x128, .f32⟩
  | 40 => ⟨S128x128, .f32⟩
  | 41 => ⟨S1x128x128, .f32⟩
  | 42 => ⟨S8x128x128, .f32⟩
  | 43 => ⟨S8x128x128, .f32⟩
  | 44 => ⟨S8x128x128, .f32⟩
  | 45 => ⟨S8x128x128, .f32⟩
  | 46 => ⟨S_, .f32⟩
  | 47 => ⟨S_, .f32⟩
  | 48 => ⟨S8x128x128, .i1⟩
  | 49 => ⟨S8x128x128, .f32⟩
  | 50 => ⟨S8x128x128, .f32⟩
  | 51 => ⟨S8x8x32x128x128, .f32⟩
  | 52 => ⟨S1x8x1x128x128, .f32⟩
  | 53 => ⟨S8x8x32x128x128, .f32⟩
  | 54 => ⟨S8x8x32x128x128, .f32⟩
  | 55 => ⟨S8x8x32x128x128, .f32⟩
  | 56 => ⟨S8x1, .f32⟩
  | 57 => ⟨S_, .f32⟩
  | 58 => ⟨S128, .f32⟩
  | 59 => ⟨S128, .f32⟩
  | 60 => ⟨S1x128, .f32⟩
  | 61 => ⟨S8x128, .f32⟩
  | 62 => ⟨S8x128, .f32⟩
  | 63 => ⟨S8x128, .f32⟩
  | 64 => ⟨S8x128, .f32⟩
  | 65 => ⟨S1x8x1x128x1, .f32⟩
  | 66 => ⟨S8x8x32x128x128, .f32⟩
  | 67 => ⟨S8x8x32x128x128, .f32⟩
  | 68 => ⟨S32x8x8x128x128, .f32⟩
  | 69 => ⟨S_, .f32⟩
  | 70 => ⟨S8, .f32⟩
  | 71 => ⟨S8, .f32⟩
  | 72 => ⟨S8, .f32⟩
  | 73 => ⟨S1x8x1x1, .f32⟩
  | 74 => ⟨S_, .f32⟩
  | 75 => ⟨S32x8x8x128x128, .f32⟩
  | 76 => ⟨S_, .i32⟩
  | 77 => ⟨S32x8x8x128x128, .f32⟩
  | 78 => ⟨S1x8x1x1, .f32⟩
  | 79 => ⟨S_, .i32⟩
  | 80 => ⟨S8x8x128x128, .f32⟩
  | 81 => ⟨S32x8x8x128x128, .f32⟩
  | 82 => ⟨S_, .i32⟩
  | 83 => ⟨S_, .i1⟩
  | 84 => ⟨S_, .i32⟩
  | 85 => ⟨S_, .i32⟩
  | 86 => ⟨S_, .i32⟩
  | 87 => ⟨S_, .i32⟩
  | 88 => ⟨S1x8x8x128x128, .f32⟩
  | 89 => ⟨S8x8x128x128, .f32⟩
  | 90 => ⟨S8x8x128x128, .f32⟩
  | 91 => ⟨S8x8x128x128, .f32⟩
  | 92 => ⟨S8x8x128x128, .f32⟩
  | 93 => ⟨S1x8x8x128x128, .f32⟩
  | 94 => ⟨S_, .i32⟩
  | 95 => ⟨S_, .i32⟩
  | 96 => ⟨S_, .i32⟩
  | 97 => ⟨S_, .i32⟩
  | 98 => ⟨S32x8x8x128x128, .f32⟩
  | 99 => ⟨S_, .i32⟩
  | 100 => ⟨S_, .i32⟩
  | 101 => ⟨S8x1, .f32⟩
  | 102 => ⟨S_, .f32⟩
  | 103 => ⟨S128, .f32⟩
  | 104 => ⟨S128, .f32⟩
  | 105 => ⟨S1x128, .f32⟩
  | 106 => ⟨S8x128, .f32⟩
  | 107 => ⟨S8x128, .f32⟩
  | 108 => ⟨S8x128, .f32⟩
  | 109 => ⟨S8x128, .f32⟩
  | 110 => ⟨S1x8x1x128x1, .f32⟩
  | 111 => ⟨S8x8x32x128x128, .f32⟩
  | 112 => ⟨S8x8x32x128x128, .f32⟩
  | 113 => ⟨S8x8x32x128x128, .f32⟩
  | 114 => ⟨S8x8x32x128x128, .f32⟩
  | 115 => ⟨S8x8x4096x128, .f32⟩
  | 116 => ⟨S8x4x4096x128, .f32⟩
  | 117 => ⟨S8x4x4096x128, .f32⟩
  | 118 => ⟨S8x4x4096x128, .f32⟩
  | 119 => ⟨S8x4x4096x128, .f32⟩
  | 120 => ⟨S_, .f32⟩
  | 121 => ⟨S8x4x4096, .f32⟩
  | 122 => ⟨S8x4x4096x1, .f32⟩
  | 123 => ⟨S_, .f32⟩
  | 124 => ⟨S8x4x4096x1, .f32⟩
  | 125 => ⟨S8x4x4096x1, .f32⟩
  | 126 => ⟨S8x4x4096x128, .f32⟩
  | 127 => ⟨S8x4x4096x128, .f32⟩
  | _ => ⟨S8x4096x2048, .bf16⟩

abbrev hbmTy0_1 (i : Nat) : BufTy := match i % 128 with
  | 0 => ⟨S8x4x4096x128, .f32⟩
  | 1 => ⟨S_, .f32⟩
  | 2 => ⟨S8x4x4096, .f32⟩
  | 3 => ⟨S8x4x4096x1, .f32⟩
  | 4 => ⟨S_, .f32⟩
  | 5 => ⟨S8x4x4096x1, .f32⟩
  | 6 => ⟨S8x4x4096x1, .f32⟩
  | 7 => ⟨S8x4x4096x128, .f32⟩
  | 8 => ⟨S8x4x4096x128, .f32⟩
  | 9 => ⟨S_, .f32⟩
  | 10 => ⟨S8x4x4096x1, .f32⟩
  | 11 => ⟨S8x4x4096x1, .f32⟩
  | 12 => ⟨S8x4x4096x1, .f32⟩
  | 13 => ⟨S8x4x4096x128, .f32⟩
  | 14 => ⟨S8x4x4096x128, .f32⟩
  | 15 => ⟨S8x4096x4x128, .f32⟩
  | 16 => ⟨S8x4096x512, .f32⟩
  | 17 => ⟨S512, .f32⟩
  | 18 => ⟨S1x1x512, .f32⟩
  | 19 => ⟨S8x4096x512, .f32⟩
  | 20 => ⟨S8x4096x512, .f32⟩
  | 21 => ⟨S8x4096x512, .f32⟩
  | 22 => ⟨S8x4096x512, .f32⟩
  | 23 => ⟨S8x4096x512, .bf16⟩
  | _ => ⟨S8x4096x2048, .bf16⟩

abbrev hbmTy (i : Nat) : BufTy := match i / 128 with
  | 0 => hbmTy0_0 i
  | 1 => hbmTy0_1 i
  | _ => ⟨S8x4096x2048, .bf16⟩

abbrev bufTy : (tb : Table) → Fin (tcTables nBuf tb) → BufTy
  | .hbm, ⟨i, _⟩ => hbmTy i
  | _, _ => ⟨S8x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_cst : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_0 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_cst_1 : Ref sig .tc := ⟨.hbm, 46, rfl⟩
abbrev main_call3_v0 : Ref sig .tc := ⟨.hbm, 47, rfl⟩
abbrev main_call3_v1 : Ref sig .tc := ⟨.hbm, 48, rfl⟩
abbrev main_call3_v2 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_2 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_cst_3 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_cst_4 : Ref sig .tc := ⟨.hbm, 74, rfl⟩
abbrev main_v62 : Ref sig .tc := ⟨.hbm, 75, rfl⟩
abbrev main_c : Ref sig .tc := ⟨.hbm, 76, rfl⟩
abbrev main_v63_0 : Ref sig .tc := ⟨.hbm, 77, rfl⟩
abbrev main_v63_1 : Ref sig .tc := ⟨.hbm, 78, rfl⟩
abbrev main_v63_2 : Ref sig .tc := ⟨.hbm, 79, rfl⟩
abbrev main_v63_3 : Ref sig .tc := ⟨.hbm, 80, rfl⟩
abbrev main_v63_4 : Ref sig .tc := ⟨.hbm, 81, rfl⟩
abbrev main_while0c_c_15 : Ref sig .tc := ⟨.hbm, 82, rfl⟩
abbrev main_while0c_v109 : Ref sig .tc := ⟨.hbm, 83, rfl⟩
abbrev main_while0b_call4_c : Ref sig .tc := ⟨.hbm, 84, rfl⟩
abbrev main_while0b_call4_c_0 : Ref sig .tc := ⟨.hbm, 85, rfl⟩
abbrev main_while0b_call4_c_1 : Ref sig .tc := ⟨.hbm, 86, rfl⟩
abbrev main_while0b_call4_c_2 : Ref sig .tc := ⟨.hbm, 87, rfl⟩
abbrev main_while0b_call4_v0 : Ref sig .tc := ⟨.hbm, 88, rfl⟩
abbrev main_while0b_v109 : Ref sig .tc := ⟨.hbm, 89, rfl⟩
abbrev main_while0b_v110 : Ref sig .tc := ⟨.hbm, 90, rfl⟩
abbrev main_while0b_v111 : Ref sig .tc := ⟨.hbm, 91, rfl⟩
abbrev main_while0b_v112 : Ref sig .tc := ⟨.hbm, 92, rfl⟩
abbrev main_while0b_call5_v0 : Ref sig .tc := ⟨.hbm, 93, rfl⟩
abbrev main_while0b_call5_c : Ref sig .tc := ⟨.hbm, 94, rfl⟩
abbrev main_while0b_call5_c_0 : Ref sig .tc := ⟨.hbm, 95, rfl⟩
abbrev main_while0b_call5_c_1 : Ref sig .tc := ⟨.hbm, 96, rfl⟩
abbrev main_while0b_call5_c_2 : Ref sig .tc := ⟨.hbm, 97, rfl⟩
abbrev main_while0b_v113 : Ref sig .tc := ⟨.hbm, 98, rfl⟩
abbrev main_while0b_c_15 : Ref sig .tc := ⟨.hbm, 99, rfl⟩
abbrev main_while0b_v114 : Ref sig .tc := ⟨.hbm, 100, rfl⟩
abbrev main_v64 : Ref sig .tc := ⟨.hbm, 101, rfl⟩
abbrev main_cst_5 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_6 : Ref sig .tc := ⟨.hbm, 120, rfl⟩
abbrev main_v82 : Ref sig .tc := ⟨.hbm, 121, rfl⟩
abbrev main_v83 : Ref sig .tc := ⟨.hbm, 122, rfl⟩
abbrev main_cst_7 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_8 : Ref sig .tc := ⟨.hbm, 129, rfl⟩
abbrev main_v89 : Ref sig .tc := ⟨.hbm, 130, rfl⟩
abbrev main_v90 : Ref sig .tc := ⟨.hbm, 131, rfl⟩
abbrev main_cst_9 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_10 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S8x4096x512 : Shape := ⟨3, ![8, 4096, 512]⟩
abbrev S8x4096x1024 : Shape := ⟨3, ![8, 4096, 1024]⟩
abbrev S8x6x1024 : Shape := ⟨3, ![8, 6, 1024]⟩
abbrev S1x512 : Shape := ⟨2, ![1, 512]⟩
abbrev S1x1024 : Shape := ⟨2, ![1, 1024]⟩
abbrev S1024 : Shape := ⟨1, ![1024]⟩
abbrev S1024x1024 : Shape := ⟨2, ![1024, 1024]⟩
abbrev S1024x5632 : Shape := ⟨2, ![1024, 5632]⟩
abbrev S2816x1024 : Shape := ⟨2, ![2816, 1024]⟩
abbrev S1x1024x512 : Shape := ⟨3, ![1, 1024, 512]⟩
abbrev S1x1024x1024 : Shape := ⟨3, ![1, 1024, 1024]⟩
abbrev S1x6x1024 : Shape := ⟨3, ![1, 6, 1024]⟩
abbrev S1x1x1024 : Shape := ⟨3, ![1, 1, 1024]⟩
abbrev S1x256x512 : Shape := ⟨3, ![1, 256, 512]⟩
abbrev S256x512 : Shape := ⟨2, ![256, 512]⟩
abbrev S256 : Shape := ⟨1, ![256]⟩
abbrev S256x1 : Shape := ⟨2, ![256, 1]⟩
abbrev S512x1024 : Shape := ⟨2, ![512, 1024]⟩
abbrev S256x1024 : Shape := ⟨2, ![256, 1024]⟩
abbrev S1x256x1024 : Shape := ⟨3, ![1, 256, 1024]⟩
abbrev S1024x1536 : Shape := ⟨2, ![1024, 1536]⟩
abbrev S256x1536 : Shape := ⟨2, ![256, 1536]⟩
abbrev S1536x1024 : Shape := ⟨2, ![1536, 1024]⟩
abbrev S1024x1280 : Shape := ⟨2, ![1024, 1280]⟩
abbrev S256x1280 : Shape := ⟨2, ![256, 1280]⟩
abbrev S1280x1024 : Shape := ⟨2, ![1280, 1024]⟩

abbrev nBuf : Space → Nat
  | .hbm => 14
  | .vmem => 16
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S8x4096x1024, .f32⟩
  | .hbm, ⟨3, _⟩ => ⟨S8x6x1024, .f32⟩
  | .hbm, ⟨4, _⟩ => ⟨S1x512, .f32⟩
  | .hbm, ⟨5, _⟩ => ⟨S1x1024, .f32⟩
  | .hbm, ⟨6, _⟩ => ⟨S1024, .f32⟩
  | .hbm, ⟨7, _⟩ => ⟨S1024x1024, .bf16⟩
  | .hbm, ⟨8, _⟩ => ⟨S1024x5632, .bf16⟩
  | .hbm, ⟨9, _⟩ => ⟨S2816x1024, .bf16⟩
  | .hbm, ⟨10, _⟩ => ⟨S1024, .f32⟩
  | .hbm, ⟨11, _⟩ => ⟨S1x1024, .f32⟩
  | .hbm, ⟨12, _⟩ => ⟨S1x1024, .f32⟩
  | .hbm, ⟨13, _⟩ => ⟨S8x4096x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x512, .f32⟩
  | .local _ .vmem, ⟨9, _⟩ => ⟨S1x1024, .f32⟩
  | .local _ .vmem, ⟨10, _⟩ => ⟨S1x1024, .f32⟩
  | .local _ .vmem, ⟨11, _⟩ => ⟨S1024x1024, .bf16⟩
  | .local _ .vmem, ⟨12, _⟩ => ⟨S1024x5632, .bf16⟩
  | .local _ .vmem, ⟨13, _⟩ => ⟨S2816x1024, .bf16⟩
  | .local _ .vmem, ⟨14, _⟩ => ⟨S1x1024x1024, .f32⟩
  | .local _ .vmem, ⟨15, _⟩ => ⟨S1x1024x1024, .f32⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S8x4096x512 : Shape := ⟨3, ![8, 4096, 512]⟩
abbrev S8x4096x1024 : Shape := ⟨3, ![8, 4096, 1024]⟩
abbrev S8x6x1024 : Shape := ⟨3, ![8, 6, 1024]⟩
abbrev S1x512 : Shape := ⟨2, ![1, 512]⟩
abbrev S1x1024 : Shape := ⟨2, ![1, 1024]⟩
abbrev S1024 : Shape := ⟨1, ![1024]⟩
abbrev S1024x1024 : Shape := ⟨2, ![1024, 1024]⟩
abbrev S1024x5632 : Shape := ⟨2, ![1024, 5632]⟩
abbrev S2816x1024 : Shape := ⟨2, ![2816, 1024]⟩
abbrev S8x6x1x1024 : Shape := ⟨4, ![8, 6, 1, 1024]⟩
abbrev S512 : Shape := ⟨1, ![512]⟩
abbrev S_ : Shape := ⟨0, ![]⟩
abbrev S8x4096 : Shape := ⟨2, ![8, 4096]⟩
abbrev S8x4096x1 : Shape := ⟨3, ![8, 4096, 1]⟩
abbrev S1x1x512 : Shape := ⟨3, ![1, 1, 512]⟩
abbrev S8x1x1x1024 : Shape := ⟨4, ![8, 1, 1, 1024]⟩
abbrev S8x1x1024 : Shape := ⟨3, ![8, 1, 1024]⟩
abbrev S1x1x1024 : Shape := ⟨3, ![1, 1, 1024]⟩
abbrev S8x4096x5632 : Shape := ⟨3, ![8, 4096, 5632]⟩
abbrev S8x4096x2816 : Shape := ⟨3, ![8, 4096, 2816]⟩

abbrev nBuf : Space → Nat
  | .hbm => 103
  | .vmem => 0
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S8x4096x1024, .f32⟩
  | .hbm, ⟨3, _⟩ => ⟨S8x6x1024, .f32⟩
  | .hbm, ⟨4, _⟩ => ⟨S1x512, .f32⟩
  | .hbm, ⟨5, _⟩ => ⟨S1x1024, .f32⟩
  | .hbm, ⟨6, _⟩ => ⟨S1024, .f32⟩
  | .hbm, ⟨7, _⟩ => ⟨S1024x1024, .bf16⟩
  | .hbm, ⟨8, _⟩ => ⟨S1024x5632, .bf16⟩
  | .hbm, ⟨9, _⟩ => ⟨S2816x1024, .bf16⟩
  | .hbm, ⟨10, _⟩ => ⟨S8x6x1x1024, .f32⟩
  | .hbm, ⟨11, _⟩ => ⟨S8x4096x512, .f32⟩
  | .hbm, ⟨12, _⟩ => ⟨S512, .f32⟩
  | .hbm, ⟨13, _⟩ => ⟨S8x4096x512, .f32⟩
  | .hbm, ⟨14, _⟩ => ⟨S_, .f32⟩
  | .hbm, ⟨15, _⟩ => ⟨S8x4096, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S8x4096x1, .f32⟩
  | .hbm, ⟨24, _⟩ => ⟨S8x4096x512, .f32⟩
  | .hbm, ⟨25, _⟩ => ⟨S8x4096x512, .f32⟩
  | .hbm, ⟨26, _⟩ => ⟨S1x1x512, .f32⟩
  | .hbm, ⟨27, _⟩ => ⟨S8x4096x512, .f32⟩
  | .hbm, ⟨28, _⟩ => ⟨S8x4096x512, .f32⟩
  | .hbm, ⟨29, _⟩ => ⟨S8x4096x512, .f32⟩
  | .hbm, ⟨30, _⟩ => ⟨S8x4096x1024, .f32⟩
  | .hbm, ⟨31, _⟩ => ⟨S1024x1024, .f32⟩
  | .hbm, ⟨32, _⟩ => ⟨S8x4096x1024, .f32⟩
  | .hbm, ⟨33, _⟩ => ⟨S8x1x1x1024, .f32⟩
  | .hbm, ⟨34, _⟩ => ⟨S8x1x1024, .f32⟩
  | .hbm, ⟨35, _⟩ => ⟨S8x4096x1024, .f32⟩
  | .hbm, ⟨36, _⟩ => ⟨S8x4096x1024, .f32⟩
  | .hbm, ⟨37, _⟩ => ⟨S8x4096x1024, .f32⟩
  | .hbm, ⟨38, _⟩ => ⟨S1024, .f32⟩
  | .hbm, ⟨39, _⟩ => ⟨S8x4096x1024, .f32⟩
  | .hbm, ⟨40, _⟩ => ⟨S_, .f32⟩
  | .hbm, ⟨41, _⟩ => ⟨S8x4096, .f32⟩
  | .hbm, ⟨42, _⟩ => ⟨S8x4096x1, .f32⟩
  | .hbm, ⟨43, _⟩ => ⟨S_, .f32⟩
  | .hbm, ⟨44, _⟩ => ⟨S8x4096x1, .f32⟩
  | .hbm, ⟨45, _⟩ => ⟨S8x4096x1, .f32⟩
  | .hbm, ⟨46, _⟩ => ⟨S_, .f32⟩
  | .hbm, ⟨47, _⟩ => ⟨S8x4096x1, .f32⟩
  | .hbm, ⟨48, _⟩ => ⟨S8x4096x1, .f32⟩
  | .hbm, ⟨49, _⟩ => ⟨S8x4096x1, .f32⟩
  | .hbm, ⟨50, _⟩ => ⟨S8x4096x1024, .f32⟩
  | .hbm, ⟨51, _⟩ => ⟨S8x4096x1024, .f32⟩
  | .hbm, ⟨52, _⟩ => ⟨S1x1x1024, .f32⟩
  | .hbm, ⟨53, _⟩ => ⟨S8x4096x1024, .f32⟩
  | .hbm, ⟨54, _⟩ => ⟨S8x4096x1024, .f32⟩
  | .hbm, ⟨55, _⟩ => ⟨S8x1x1x1024, .f32⟩
  | .hbm, ⟨56, _⟩ => ⟨S8x1x1024, .f32⟩
  | .hbm, ⟨57, _⟩ => ⟨S8x1x1x1024, .f32⟩
  | .hbm, ⟨58, _⟩ => ⟨S8x1x1024, .f32⟩
  | .hbm, ⟨59, _⟩ => ⟨S_, .f32⟩
  | .hbm, ⟨60, _⟩ => ⟨S8x1x1024, .f32⟩
  | .hbm, ⟨61, _⟩ => ⟨S8x1x1024, .f32⟩
  | .hbm, ⟨62, _⟩ => ⟨S8x4096x1024, .f32⟩
  | .hbm, ⟨63, _⟩ => ⟨S8x4096x1024, .f32⟩
  | .hbm, ⟨64, _⟩ => ⟨S8x4096x1024, .f32⟩
  | .hbm, ⟨65, _⟩ => ⟨S8x4096x1024, .f32⟩
  | .hbm, ⟨66, _⟩ => ⟨S1024x5632, .f32⟩
  | .hbm, ⟨67, _⟩ => ⟨S8x4096x5632, .f32⟩
  | .hbm, ⟨68, _⟩ => ⟨S8x1x1x1024, .f32⟩
  | .hbm, ⟨69, _⟩ => ⟨S8x1x1024, .f32⟩
  | .hbm, ⟨70, _⟩ => ⟨S8x4096x2816, .f32⟩
  | .hbm, ⟨71, _⟩ => ⟨S8x4096x2816, .f32⟩
  | .hbm, ⟨72, _⟩ => ⟨S8x4096x2816, .f32⟩
  | .hbm, ⟨73, _⟩ => ⟨S_, .f32⟩
  | .hbm, ⟨74, _⟩ => ⟨S8x4096x2816, .f32⟩
  | .hbm, ⟨75, _⟩ => ⟨S8x4096x2816, .f32⟩
  | .hbm, ⟨76, _⟩ => ⟨S_, .f32⟩
  | .hbm, ⟨77, _⟩ => ⟨S8x4096x2816, .f32⟩
  | .hbm, ⟨78, _⟩ => ⟨S8x4096x2816, .f32⟩
  | .hbm, ⟨79, _⟩ => ⟨S8x4096x2816, .f32⟩
  | .hbm, ⟨80, _⟩ => ⟨S8x4096x2816, .f32⟩
  | .hbm, ⟨81, _⟩ => ⟨S8x4096x2816, .f32⟩
  | .hbm, ⟨82, _⟩ => ⟨S2816x1024, .f32⟩
  | .hbm, ⟨83, _⟩ => ⟨S8x4096x1024, .f32⟩
  | .hbm, ⟨84, _⟩ => ⟨S8x4096x1024, .f32⟩
  | .hbm, ⟨85, _⟩ => ⟨S8x4096x1024, .f32⟩
  | .hbm, ⟨86, _⟩ => ⟨S8x4096x1024, .f32⟩
  | .hbm, ⟨87, _⟩ => ⟨S8x4096x1024, .f32⟩
  | .hbm, ⟨88, _⟩ => ⟨S_, .f32⟩
  | .hbm, ⟨89, _⟩ => ⟨S8x4096, .f32⟩
  | .hbm, ⟨90, _⟩ => ⟨S8x4096x1, .f32⟩
  | .hbm, ⟨91, _⟩ => ⟨S_, .f32⟩
  | .hbm, ⟨92, _⟩ => ⟨S8x4096x1, .f32⟩
  | .hbm, ⟨93, _⟩ => ⟨S8x4096x1, .f32⟩
  | .hbm, ⟨94, _⟩ => ⟨S_, .f32⟩
  | .hbm, ⟨95, _⟩ => ⟨S8x4096x1, .f32⟩
  | .hbm, ⟨96, _⟩ => ⟨S8x4096x1, .f32⟩
  | .hbm, ⟨97, _⟩ => ⟨S8x4096x1, .f32⟩
  | .hbm, ⟨98, _⟩ => ⟨S8x4096x1024, .f32⟩
  | .hbm, ⟨99, _⟩ => ⟨S8x4096x1024, .f32⟩
  | .hbm, ⟨100, _⟩ => ⟨S1x1x1024, .f32⟩
  | .hbm, ⟨101, _⟩ => ⟨S8x4096x1024, .f32⟩
  | .hbm, ⟨102, _⟩ => ⟨S8x4096x1024, .f32⟩
  | _, _ => ⟨S8x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_5 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_call0_v0 : Ref sig .tc := ⟨.hbm, 71, rfl⟩
abbrev main_call0_v1 : Ref sig .tc := ⟨.hbm, 72, rfl⟩
abbrev main_call0_cst : Ref sig .tc := ⟨.hbm, 73, rfl⟩
abbrev main_call0_v2 : Ref sig .tc := ⟨.hbm, 74, rfl⟩
abbrev main_call0_v3 : Ref sig .tc := ⟨.hbm, 75, rfl⟩
abbrev main_call0_cst_0 : Ref sig .tc := ⟨.hbm, 76, rfl⟩
abbrev main_call0_v4 : Ref sig .tc := ⟨.hbm, 77, rfl⟩
abbrev main_call0_v5 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_6 : Ref sig .tc := ⟨.hbm, 88, rfl⟩
abbrev main_v63 : Ref sig .tc := ⟨.hbm, 89, rfl⟩
abbrev main_v64 : Ref sig .tc := ⟨.hbm, 90, rfl⟩
abbrev main_cst_7 : Ref sig .tc := ⟨.hbm, 91, rfl⟩
abbrev main_v65 : Ref sig .tc := ⟨.hbm, 92, rfl⟩
abbrev main_v66 : Ref sig .tc := ⟨.hbm, 93, rfl⟩
abbrev main_cst_8 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x6x1024 : Shape := ⟨3, ![8, 6, 1024]⟩
abbrev S1x1024 : Shape := ⟨2, ![1, 1024]⟩
abbrev S1024x3584 : Shape := ⟨2, ![1024, 3584]⟩
abbrev S4096x64 : Shape := ⟨2, ![4096, 64]⟩
abbrev S1x3x1536 : Shape := ⟨3, ![1, 3, 1536]⟩
abbrev S1x1536 : Shape := ⟨2, ![1, 1536]⟩
abbrev S4096x128 : Shape := ⟨2, ![4096, 128]⟩
abbrev S_ : Shape := ⟨0, ![]⟩
abbrev S1024 : Shape := ⟨1, ![1024]⟩
abbrev S3x1536 : Shape := ⟨2, ![3, 1536]⟩
abbrev S8x4096x2048 : Shape := ⟨3, ![8, 4096, 2048]⟩
abbrev S8x4096x512 : Shape := ⟨3, ![8, 4096, 512]⟩
abbrev S1x1024x1024 : Shape := ⟨3, ![1, 1024, 1024]⟩
abbrev S1x16x1024 : Shape := ⟨3, ![1, 16, 1024]⟩
abbrev S1x6x1024 : Shape := ⟨3, ![1, 6, 1024]⟩
abbrev S1024x128 : Shape := ⟨2, ![1024, 128]⟩
abbrev S1x1024x2048 : Shape := ⟨3, ![1, 1024, 2048]⟩
abbrev S1x1024x512 : Shape := ⟨3, ![1, 1024, 512]⟩
abbrev S1x1x1024 : Shape := ⟨3, ![1, 1, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S16x1024 : Shape := ⟨2, ![16, 1024]⟩
abbrev S16 : Shape := ⟨1, ![16]⟩
abbrev S16x1 : Shape := ⟨2, ![16, 1]⟩
abbrev S272x1024 : Shape := ⟨2, ![272, 1024]⟩
abbrev S1024x512 : Shape := ⟨2, ![1024, 512]⟩
abbrev S256x512 : Shape := ⟨2, ![256, 512]⟩
abbrev S256x128 : Shape := ⟨2, ![256, 128]⟩
abbrev S1x256x128 : Shape := ⟨3, ![1, 256, 128]⟩
abbrev S1024x256 : Shape := ⟨2, ![1024, 256]⟩
abbrev S272x256 : Shape := ⟨2, ![272, 256]⟩
abbrev S256x256 : Shape := ⟨2, ![256, 256]⟩
abbrev S16x256 : Shape := ⟨2, ![16, 256]⟩
abbrev S1056x256 : Shape := ⟨2, ![1056, 256]⟩
abbrev S1x256 : Shape := ⟨2, ![1, 256]⟩
abbrev S1x1024x256 : Shape := ⟨3, ![1, 1024, 256]⟩
abbrev S1x256x512 : Shape := ⟨3, ![1, 256, 512]⟩

abbrev nBuf : Space → Nat
  | .hbm => 23
  | .vmem => 26
  | .smem => 0
  | _ => 0

abbrev bufTy : (tb : Table) → Fin (tcTables nBuf tb) → BufTy
  | .hbm, ⟨0, _⟩ => ⟨S8x4096x1024, .f32⟩
  | .hbm, ⟨1, _⟩ => ⟨S8x6x1024, .f32⟩
  | .hbm, ⟨2, _⟩ => ⟨S1x1024, .f32⟩
  | .hbm, ⟨3, _⟩ => ⟨S1024x3584, .bf16⟩
  | .hbm, ⟨4, _⟩ => ⟨S4096x64, .f32⟩
  | .hbm, ⟨5, _⟩ => ⟨S4096x64, .f32⟩
  | .hbm, ⟨6, _⟩ => ⟨S1x3x1536, .f32⟩
  | .hbm, ⟨7, _⟩ => ⟨S1x1536, .f32⟩
  | .hbm, ⟨8, _⟩ => ⟨S4096x128, .f32⟩
  | .hbm, ⟨9, _⟩ => ⟨S4096x64, .f32⟩
  | .hbm, ⟨10, _⟩ => ⟨S4096x128, .f32⟩
  | .hbm, ⟨11, _⟩ => ⟨S_, .f32⟩
  | .hbm, ⟨12, _⟩ => ⟨S4096x128, .f32⟩
  | .hbm, ⟨13, _⟩ => ⟨S4096x128, .f32⟩
  | .hbm, ⟨14, _⟩ => ⟨S_, .f32⟩
  | .hbm, ⟨15, _⟩ => ⟨S4096x128, .f32⟩
  | .hbm, ⟨16, _⟩ => ⟨S4096x128, .f32⟩
  | .hbm, ⟨17, _⟩ => ⟨S1024, .f32⟩
  | .hbm, ⟨18, _⟩ => ⟨S1x1024, .f32⟩
  | .hbm, ⟨19, _⟩ => ⟨S3x1536, .f32⟩
  | .hbm, ⟨20, _⟩ => ⟨S8x4096x2048, .bf16⟩
  | .hbm, ⟨21, _⟩ => ⟨S8x4096x512, .bf16⟩
  | .hbm, ⟨22, _⟩ => ⟨S8x4096x512, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x1024, .f32⟩
  | .local _ .vmem, ⟨9, _⟩ => ⟨S1024x3584, .bf16⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S3x1536, .f32⟩
  | .local _ .vmem, ⟨19, _⟩ => ⟨S1x1536, .f32⟩
  | .local _ .vmem, ⟨20, _⟩ => ⟨S1x1024x2048, .bf16⟩
  | .local _ .vmem, ⟨21, _⟩ => ⟨S1x1024x2048, .bf16⟩
  | .local _ .vmem, ⟨22, _⟩ => ⟨S1x1024x512, .bf16⟩
  | .local _ .vmem, ⟨23, _⟩ => ⟨S1x1024x512, .bf16⟩
  | .local _ .vmem, ⟨24, _⟩ => ⟨S1x1024x512, .bf16⟩
  | .local _ .vmem, ⟨25, _⟩ => ⟨S1x1024x512, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S3x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1536 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1024x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference3Ideal.lean ====
abbrev S8x4096x1024 : Shape := ⟨3, ![8, 4096, 1024]⟩
abbrev S8x6x1024 : Shape := ⟨3, ![8, 6, 1024]⟩
abbrev S1x1024 : Shape := ⟨2, ![1, 1024]⟩
abbrev S1024x3584 : Shape := ⟨2, ![1024, 3584]⟩
abbrev S4096x64 : Shape := ⟨2, ![4096, 64]⟩
abbrev S1x3x1536 : Shape := ⟨3, ![1, 3, 1536]⟩
abbrev S1x1536 : Shape := ⟨2, ![1, 1536]⟩
abbrev S8x6x1x1024 : Shape := ⟨4, ![8, 6, 1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1x1024 : Shape := ⟨4, ![8, 1, 1, 1024]⟩
abbrev S8x1x1024 : Shape := ⟨3, ![8, 1, 1024]⟩
abbrev S8x4096x3584 : Shape := ⟨3, ![8, 4096, 3584]⟩
abbrev S8x4096x512 : Shape := ⟨3, ![8, 4096, 512]⟩
abbrev S8x4096x4x128 : Shape := ⟨4, ![8, 4096, 4, 128]⟩
abbrev S8x4x4096x128 : Shape := ⟨4, ![8, 4, 4096, 128]⟩
abbrev S8x4x4096x64 : Shape := ⟨4, ![8, 4, 4096, 64]⟩
abbrev S1x1x4096x64 : Shape := ⟨4, ![1, 1, 4096, 64]⟩
abbrev S8x4096x2048 : Shape := ⟨3, ![8, 4096, 2048]⟩
abbrev S8x4096x1536 : Shape := ⟨3, ![8, 4096, 1536]⟩
abbrev S3x1536 : Shape := ⟨2, ![3, 1536]⟩
abbrev S1536 : Shape := ⟨1, ![1536]⟩
abbrev S8x4098x1536 : Shape := ⟨3, ![8, 4098, 1536]⟩
abbrev S1x1x1536 : Shape := ⟨3, ![1, 1, 1536]⟩

abbrev nBuf : Space → Nat
  | .hbm => 134
  | .vmem => 0
  | .smem => 0
  | _ => 0

abbrev hbmTy0_0 (i : Nat) : BufTy := match i % 128 with
  | 0 => ⟨S8x4096x1024, .f32⟩
  | 1 => ⟨S8x6x1024, .f32⟩
  | 2 => ⟨S1x1024, .f32⟩
  | 3 => ⟨S1024x3584, .bf16⟩
  | 4 => ⟨S4096x64, .f32⟩
  | 5 => ⟨S4096x64, .f32⟩
  | 6 => ⟨S1x3x1536, .f32⟩
  | 7 => ⟨S1x1536, .f32⟩
  | 8 => ⟨S8x6x1x1024, .f32⟩
  | 9 => ⟨S1024, .f32⟩
  | 10 => ⟨S8x4096x1024, .f32⟩
  | 11 => ⟨S_, .f32⟩
  | 12 => ⟨S8x4096, .f32⟩
  | 13 => ⟨S8x4096x1, .f32⟩
  | 14 => ⟨S_, .f32⟩
  | 15 => ⟨S8x4096x1, .f32⟩
  | 16 => ⟨S8x4096x1, .f32⟩
  | 17 => ⟨S_, .f32⟩
  | 18 => ⟨S8x4096x1, .f32⟩
  | 19 => ⟨S8x4096x1, .f32⟩
  | 20 => ⟨S8x4096x1, .f32⟩
  | 21 => ⟨S8x4096x1024, .f32⟩
  | 22 => ⟨S8x4096x1024, .f32⟩
  | 23 => ⟨S1x1x1024, .f32⟩
  | 24 => ⟨S8x4096x1024, .f32⟩
  | 25 => ⟨S8x4096x1024, .f32⟩
  | 26 => ⟨S8x1x1x1024, .f32⟩
  | 27 => ⟨S8x1x1024, .f32⟩
  | 28 => ⟨S8x1x1x1024, .f32⟩
  | 29 => ⟨S8x1x1024, .f32⟩
  | 30 => ⟨S_, .f32⟩
  | 31 => ⟨S8x1x1024, .f32⟩
  | 32 => ⟨S8x1x1024, .f32⟩
  | 33 => ⟨S8x4096x1024, .f32⟩
  | 34 => ⟨S8x4096x1024, .f32⟩
  | 35 => ⟨S8x4096x1024, .f32⟩
  | 36 => ⟨S8x4096x1024, .f32⟩
  | 37 => ⟨S1024x3584, .f32⟩
  | 38 => ⟨S8x4096x3584, .f32⟩
  | 39 => ⟨S8x4096x512, .f32⟩
  | 40 => ⟨S8x4096x4x128, .f32⟩
  | 41 => ⟨S8x4x4096x128, .f32⟩
  | 42 => ⟨S8x4x4096x64, .f32⟩
  | 43 => ⟨S8x4x4096x64, .f32⟩
  | 44 => ⟨S1x1x4096x64, .f32⟩
  | 45 => ⟨S8x4x4096x64, .f32⟩
  | 46 => ⟨S8x4x4096x64, .f32⟩
  | 47 => ⟨S1x1x4096x64, .f32⟩
  | 48 => ⟨S8x4x4096x64, .f32⟩
  | 49 => ⟨S8x4x4096x64, .f32⟩
  | 50 => ⟨S8x4x4096x64, .f32⟩
  | 51 => ⟨S1x1x4096x64, .f32⟩
  | 52 => ⟨S8x4x4096x64, .f32⟩
  | 53 => ⟨S8x4x4096x64, .f32⟩
  | 54 => ⟨S1x1x4096x64, .f32⟩
  | 55 => ⟨S8x4x4096x64, .f32⟩
  | 56 => ⟨S8x4x4096x64, .f32⟩
  | 57 => ⟨S8x4x4096x64, .f32⟩
  | 58 => ⟨S8x4x4096x128, .f32⟩
  | 59 => ⟨S8x4096x512, .f32⟩
  | 60 => ⟨S8x4096x4x128, .f32⟩
  | 61 => ⟨S8x4x4096x128, .f32⟩
  | 62 => ⟨S8x4x4096x64, .f32⟩
  | 63 => ⟨S8x4x4096x64, .f32⟩
  | 64 => ⟨S1x1x4096x64, .f32⟩
  | 65 => ⟨S8x4x4096x64, .f32⟩
  | 66 => ⟨S8x4x4096x64, .f32⟩
  | 67 => ⟨S1x1x4096x64, .f32⟩
  | 68 => ⟨S8x4x4096x64, .f32⟩
  | 69 => ⟨S8x4x4096x64, .f32⟩
  | 70 => ⟨S8x4x4096x64, .f32⟩
  | 71 => ⟨S1x1x4096x64, .f32⟩
  | 72 => ⟨S8x4x4096x64, .f32⟩
  | 73 => ⟨S8x4x4096x64, .f32⟩
  | 74 => ⟨S1x1x4096x64, .f32⟩
  | 75 => ⟨S8x4x4096x64, .f32⟩
  | 76 => ⟨S8x4x4096x64, .f32⟩
  | 77 => ⟨S8x4x4096x64, .f32⟩
  | 78 => ⟨S8x4x4096x128, .f32⟩
  | 79 => ⟨S_, .f32⟩
  | 80 => ⟨S8x4x4096x128, .f32⟩
  | 81 => ⟨S8x4x4096x128, .f32⟩
  | 82 => ⟨S8x4096x512, .f32⟩
  | 83 => ⟨S8x4096x512, .f32⟩
  | 84 => ⟨S8x4096x512, .f32⟩
  | 85 => ⟨S8x4096x512, .f32⟩
  | 86 => ⟨S_, .f32⟩
  | 87 => ⟨S8x4096x512, .f32⟩
  | 88 => ⟨S8x4096x512, .f32⟩
  | 89 => ⟨S_, .f32⟩
  | 90 => ⟨S8x4096x512, .f32⟩
  | 91 => ⟨S8x4096x512, .f32⟩
  | 92 => ⟨S8x4096x512, .f32⟩
  | 93 => ⟨S8x4096x4x128, .f32⟩
  | 94 => ⟨S8x4096x512, .f32⟩
  | 95 => ⟨S8x4096x4x128, .f32⟩
  | 96 => ⟨S8x4096x512, .f32⟩
  | 97 => ⟨S8x4096x2048, .f32⟩
  | 98 => ⟨S8x4096x1536, .f32⟩
  | 99 => ⟨S3x1536, .f32⟩
  | 100 => ⟨S1536, .f32⟩
  | 101 => ⟨S_, .i32⟩
  | 102 => ⟨S_, .f32⟩
  | 103 => ⟨S8x4098x1536, .f32⟩
  | 104 => ⟨S8x4096x1536, .f32⟩
  | 105 => ⟨S1x1536, .f32⟩
  | 106 => ⟨S1536, .f32⟩
  | 107 => ⟨S1x1x1536, .f32⟩
  | 108 => ⟨S8x4096x1536, .f32⟩
  | 109 => ⟨S8x4096x1536, .f32⟩
  | 110 => ⟨S8x4096x1536, .f32⟩
  | 111 => ⟨S1x1536, .f32⟩
  | 112 => ⟨S1536, .f32⟩
  | 113 => ⟨S1x1x1536, .f32⟩
  | 114 => ⟨S8x4096x1536, .f32⟩
  | 115 => ⟨S8x4096x1536, .f32⟩
  | 116 => ⟨S8x4096x1536, .f32⟩
  | 117 => ⟨S8x4096x1536, .f32⟩
  | 118 => ⟨S1x1536, .f32⟩
  | 119 => ⟨S1536, .f32⟩
  | 120 => ⟨S1x1x1536, .f32⟩
  | 121 => ⟨S8x4096x1536, .f32⟩
  | 122 => ⟨S8x4096x1536, .f32⟩
  | 123 => ⟨S8x4096x1536, .f32⟩
  | 124 => ⟨S1x1x1536, .f32⟩
  | 125 => ⟨S8x4096x1536, .f32⟩
  | 126 => ⟨S8x4096x1536, .f32⟩
  | 127 => ⟨S8x4096x512, .f32⟩
  | _ => ⟨S8x4096x1024, .f32⟩

abbrev hbmTy0_1 (i : Nat) : BufTy := match i % 128 with
  | 0 => ⟨S8x4096x512, .f32⟩
  | 1 => ⟨S8x4096x512, .f32⟩
  | 2 => ⟨S8x4096x2048, .bf16⟩
  | 3 => ⟨S8x4096x512, .bf16⟩
  | 4 => ⟨S8x4096x512, .f32⟩
  | 5 => ⟨S8x4096x512, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_cst_3 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_call0_v0 : Ref sig .tc := ⟨.hbm, 84, rfl⟩
abbrev main_call0_v1 : Ref sig .tc := ⟨.hbm, 85, rfl⟩
abbrev main_call0_cst : Ref sig .tc := ⟨.hbm, 86, rfl⟩
abbrev main_call0_v2 : Ref sig .tc := ⟨.hbm, 87, rfl⟩
abbrev main_call0_v3 : Ref sig .tc := ⟨.hbm, 88, rfl⟩
abbrev main_call0_cst_0 : Ref sig .tc := ⟨.hbm, 89, rfl⟩
abbrev main_call0_v4 : Ref sig .tc := ⟨.hbm, 90, rfl⟩
abbrev main_call0_v5 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_c : Ref sig .tc := ⟨.hbm, 101, rfl⟩
abbrev main_call1_v0 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩

abbrev nD : Nat := 1
abbrev τ : Topo := Topo.v7x

variable {F : FTy → Type} [FloatOps F]
-- ==== Kernel4.lean ====
abbrev S8x256x1024 : Shape := ⟨3, ![8, 256, 1024]⟩
abbrev S1x1024 : Shape := ⟨2, ![1, 1024]⟩
abbrev S6x1024 : Shape := ⟨2, ![6, 1024]⟩
abbrev S1024x3584 : Shape := ⟨2, ![1024, 3584]⟩
abbrev S1x2x4 : Shape := ⟨3, ![1, 2, 4]⟩
abbrev S2x4 : Shape := ⟨2, ![2, 4]⟩
abbrev S8x1 : Shape := ⟨2, ![8, 1]⟩
abbrev S8x128 : Shape := ⟨2, ![8, 128]⟩
abbrev S1024 : Shape := ⟨1, ![1024]⟩
abbrev S8x8x128x128 : Shape := ⟨4, ![8, 8, 128, 128]⟩
abbrev S4x256x1024 : Shape := ⟨3, ![4, 256, 1024]⟩
abbrev S1024x512 : Shape := ⟨2, ![1024, 512]⟩
abbrev S4x8x128x128 : Shape := ⟨4, ![4, 8, 128, 128]⟩
abbrev S1024x1024 : Shape := ⟨2, ![1024, 1024]⟩
abbrev S1024x1 : Shape := ⟨2, ![1024, 1]⟩
abbrev S256x128 : Shape := ⟨2, ![256, 128]⟩
abbrev S1x128 : Shape := ⟨2, ![1, 128]⟩
abbrev S128x128 : Shape := ⟨2, ![128, 128]⟩
abbrev S1x1x128x128 : Shape := ⟨4, ![1, 1, 128, 128]⟩

abbrev nBuf : Space → Nat
  | .hbm => 13
  | .vmem => 10
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S6x1024, .f32⟩
  | .hbm, ⟨3, _⟩ => ⟨S1024x3584, .bf16⟩
  | .hbm, ⟨4, _⟩ => ⟨S1x2x4, .f32⟩
  | .hbm, ⟨5, _⟩ => ⟨S2x4, .f32⟩
  | .hbm, ⟨6, _⟩ => ⟨S8x1, .f32⟩
  | .hbm, ⟨7, _⟩ => ⟨S8x128, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S8x8x128x128, .f32⟩
  | .local _ .vmem, ⟨0, _⟩ => ⟨S4x256x1024, .f32⟩
  | .local _ .vmem, ⟨1, _⟩ => ⟨S4x256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x512, .bf16⟩
  | .local _ .vmem, ⟨6, _⟩ => ⟨S1024x512, .bf16⟩
  | .local _ .vmem, ⟨7, _⟩ => ⟨S8x128, .f32⟩
  | .local _ .vmem, ⟨8, _⟩ => ⟨S4x8x128x128, .f32⟩
  | .local _ .vmem, ⟨9, _⟩ => ⟨S4x8x128x128, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_5 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4x8x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S8x256x1024 : Shape := ⟨3, ![8, 256, 1024]⟩
abbrev S1x1024 : Shape := ⟨2, ![1, 1024]⟩
abbrev S6x1024 : Shape := ⟨2, ![6, 1024]⟩
abbrev S1024x3584 : Shape := ⟨2, ![1024, 3584]⟩
abbrev S1x2x4 : Shape := ⟨3, ![1, 2, 4]⟩
abbrev S2x4 : Shape := ⟨2, ![2, 4]⟩
abbrev S1024 : Shape := ⟨1, ![1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S1024x1024 : Shape := ⟨2, ![1024, 1024]⟩
abbrev S8x256x512 : Shape := ⟨3, ![8, 256, 512]⟩
abbrev S8x256x4x128 : Shape := ⟨4, ![8, 256, 4, 128]⟩
abbrev S8x4x256x128 : Shape := ⟨4, ![8, 4, 256, 128]⟩
abbrev S1x4 : Shape := ⟨2, ![1, 4]⟩
abbrev S4 : Shape := ⟨1, ![4]⟩
abbrev S4x1 : Shape := ⟨2, ![4, 1]⟩
abbrev S256 : Shape := ⟨1, ![256]⟩
abbrev S1x256 : Shape := ⟨2, ![1, 256]⟩
abbrev S4x256 : Shape := ⟨2, ![4, 256]⟩
abbrev S1x4x256x1 : Shape := ⟨4, ![1, 4, 256, 1]⟩
abbrev S8x4x128x128 : Shape := ⟨4, ![8, 4, 128, 128]⟩
abbrev S8x8x128x128 : Shape := ⟨4, ![8, 8, 128, 128]⟩

abbrev nBuf : Space → Nat
  | .hbm => 86
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S6x1024, .f32⟩
  | .hbm, ⟨3, _⟩ => ⟨S1024x3584, .bf16⟩
  | .hbm, ⟨4, _⟩ => ⟨S1x2x4, .f32⟩
  | .hbm, ⟨5, _⟩ => ⟨S2x4, .f32⟩
  | .hbm, ⟨6, _⟩ => ⟨S2x4, .f32⟩
  | .hbm, ⟨7, _⟩ => ⟨S2x4, .f32⟩
  | .hbm, ⟨8, _⟩ => ⟨S2x4, .f32⟩
  | .hbm, ⟨9, _⟩ => ⟨S1024, .f32⟩
  | .hbm, ⟨10, _⟩ => ⟨S8x256x1024, .f32⟩
  | .hbm, ⟨11, _⟩ => ⟨S_, .f32⟩
  | .hbm, ⟨12, _⟩ => ⟨S8x256, .f32⟩
  | .hbm, ⟨13, _⟩ => ⟨S8x256x1, .f32⟩
  | .hbm, ⟨14, _⟩ => ⟨S_, .f32⟩
  | .hbm, ⟨15, _⟩ => ⟨S8x256x1, .f32⟩
  | .hbm, ⟨16, _⟩ => ⟨S8x256x1, .f32⟩
  | .hbm, ⟨17, _⟩ => ⟨S_, .f32⟩
  | .hbm, ⟨18, _⟩ => ⟨S8x256x1, .f32⟩
  | .hbm, ⟨19, _⟩ => ⟨S8x256x1, .f32⟩
  | .hbm, ⟨20, _⟩ => ⟨S8x256x1, .f32⟩
  | .hbm, ⟨21, _⟩ => ⟨S8x256x1024, .f32⟩
  | .hbm, ⟨22, _⟩ => ⟨S8x256x1024, .f32⟩
  | .hbm, ⟨23, _⟩ => ⟨S1x1x1024, .f32⟩
  | .hbm, ⟨24, _⟩ => ⟨S8x256x1024, .f32⟩
  | .hbm, ⟨25, _⟩ => ⟨S8x256x1024, .f32⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1x1x1024, .f32⟩
  | .hbm, ⟨34, _⟩ => ⟨S8x256x1024, .f32⟩
  | .hbm, ⟨35, _⟩ => ⟨S8x256x1024, .f32⟩
  | .hbm, ⟨36, _⟩ => ⟨S1x1x1024, .f32⟩
  | .hbm, ⟨37, _⟩ => ⟨S8x256x1024, .f32⟩
  | .hbm, ⟨38, _⟩ => ⟨S8x256x1024, .f32⟩
  | .hbm, ⟨39, _⟩ => ⟨S1024x3584, .f32⟩
  | .hbm, ⟨40, _⟩ => ⟨S1024x1024, .f32⟩
  | .hbm, ⟨41, _⟩ => ⟨S8x256x1024, .f32⟩
  | .hbm, ⟨42, _⟩ => ⟨S8x256x512, .f32⟩
  | .hbm, ⟨43, _⟩ => ⟨S8x256x4x128, .f32⟩
  | .hbm, ⟨44, _⟩ => ⟨S8x4x256x128, .f32⟩
  | .hbm, ⟨45, _⟩ => ⟨S_, .f32⟩
  | .hbm, ⟨46, _⟩ => ⟨S8x4x256x128, .f32⟩
  | .hbm, ⟨47, _⟩ => ⟨S8x4x256x128, .f32⟩
  | .hbm, ⟨48, _⟩ => ⟨S8x256x512, .f32⟩
  | .hbm, ⟨49, _⟩ => ⟨S8x256x4x128, .f32⟩
  | .hbm, ⟨50, _⟩ => ⟨S8x4x256x128, .f32⟩
  | .hbm, ⟨51, _⟩ => ⟨S1x4, .f32⟩
  | .hbm, ⟨52, _⟩ => ⟨S4, .f32⟩
  | .hbm, ⟨53, _⟩ => ⟨S4x1, .f32⟩
  | .hbm, ⟨54, _⟩ => ⟨S256, .f32⟩
  | .hbm, ⟨55, _⟩ => ⟨S_, .f32⟩
  | .hbm, ⟨56, _⟩ => ⟨S256, .f32⟩
  | .hbm, ⟨57, _⟩ => ⟨S256, .f32⟩
  | .hbm, ⟨58, _⟩ => ⟨S1x256, .f32⟩
  | .hbm, ⟨59, _⟩ => ⟨S4x256, .f32⟩
  | .hbm, ⟨60, _⟩ => ⟨S4x256, .f32⟩
  | .hbm, ⟨61, _⟩ => ⟨S4x256, .f32⟩
  | .hbm, ⟨62, _⟩ => ⟨S4x256, .f32⟩
  | .hbm, ⟨63, _⟩ => ⟨S1x4x256x1, .f32⟩
  | .hbm, ⟨64, _⟩ => ⟨S8x4x256x128, .f32⟩
  | .hbm, ⟨65, _⟩ => ⟨S8x4x256x128, .f32⟩
  | .hbm, ⟨66, _⟩ => ⟨S8x4x128x128, .f32⟩
  | .hbm, ⟨67, _⟩ => ⟨S8x4x256x128, .f32⟩
  | .hbm, ⟨68, _⟩ => ⟨S8x4x256x128, .f32⟩
  | .hbm, ⟨69, _⟩ => ⟨S1x4, .f32⟩
  | .hbm, ⟨70, _⟩ => ⟨S4, .f32⟩
  | .hbm, ⟨71, _⟩ => ⟨S4x1, .f32⟩
  | .hbm, ⟨72, _⟩ => ⟨S256, .f32⟩
  | .hbm, ⟨73, _⟩ => ⟨S_, .f32⟩
  | .hbm, ⟨74, _⟩ => ⟨S256, .f32⟩
  | .hbm, ⟨75, _⟩ => ⟨S256, .f32⟩
  | .hbm, ⟨76, _⟩ => ⟨S1x256, .f32⟩
  | .hbm, ⟨77, _⟩ => ⟨S4x256, .f32⟩
  | .hbm, ⟨78, _⟩ => ⟨S4x256, .f32⟩
  | .hbm, ⟨79, _⟩ => ⟨S4x256, .f32⟩
  | .hbm, ⟨80, _⟩ => ⟨S4x256, .f32⟩
  | .hbm, ⟨81, _⟩ => ⟨S1x4x256x1, .f32⟩
  | .hbm, ⟨82, _⟩ => ⟨S8x4x256x128, .f32⟩
  | .hbm, ⟨83, _⟩ => ⟨S8x4x256x128, .f32⟩
  | .hbm, ⟨84, _⟩ => ⟨S8x4x128x128, .f32⟩
  | .hbm, ⟨85, _⟩ => ⟨S8x8x128x128, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_3 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_4 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_cst_5 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩

abbrev nD : Nat := 1
abbrev τ : Topo := Topo.v7x

variable {F : FTy → Type} [FloatOps F]
-- ==== Proof.RetKernel.lean ====
module

public import proofs.«01_k».proof.Proof.Gen.KernelIdeal.Value
public import Idealize.ShloMosaic.Lib.Pointwise

@[expose] public section

set_option maxRecDepth 16384

noncomputable section

/-! # The retention kernel's block, as one function of its inputs and its tables -/

namespace Cert.RetKernel

open Cert.KernelIdeal Cert.KernelIdeal.Gen Idealize.ShloMosaic Idealize.ShloMosaic.TcCoe

variable {F : FTy → Type} [FloatOps F]

/-- A chunk of 256 rows lies within the 4096 rows. -/
theorem chunk_fits {n : ℕ} (h : n < 16) : ∀ a, (![0, 256 * n, 0] : Fin 3 → ℕ) a + (![1, 256, 128] : Fin 3 → ℕ) a ≤ S1x4096x128.size a := by
  intro a
  match a with
  | ⟨0, _⟩ => exact Nat.le_refl 1
  | ⟨1, _⟩ => show 256 * n + 256 ≤ 4096; omega
  | ⟨2, _⟩ => exact Nat.le_refl 128

/-- The rectangle of chunk `n`. -/
abbrev chunkRect (n : ℕ) (h : n < 16) : Rect S1x4096x128 := Rect.unit ![0, 256 * n, 0] ![1, 256, 128] (chunk_fits h)

/-- The 256 rows of chunk `n`. -/
abbrev rows (n : ℕ) (h : n < 16) (x : Vec F S1x4096x128 .bf16) : Vec F S1x256x128 .bf16 := View.ld x (chunkRect n h)

/-- Table `j` of the six. -/
abbrev tab0 (T : Vec F S6x256x128 .f32) : Vec F S1x256x128 .f32 := View.ld T (Rect.unit ![0, 0, 0] ![1, 256, 128] inb_S6x256x128_S1x256x128_0_0_0)
@[inherit_doc tab0] abbrev tab1 (T : Vec F S6x256x128 .f32) : Vec F S1x256x128 .f32 := View.ld T (Rect.unit ![1, 0, 0] ![1, 256, 128] inb_S6x256x128_S1x256x128_1_0_0)
@[inherit_doc tab0] abbrev tab2 (T : Vec F S6x256x128 .f32) : Vec F S1x256x128 .f32 := View.ld T (Rect.unit ![2, 0, 0] ![1, 256, 128] inb_S6x256x128_S1x256x128_2_0_0)
@[inherit_doc tab0] abbrev tab3 (T : Vec F S6x256x128 .f32) : Vec F S1x256x128 .f32 := View.ld T (Rect.unit ![3, 0, 0] ![1, 256, 128] inb_S6x256x128_S1x256x128_3_0_0)
/-- The first 128 rows of table 4, and of table 5. -/
abbrev tab4 (T : Vec F S6x256x128 .f32) : Vec F S1x128x128 .f32 := View.ld T (Rect.unit ![4, 0, 0] ![1, 128, 128] inb_S6x256x128_S1x128x128_4_0_0)
@[inherit_doc tab4] abbrev tab5 (T : Vec F S6x256x128 .f32) : Vec F S1x128x128 .f32 := View.ld T (Rect.unit ![5, 0, 0] ![1, 128, 128] inb_S6x256x128_S1x128x128_5_0_0)

/-- What chunk `n` adds to the forward state: its keys, weighted, against its values. -/
def kvF (k v : Vec F S1x4096x128 .bf16) (T : Vec F S6x256x128 .f32) (n : ℕ) (h : n < 16) : FVec F S128x128 .f32 :=
  k0_pay18 (rows n h k) (rows n h v) (tab0 T)

/-- What chunk `n` adds to the backward state. -/
def kvB (k v : Vec F S1x4096x128 .bf16) (T : Vec F S6x256x128 .f32) (n : ℕ) (h : n < 16) : FVec F S128x128 .f32 :=
  k0_pay18 (rows n h k) (rows n h v) (tab1 T)

/-- The forward state before chunk `n`. -/
def sF (k v : Vec F S1x4096x128 .bf16) (s : Vec F S1x1x128x128 .f32) (T : Vec F S6x256x128 .f32) : (n : ℕ) → n ≤ 16 → FVec F S128x128 .f32
  | 0, _ => k0_pay79 s
  | n + 1, h => addf (mulf (sF k v s T n (Nat.le_of_succ_le h)) (k0_pay77 (tab4 T))) (kvF k v T n h)

/-- The backward state once the last `j` chunks have been taken in. -/
def sB (k v : Vec F S1x4096x128 .bf16) (s : Vec F S1x1x128x128 .f32) (T : Vec F S6x256x128 .f32) : (j : ℕ) → j ≤ 16 → FVec F S128x128 .f32
  | 0, _ => k0_pay79 s
  | j + 1, h => addf (mulf (sB k v s T j (Nat.le_of_succ_le h)) (k0_pay77 (tab5 T))) (kvB k v T (15 - j) (by omega))

/-- A chunk's 256 rows of the result, from its rows of the four streams and the two states. -/
def chunkOut (q k v g : Vec F S1x256x128 .bf16) (gain : Vec F S1x128 .f32) (T : Vec F S6x256x128 .f32) (D : Vec F S256x256 .f32)
    (a b : FVec F S128x128 .f32) : FVec F S1x256x128 .bf16 :=
  k0_pay146 (truncf .bf16 a bitsLt_bf16_f32) (truncf .bf16 b bitsLt_bf16_f32) gain (k0_pay143 q k) (k0_pay144 q (tab2 T)) (k0_pay145 q (tab3 T)) D v g

/-- Chunk `n` of the result. -/
def chunk (q k v g : Vec F S1x4096x128 .bf16) (s s' : Vec F S1x1x128x128 .f32) (gain : Vec F S1x128 .f32)
    (T : Vec F S6x256x128 .f32) (D : Vec F S256x256 .f32) (n : ℕ) (h : n < 16) : FVec F S1x256x128 .bf16 :=
  chunkOut (rows n h q) (rows n h k) (rows n h v) (rows n h g) gain T D (sF k v s T n (Nat.le_of_lt h)) (sB k v s' T (15 - n) (by omega))

/-- The block: its row `l` is row `l % 256` of chunk `l / 256`. -/
def block (q k v g : Vec F S1x4096x128 .bf16) (s s' : Vec F S1x1x128x128 .f32) (gain : Vec F S1x128 .f32)
    (T : Vec F S6x256x128 .f32) (D : Vec F S256x256 .f32) : Vec F S1x4096x128 .bf16 := fun y =>
  chunk q k v g s s' gain T D ((y 1).val / 256) (by have : (y 1).val < 4096 := (y 1).isLt; omega)
    (ix3 0 ⟨(y 1).val % 256, Nat.mod_lt _ (by decide)⟩ (y 2))

/-- The block read through chunk `n`'s rectangle is chunk `n`. -/
theorem block_emb (q k v g : Vec F S1x4096x128 .bf16) (s s' : Vec F S1x1x128x128 .f32) (gain : Vec F S1x128 .f32)
    (T : Vec F S6x256x128 .f32) (D : Vec F S256x256 .f32) (n : ℕ) (h : n < 16) (x : S1x256x128.Idx) :
    chunk q k v g s s' gain T D n h x = block q k v g s s' gain T D ((chunkRect n h).emb x) := by
  have h1 : (x 1).val < 256 := (x 1).isLt
  have e1 : ((chunkRect n h).emb x 1).val = 256 * n + 1 * (x 1).val := rfl
  have ed : ((chunkRect n h).emb x 1).val / 256 = n := by rw [e1]; omega
  have em : ((chunkRect n h).emb x 1).val % 256 = (x 1).val := by rw [e1]; omega
  have ei : (ix3 0 ⟨((chunkRect n h).emb x 1).val % 256, Nat.mod_lt _ (by decide)⟩ ((chunkRect n h).emb x 2) : S1x256x128.Idx) = x := by
    funext a
    match a with
    | ⟨0, _⟩ => exact Fin.ext (by have : (x 0).val < 1 := (x 0).isLt; show 0 = (x 0).val; omega)
    | ⟨1, _⟩ => exact Fin.ext em
    | ⟨2, _⟩ => exact Fin.ext (by show 0 + 1 * (x 2).val = (x 2).val; omega)
  unfold block
  rw [ei]
  congr 1
  simp only [ed]

section cases
variable (c : Dev nD) (i : grid0.Coords) (a2 : Memref sig .tc .vmem S1x4096x128 .bf16) (h2 : a2.IsWhole)
  (a3 : Memref sig .tc .vmem S1x4096x128 .bf16) (h3 : a3.IsWhole) (a4 : Memref sig .tc .vmem S1x4096x128 .bf16) (h4 : a4.IsWhole)
  (a5 : Memref sig .tc .vmem S1x4096x128 .bf16) (h5 : a5.IsWhole) (a6 : Memref sig .tc .vmem S1x1x128x128 .f32) (h6 : a6.IsWhole)
  (a7 : Memref sig .tc .vmem S1x1x128x128 .f32) (h7 : a7.IsWhole) (a8 : Memref sig .tc .vmem S8x128 .f32) (h8 : a8.IsWhole)
  (a9 : Memref sig .tc .vmem S1x128 .f32) (h9 : a9.IsWhole) (a10 : Memref sig .tc .vmem S1x4096x128 .bf16) (h10 : a10.IsWhole)
  (a11 : Memref sig .tc .vmem S6x256x128 .f32) (h11 : a11.IsWhole) (a12 : Memref sig .tc .vmem S256x256 .f32) (h12 : a12.IsWhole)
  (x0 x1 x2 x3 : Vec F S1x4096x128 .bf16) (x4 x5 : Vec F S1x1x128x128 .f32) (x6 : Vec F S8x128 .f32) (x7 : Vec F S1x128 .f32)

theorem hz2 : (![0, 0] : Fin 2 → Nat) = fun _ => 0 := funext fun a => by fin_cases a <;> rfl
theorem hz4 : (![0, 0, 0, 0] : Fin 4 → Nat) = fun _ => 0 := funext fun a => by fin_cases a <;> rfl

/-- At a point that finds its tables, the body leaves the block. -/
theorem out_B (hc : ¬cond0_0 i) (T : Vec F S6x256x128 .f32) (D : Vec F S256x256 .f32) :
    out0_B_8 c i a2 h2 a3 h3 a4 h4 a5 h5 a6 h6 a7 h7 a8 h8 a9 h9 a10 h10 a11 h11 a12 h12 hc x0 x1 x2 x3 x4 x5 x6 x7 T D
      = block x0 x1 x2 x3 x4 x5 x7 T D := by
  funext y
  unfold out0_B_8
  refine View.read_writes_apply_of_pieces _ _ (block x0 x1 x2 x3 x4 x5 x7 T D) _ ?_ y (cover0_B_8 c i a2 h2 a3 h3 a4 h4 a5 h5 a6 h6 a7 h7 a8 h8 a9 h9 a10 h10 a11 h11 a12 h12 hc x0 x1 x2 x3 x4 x5 x6 x7 T D y)
  unfold kernelRun0_B
  dsimp only
  sl_unfold_words
  simp only [View.readAt_eq_ld, h2.read_unread, h3.read_unread, h4.read_unread, h5.read_unread, h6.read_unread, h7.read_unread, h9.read_unread,
    h11.read_unread, h12.read_unread, View.ld_unit_zero (S := S1x1x128x128) hz4, View.ld_unit_zero (S := S1x128) hz2, View.ld_unit_zero (S := S256x256) hz2]
  simp only [List.forall_mem_cons]
  refine ⟨?_, ?_, ?_, ?_, ?_, ?_, ?_, ?_, ?_, ?_, ?_, ?_, ?_, ?_, ?_, ?_, by simp⟩
  · exact block_emb x0 x1 x2 x3 x4 x5 x7 T D 15 (by decide)
  · exact block_emb x0 x1 x2 x3 x4 x5 x7 T D 14 (by decide)
  · exact block_emb x0 x1 x2 x3 x4 x5 x7 T D 13 (by decide)
  · exact block_emb x0 x1 x2 x3 x4 x5 x7 T D 12 (by decide)
  · exact block_emb x0 x1 x2 x3 x4 x5 x7 T D 11 (by decide)
  · exact block_emb x0 x1 x2 x3 x4 x5 x7 T D 10 (by decide)
  · exact block_emb x0 x1 x2 x3 x4 x5 x7 T D 9 (by decide)
  · exact block_emb x0 x1 x2 x3 x4 x5 x7 T D 8 (by decide)
  · exact block_emb x0 x1 x2 x3 x4 x5 x7 T D 7 (by decide)
  · exact block_emb x0 x1 x2 x3 x4 x5 x7 T D 6 (by decide)
  · exact block_emb x0 x1 x2 x3 x4 x5 x7 T D 5 (by decide)
  · exact block_emb x0 x1 x2 x3 x4 x5 x7 T D 4 (by decide)
  · exact block_emb x0 x1 x2 x3 x4 x5 x7 T D 3 (by decide)
  · exact block_emb x0 x1 x2 x3 x4 x5 x7 T D 2 (by decide)
  · exact block_emb x0 x1 x2 x3 x4 x5 x7 T D 1 (by decide)
  · exact block_emb x0 x1 x2 x3 x4 x5 x7 T D 0 (by decide)

end cases

/-- The row of the decays that the forward direction of the point's head reads. -/
theorem rowF_fits (i : grid0.Coords) : ∀ a, (![BitVec.toNat (Scalar.indexCast (BitVec.ofNat 32 (i 0).val)), 0] : Fin 2 → ℕ) a
    + (![1, 128] : Fin 2 → ℕ) a ≤ S8x128.size a := by
  have h : (i 0).val < 4 := (i 0).isLt
  have e : ∀ n : ℕ, n < 4 → BitVec.toNat (Scalar.indexCast (BitVec.ofNat 32 n)) = n := by decide +kernel
  intro a
  match a with
  | ⟨0, _⟩ => show BitVec.toNat (Scalar.indexCast (BitVec.ofNat 32 (i 0).val)) + 1 ≤ 8; rw [e _ h]; omega
  | ⟨1, _⟩ => exact Nat.le_refl 128

/-- The row of the decays that the backward direction of the point's head reads. -/
theorem rowB_fits (i : grid0.Coords) : ∀ a, (![BitVec.toNat (Scalar.indexCast (Scalar.addi (BitVec.ofNat 32 (i 0).val) 4#32)), 0] : Fin 2 → ℕ) a
    + (![1, 128] : Fin 2 → ℕ) a ≤ S8x128.size a := by
  have h : (i 0).val < 4 := (i 0).isLt
  have e : ∀ n : ℕ, n < 4 → BitVec.toNat (Scalar.indexCast (Scalar.addi (BitVec.ofNat 32 n) 4#32)) = n + 4 := by decide +kernel
  intro a
  match a with
  | ⟨0, _⟩ => show BitVec.toNat (Scalar.indexCast (Scalar.addi (BitVec.ofNat 32 (i 0).val) 4#32)) + 1 ≤ 8; rw [e _ h]; omega
  | ⟨1, _⟩ => exact Nat.le_refl 128

/-- The forward direction's row of the decays, and the backward direction's. -/
abbrev rowF (i : grid0.Coords) (x : Vec F S8x128 .f32) : Vec F S1x128 .f32 :=
  View.ld x (Rect.unit ![BitVec.toNat (Scalar.indexCast (BitVec.ofNat 32 (i 0).val)), 0] ![1, 128] (rowF_fits i))
@[inherit_doc rowF] abbrev rowB (i : grid0.Coords) (x : Vec F S8x128 .f32) : Vec F S1x128 .f32 :=
  View.ld x (Rect.unit ![BitVec.toNat (Scalar.indexCast (Scalar.addi (BitVec.ofNat 32 (i 0).val) 4#32)), 0] ![1, 128] (rowB_fits i))

/-- The six stores that fill the tables. -/
abbrev tables (i : grid0.Coords) (x : Vec F S8x128 .f32) : List (View.Piece (Elt F) S6x256x128 .f32) :=
  [⟨Rect.unit ![5, 0, 0] ![1, 256, 128] inb_S6x256x128_S1x256x128_5_0_0, k0_pay11 (k0_pay3 (rowB i x))⟩,
    ⟨Rect.unit ![4, 0, 0] ![1, 256, 128] inb_S6x256x128_S1x256x128_4_0_0, k0_pay10 (k0_pay2 (rowF i x))⟩,
    ⟨Rect.unit ![3, 0, 0] ![1, 256, 128] inb_S6x256x128_S1x256x128_3_0_0, k0_pay9 (k0_pay3 (rowB i x)) k0_pay4 k0_pay8⟩,
    ⟨Rect.unit ![2, 0, 0] ![1, 256, 128] inb_S6x256x128_S1x256x128_2_0_0, k0_pay7 (rowF i x)⟩,
    ⟨Rect.unit ![1, 0, 0] ![1, 256, 128] inb_S6x256x128_S1x256x128_1_0_0, k0_pay6 (rowB i x)⟩,
    ⟨Rect.unit ![0, 0, 0] ![1, 256, 128] inb_S6x256x128_S1x256x128_0_0_0, k0_pay5 (rowF i x)⟩]

/-- The tables. -/
def TAB (i : grid0.Coords) (x : Vec F S8x128 .f32) : Vec F S6x256x128 .f32 := VS0_0.read (Elt F) (VS0_0.writes (Elt F) VS0_0.junk (tables i x))

/-- The mask of decays within a chunk. -/
def MASK (i : grid0.Coords) (x : Vec F S8x128 .f32) : Vec F S256x256 .f32 :=
  k0_pay17 (k0_pay12 (k0_pay3 (rowB i x))) k0_pay13 (k0_pay14 (k0_pay2 (rowF i x))) (k0_pay15 (F := F)) k0_pay16

theorem mask_eq (i : grid0.Coords) (x : Vec F S8x128 .f32) :
    k0_pay17 (k0_pay12 (k0_pay3 (rowB i x))) k0_pay13 (k0_pay14 (k0_pay2 (rowF i x))) (k0_pay15 (F := F)) k0_pay16 = MASK i x := rfl

theorem tables_cover (i : grid0.Coords) (x : Vec F S8x128 .f32) : ∀ y, ∃ p ∈ tables i x, y ∈ p.1.set :=
  View.cover_of_tiledL _ S1x256x128.size (by sl_kernel_rfl)

/-- Loads of the filled tables, through any view. -/
theorem tables_read {sg : RefSig} {κ : Kind} {sp : Space} (v : View sg κ sp S6x256x128 .f32) (i : grid0.Coords) (x : Vec F S8x128 .f32)
    (r : Rect S6x256x128) : View.readCov v (tables i x) r.toLoadRect = View.ld (TAB i x) r := by
  unfold View.readCov
  rw [View.readAt_eq_ld, View.read_writes_of_cover v v.junk VS0_0 VS0_0.junk _ (tables_cover i x)]
  rfl

section cases
variable (c : Dev nD) (i : grid0.Coords) (a2 : Memref sig .tc .vmem S1x4096x128 .bf16) (h2 : a2.IsWhole)
  (a3 : Memref sig .tc .vmem S1x4096x128 .bf16) (h3 : a3.IsWhole) (a4 : Memref sig .tc .vmem S1x4096x128 .bf16) (h4 : a4.IsWhole)
  (a5 : Memref sig .tc .vmem S1x4096x128 .bf16) (h5 : a5.IsWhole) (a6 : Memref sig .tc .vmem S1x1x128x128 .f32) (h6 : a6.IsWhole)
  (a7 : Memref sig .tc .vmem S1x1x128x128 .f32) (h7 : a7.IsWhole) (a8 : Memref sig .tc .vmem S8x128 .f32) (h8 : a8.IsWhole)
  (a9 : Memref sig .tc .vmem S1x128 .f32) (h9 : a9.IsWhole) (a10 : Memref sig .tc .vmem S1x4096x128 .bf16) (h10 : a10.IsWhole)
  (a11 : Memref sig .tc .vmem S6x256x128 .f32) (h11 : a11.IsWhole) (a12 : Memref sig .tc .vmem S256x256 .f32) (h12 : a12.IsWhole)
  (x0 x1 x2 x3 : Vec F S1x4096x128 .bf16) (x4 x5 : Vec F S1x1x128x128 .f32) (x6 : Vec F S8x128 .f32) (x7 : Vec F S1x128 .f32)

/-- A point that fills the tables leaves them so, -/
theorem sout_0 (hc : cond0_0 i) :
    sout0_A_0 c i a2 h2 a3 h3 a4 h4 a5 h5 a6 h6 a7 h7 a8 h8 a9 h9 a10 h10 a11 h11 a12 h12 hc x0 x1 x2 x3 x4 x5 x6 x7 = TAB i x6 := by
  unfold sout0_A_0 kernelRun0_A
  dsimp only
  sl_unfold_words
  simp only [View.readAt_eq_ld, h8.read_unread]
  rfl

/-- and the mask; -/
theorem sout_1 (hc : cond0_0 i) :
    sout0_A_1 c i a2 h2 a3 h3 a4 h4 a5 h5 a6 h6 a7 h7 a8 h8 a9 h9 a10 h10 a11 h11 a12 h12 hc x0 x1 x2 x3 x4 x5 x6 x7 = MASK i x6 := by
  unfold sout0_A_1 kernelRun0_A
  dsimp only
  sl_unfold_words
  simp only [View.readAt_eq_ld, h8.read_unread]
  rw [View.read_writes_eq_canon _ _ _ (View.cover_of_tiledL _ S256x256.size (by sl_kernel_rfl)), View.canon_unit_zero hz2]
  rfl

/-- and the block is the one those tables give. -/
theorem out_A (hc : cond0_0 i) :
    out0_A_8 c i a2 h2 a3 h3 a4 h4 a5 h5 a6 h6 a7 h7 a8 h8 a9 h9 a10 h10 a11 h11 a12 h12 hc x0 x1 x2 x3 x4 x5 x6 x7
      = block x0 x1 x2 x3 x4 x5 x7 (TAB i x6) (MASK i x6) := by
  funext y
  unfold out0_A_8
  refine View.read_writes_apply_of_pieces _ _ (block x0 x1 x2 x3 x4 x5 x7 (TAB i x6) (MASK i x6)) _ ?_ y (cover0_A_8 c i a2 h2 a3 h3 a4 h4 a5 h5 a6 h6 a7 h7 a8 h8 a9 h9 a10 h10 a11 h11 a12 h12 hc x0 x1 x2 x3 x4 x5 x6 x7 y)
  unfold kernelRun0_A
  dsimp only
  sl_unfold_words
  simp only [View.readAt_eq_ld, h2.read_unread, h3.read_unread, h4.read_unread, h5.read_unread, h6.read_unread, h7.read_unread, h8.read_unread, h9.read_unread,
    View.ld_unit_zero (S := S1x1x128x128) hz4, View.ld_unit_zero (S := S1x128) hz2, View.readCov_unit_zero (S := S256x256) _ hz2, tables_read, mask_eq]
  generalize TAB i x6 = T
  generalize MASK i x6 = D
  simp only [List.forall_mem_cons]
  refine ⟨?_, ?_, ?_, ?_, ?_, ?_, ?_, ?_, ?_, ?_, ?_, ?_, ?_, ?_, ?_, ?_, by simp⟩
  · exact block_emb x0 x1 x2 x3 x4 x5 x7 T D 15 (by decide)
  · exact block_emb x0 x1 x2 x3 x4 x5 x7 T D 14 (by decide)
  · exact block_emb x0 x1 x2 x3 x4 x5 x7 T D 13 (by decide)
  · exact block_emb x0 x1 x2 x3 x4 x5 x7 T D 12 (by decide)
  · exact block_emb x0 x1 x2 x3 x4 x5 x7 T D 11 (by decide)
  · exact block_emb x0 x1 x2 x3 x4 x5 x7 T D 10 (by decide)
  · exact block_emb x0 x1 x2 x3 x4 x5 x7 T D 9 (by decide)
  · exact block_emb x0 x1 x2 x3 x4 x5 x7 T D 8 (by decide)
  · exact block_emb x0 x1 x2 x3 x4 x5 x7 T D 7 (by decide)
  · exact block_emb x0 x1 x2 x3 x4 x5 x7 T D 6 (by decide)
  · exact block_emb x0 x1 x2 x3 x4 x5 x7 T D 5 (by decide)
  · exact block_emb x0 x1 x2 x3 x4 x5 x7 T D 4 (by decide)
  · exact block_emb x0 x1 x2 x3 x4 x5 x7 T D 3 (by decide)
  · exact block_emb x0 x1 x2 x3 x4 x5 x7 T D 2 (by decide)
  · exact block_emb x0 x1 x2 x3 x4 x5 x7 T D 1 (by decide)
  · exact block_emb x0 x1 x2 x3 x4 x5 x7 T D 0 (by decide)

end cases

end Cert.RetKernel
-- ==== Proof.RetMath.lean ====
module

public import Mathlib.Algebra.BigOperators.Fin
public import Mathlib.Data.Real.Basic
public import Mathlib.Algebra.BigOperators.Ring.Finset
public import Mathlib.Tactic.Ring
public import Mathlib.Tactic.Linarith

@[expose] public section

noncomputable section

/-! # Retention over the reals: a decayed state, one position at a time, and a chunk of positions at once -/

namespace Cert.Ret

open Finset

/-- The state after the first `i` positions: each position decays it by `γ` and adds its key times its value. -/
def T (γ : ℝ) (k v : ℕ → Fin 128 → ℝ) (s : Fin 128 → Fin 128 → ℝ) : ℕ → Fin 128 → Fin 128 → ℝ
  | 0 => s
  | i + 1 => fun d e => γ * T γ k v s i d e + k i d * v i e

variable (γ : ℝ) (k v : ℕ → Fin 128 → ℝ) (s : Fin 128 → Fin 128 → ℝ)

/-- `C` positions at once: the state decays by `γ ^ C`, and each position's product by what follows it. -/
theorem T_range (a C : ℕ) (d e : Fin 128) :
    T γ k v s (a + C) d e = γ ^ C * T γ k v s a d e + ∑ j ∈ range C, γ ^ (C - 1 - j) * (k (a + j) d * v (a + j) e) := by
  induction C with
  | zero => simp
  | succ C ih =>
    have h : ∑ j ∈ range C, γ ^ (C + 1 - 1 - j) * (k (a + j) d * v (a + j) e)
        = γ * ∑ j ∈ range C, γ ^ (C - 1 - j) * (k (a + j) d * v (a + j) e) := by
      rw [mul_sum]
      refine sum_congr rfl fun j hj => ?_
      have hj := mem_range.mp hj
      rw [show C + 1 - 1 - j = (C - 1 - j) + 1 from by omega, pow_succ]
      ring
    rw [show a + (C + 1) = (a + C) + 1 from rfl]
    show γ * T γ k v s (a + C) d e + k (a + C) d * v (a + C) e = _
    rw [ih, sum_range_succ, h, show C + 1 - 1 - C = 0 from by omega]
    ring

/-- The same with the chunk's positions counted by `Fin C`. -/
theorem T_chunk (a C : ℕ) (d e : Fin 128) :
    T γ k v s (a + C) d e = γ ^ C * T γ k v s a d e + ∑ j : Fin C, γ ^ (C - 1 - j.val) * (k (a + j.val) d * v (a + j.val) e) := by
  rw [T_range, Fin.sum_univ_eq_sum_range (fun j => γ ^ (C - 1 - j) * (k (a + j) d * v (a + j) e))]

/-- A query against the state after position `il` of a chunk that begins at `a`: the query, decayed, against the state
    before the chunk, and the chunk's own positions up to `il`. -/
theorem T_out (a C il : ℕ) (h : il < C) (q : Fin 128 → ℝ) (e : Fin 128) :
    ∑ d, q d * T γ k v s (a + il + 1) d e
      = ∑ d, (q d * γ ^ (il + 1)) * T γ k v s a d e
        + ∑ j : Fin C, ((∑ d, q d * k (a + j.val) d) * (if j.val ≤ il then γ ^ (il - j.val) else 0)) * v (a + j.val) e := by
  have hr : ∑ j : Fin C, ((∑ d, q d * k (a + j.val) d) * (if j.val ≤ il then γ ^ (il - j.val) else 0)) * v (a + j.val) e
      = ∑ j ∈ range (il + 1), (∑ d, q d * k (a + j) d) * γ ^ (il - j) * v (a + j) e := by
    rw [Fin.sum_univ_eq_sum_range (fun j => ((∑ d, q d * k (a + j) d) * (if j ≤ il then γ ^ (il - j) else 0)) * v (a + j) e)]
    rw [← sum_subset (s₁ := range (il + 1)) (fun j hj => mem_range.mpr (by have := mem_range.mp hj; omega)) fun j _ hj => ?_]
    · refine sum_congr rfl fun j hj => ?_
      have : j ≤ il := by have := mem_range.mp hj; omega
      rw [if_pos this]
    · have : ¬ j ≤ il := fun hh => hj (mem_range.mpr (by omega))
      rw [if_neg this, mul_zero, zero_mul]
  rw [hr]
  simp only [show a + il + 1 = a + (il + 1) from rfl, T_range, mul_add, sum_add_distrib]
  congr 1
  · exact sum_congr rfl fun d _ => by ring
  · simp only [mul_sum, sum_mul]
    rw [sum_comm]
    exact sum_congr rfl fun j _ => sum_congr rfl fun d _ => by rw [show il + 1 - 1 - j = il - j from rfl]; ring

end Cert.Ret
-- ==== Proof.RetTables.lean ====
module

public import proofs.«01_k».proof.Proof.RetKernel
public import proofs.«01_k».proof.Proof.RetMath

@[expose] public section

set_option maxRecDepth 16384

noncomputable section

/-! # The decay of a head, and the kernel's tables of its powers -/

namespace Cert.Ret

open Idealize.ShloMosaic

/-- The logarithm of a head's decay, from its learned exponent. -/
def lg (x : EReal) : EReal := Ideal.log1p (0 - Ideal.exp x)

/-- A head's decay: a real number, zero where its logarithm is minus infinity. -/
def gam (x : EReal) : ℝ := (Ideal.exp (lg x)).toReal

/-- The logarithm of the decay is minus infinity or a real number. -/
theorem lg_cases (x : EReal) : lg x = ⊥ ∨ ∃ g : ℝ, lg x = (g : EReal) := by
  have hlog : ∀ r : ℝ, Ideal.log (r : EReal) = ⊥ ∨ ∃ g : ℝ, Ideal.log (r : EReal) = (g : EReal) := by
    intro r
    by_cases h : r ≤ 0
    · left
      show (if r ≤ 0 then (⊥ : EReal) else (Real.log r : EReal)) = ⊥
      rw [if_pos h]
    · right
      exact ⟨Real.log r, by show (if r ≤ 0 then (⊥ : EReal) else (Real.log r : EReal)) = _; rw [if_neg h]⟩
  have hsub : ∀ r : ℝ, (1 : EReal) + (0 - (r : EReal)) = ((1 + (0 - r) : ℝ) : EReal) := fun r => by
    rw [EReal.coe_add, EReal.coe_sub, EReal.coe_one, EReal.coe_zero]
  induction x with
  | bot =>
    have := hlog (1 + (0 - 0))
    rw [← hsub] at this
    exact this
  | top => left; show Ideal.log (1 + (0 - ⊤)) = ⊥; rw [zero_sub, EReal.neg_top, EReal.add_bot]; rfl
  | coe r =>
    have := hlog (1 + (0 - Real.exp r))
    rw [← hsub] at this
    exact this

/-- The exponential of a multiple of the logarithm is a power of the decay. -/
theorem exp_lg_mul (x : EReal) (n : ℕ) : Ideal.exp (lg x * ((n : ℝ) : EReal)) = ((gam x ^ n : ℝ) : EReal) := by
  rcases lg_cases x with h | ⟨g, h⟩
  · rw [gam, h]
    rcases Nat.eq_zero_or_pos n with rfl | hn
    · rw [Nat.cast_zero, EReal.coe_zero, mul_zero, pow_zero]
      show ((Real.exp 0 : ℝ) : EReal) = _
      rw [Real.exp_zero]
    · rw [EReal.bot_mul_coe_of_pos (by exact_mod_cast hn)]
      show (0 : EReal) = (((0 : EReal).toReal ^ n : ℝ) : EReal)
      rw [EReal.toReal_zero, zero_pow (by omega), EReal.coe_zero]
  · rw [gam, h, ← EReal.coe_mul]
    show ((Real.exp (g * n) : ℝ) : EReal) = ((((Real.exp g : ℝ) : EReal).toReal ^ n : ℝ) : EReal)
    rw [EReal.toReal_coe, mul_comm, Real.exp_nat_mul]

/-- A natural number below 2^31, as a signed word. -/
theorem toInt_ofNat (n : ℕ) (h : n < 1000000) : (BitVec.ofNat 32 n).toInt = (n : ℤ) := by
  rw [BitVec.toInt_eq_toNat_bmod, BitVec.toNat_ofNat, Int.bmod_def]
  split <;> omega

/-- The difference of two such numbers, as a signed word. -/
theorem toInt_sub (a b : ℕ) (ha : a < 1000000) (hb : b < 1000000) : (IntOp.subi (BitVec.ofNat 32 a) (BitVec.ofNat 32 b)).toInt = (a : ℤ) - b := by
  show (BitVec.ofNat 32 a - BitVec.ofNat 32 b).toInt = _
  rw [BitVec.toInt_sub, toInt_ofNat a ha, toInt_ofNat b hb, Int.bmod_def]
  split <;> omega

/-- The decay from a position to a later one, zero to an earlier one: as the programs compute it from the difference. -/
theorem decay_sub (x : EReal) (a b : ℕ) :
    (if (0 : EReal) ≤ (((a : ℤ) - b : ℤ) : ℝ) then Ideal.exp (lg x * max ((((a : ℤ) - b : ℤ) : ℝ) : EReal) 0) else 0)
      = (((if b ≤ a then gam x ^ (a - b) else 0) : ℝ) : EReal) := by
  by_cases h : b ≤ a
  · have e : (((a : ℤ) - b : ℤ) : ℝ) = ((a - b : ℕ) : ℝ) := by push_cast [Nat.cast_sub h]; rfl
    have h0 : (0 : EReal) ≤ (((a - b : ℕ) : ℝ) : EReal) := by exact_mod_cast Nat.zero_le _
    rw [e, if_pos h0, if_pos h, max_eq_left h0, exp_lg_mul]
  · have h0 : ¬ (0 : EReal) ≤ ((((a : ℤ) - b : ℤ) : ℝ) : EReal) := by
      rw [← EReal.coe_zero, EReal.coe_le_coe_iff]
      exact_mod_cast (by omega : ¬ (0 : ℤ) ≤ (a : ℤ) - b)
    rw [if_neg h0, if_neg h, EReal.coe_zero]

/-- The same with the difference's sign turned. -/
theorem decay_sub_neg (x : EReal) (a b : ℕ) :
    (if ((((a : ℤ) - b : ℤ) : ℝ) : EReal) ≤ 0 then Ideal.exp (lg x * max (0 - ((((a : ℤ) - b : ℤ) : ℝ) : EReal)) 0) else 0)
      = (((if a ≤ b then gam x ^ (b - a) else 0) : ℝ) : EReal) := by
  have e : (0 : EReal) - ((((a : ℤ) - b : ℤ) : ℝ) : EReal) = ((((b : ℤ) - a : ℤ) : ℝ) : EReal) := by
    rw [← EReal.coe_zero, ← EReal.coe_sub]; congr 1; push_cast; ring
  have c : (((((a : ℤ) - b : ℤ) : ℝ) : EReal) ≤ 0) ↔ (0 : EReal) ≤ ((((b : ℤ) - a : ℤ) : ℝ) : EReal) := by
    rw [← EReal.coe_zero, EReal.coe_le_coe_iff, EReal.coe_le_coe_iff, Int.cast_nonneg_iff]
    rw [Int.cast_nonpos]
    omega
  rw [e, ← decay_sub]
  simp only [c]

theorem c127 : Ideal.ofBits .f32 0x42FE0000#32 = ((127 : ℕ) : ℝ) := by simp [Ideal.ofBits, Ideal.ieee, -EReal.coe_mul]; norm_num
theorem c128 : Ideal.ofBits .f32 0x43000000#32 = ((128 : ℕ) : ℝ) := by simp [Ideal.ofBits, Ideal.ieee, -EReal.coe_mul]; norm_num
theorem c255 : Ideal.ofBits .f32 1132396544#32 = ((255 : ℕ) : ℝ) := by simp [Ideal.ofBits, Ideal.ieee, -EReal.coe_mul]; norm_num
theorem c256 : Ideal.ofBits .f32 1132462080#32 = ((256 : ℕ) : ℝ) := by simp [Ideal.ofBits, Ideal.ieee, -EReal.coe_mul]; norm_num

/-- A difference of two naturals that does not go below zero. -/
theorem coe_nat_sub (a b : ℕ) (h : b ≤ a) : (((a : ℕ) : ℝ) : EReal) - ((b : ℝ) : EReal) = (((a - b : ℕ) : ℝ) : EReal) := by
  rw [← EReal.coe_sub, Nat.cast_sub h]

end Cert.Ret

namespace Cert.RetKernel

open Cert.KernelIdeal Cert.KernelIdeal.Gen Cert.Ret Idealize.ShloMosaic Idealize.ShloMosaic.TcCoe

/-- An array of half-precision, and one of single-precision numbers. -/
abbrev Bf (S : Shape) := Vec Ideal S .bf16
@[inherit_doc Bf] abbrev Fl (S : Shape) := Vec Ideal S .f32

/-- The signed word of a position, as a number. -/
theorem sitofp_nat (n : ℕ) (h : n < 1000000) : FloatOps.sitofp (F := Ideal) FTy.f32 (BitVec.ofNat 32 n) = (((n : ℕ) : ℝ) : EReal) := by
  show (((BitVec.ofNat 32 n).toInt : ℝ) : EReal) = _
  rw [toInt_ofNat n h, Int.cast_natCast]

theorem sitofp_sub (a b : ℕ) (ha : a < 1000000) (hb : b < 1000000) :
    FloatOps.sitofp (F := Ideal) FTy.f32 (IntOp.subi (BitVec.ofNat 32 a) (BitVec.ofNat 32 b)) = ((((a : ℤ) - b : ℤ) : ℝ) : EReal) := by
  show (((IntOp.subi (BitVec.ofNat 32 a) (BitVec.ofNat 32 b)).toInt : ℝ) : EReal) = _
  rw [toInt_sub a b ha hb]

variable (x : Fl S1x128) (z : EReal) (hx : ∀ d : Fin 128, x (ix2 0 d) = z)
include hx

/-- The forward keys' weights: the decay to the end of the chunk. -/
theorem pay5_at (il : Fin 256) (d : Fin 128) : k0_pay5 x (ix3 0 il d) = ((gam z ^ (255 - il.val) : ℝ) : EReal) := by
  pointwise [k0_pay5, k0_pay4, k0_pay2]
  rw [hx, c255, sitofp_nat _ (by omega), coe_nat_sub _ _ (by omega)]
  exact exp_lg_mul z _

/-- The backward keys' weights: the decay to the start of the chunk. -/
theorem pay6_at (il : Fin 256) (d : Fin 128) : k0_pay6 x (ix3 0 il d) = ((gam z ^ il.val : ℝ) : EReal) := by
  pointwise [k0_pay6, k0_pay4, k0_pay3]
  rw [hx, sitofp_nat _ (by omega)]
  exact exp_lg_mul z _

/-- The forward queries' weights. -/
theorem pay7_at (il : Fin 256) (d : Fin 128) : k0_pay7 x (ix3 0 il d) = ((gam z ^ (il.val + 1) : ℝ) : EReal) := by
  pointwise [k0_pay7, k0_pay4, k0_pay2]
  rw [hx, sitofp_nat _ (by omega)]
  rw [show (((il.val : ℕ) : ℝ) : EReal) + 1 = (((il.val + 1 : ℕ) : ℝ) : EReal) from by rw [Nat.cast_succ, EReal.coe_add, EReal.coe_one]]
  exact exp_lg_mul z _

/-- The backward queries' weights. -/
theorem pay9_at (il : Fin 256) (d : Fin 128) : k0_pay9 (k0_pay3 x) k0_pay4 k0_pay8 (ix3 0 il d) = ((gam z ^ (256 - il.val) : ℝ) : EReal) := by
  pointwise [k0_pay9, k0_pay4, k0_pay3, k0_pay8]
  rw [hx, c256, sitofp_nat _ (by omega), coe_nat_sub _ _ (by omega)]
  exact exp_lg_mul z _

/-- A whole chunk's decay, forward. -/
theorem pay10_at (il : Fin 256) (d : Fin 128) : k0_pay10 (k0_pay2 x) (ix3 0 il d) = ((gam z ^ 256 : ℝ) : EReal) := by
  pointwise [k0_pay10, k0_pay2]
  rw [hx, c256]
  exact exp_lg_mul z _

/-- A whole chunk's decay, backward. -/
theorem pay11_at (il : Fin 256) (d : Fin 128) : k0_pay11 (k0_pay3 x) (ix3 0 il d) = ((gam z ^ 256 : ℝ) : EReal) := by
  pointwise [k0_pay11, k0_pay3]
  rw [hx, c256]
  exact exp_lg_mul z _

/-- The mask: the forward decay from a position to a later one, and the backward decay from a position to an earlier one. -/
theorem pay17_at (y : Fl S1x128) (w : EReal) (hy : ∀ d : Fin 128, y (ix2 0 d) = w) (il d : Fin 256) :
    k0_pay17 (k0_pay12 (k0_pay3 y)) k0_pay13 (k0_pay14 (k0_pay2 x)) (k0_pay15 (F := Ideal)) k0_pay16 (ix2 il d)
      = (((if d.val ≤ il.val then gam z ^ (il.val - d.val) else 0) + (if il.val ≤ d.val then gam w ^ (d.val - il.val) else 0) : ℝ) : EReal) := by
  pointwise [k0_pay17, k0_pay12, k0_pay3, k0_pay13, k0_pay14, k0_pay15, k0_pay16, k0_pay2]
  simp only [hx, hy, dite_eq_ite, ite_self, sitofp_sub _ _ (show il.val < 1000000 by omega) (show d.val < 1000000 by omega)]
  rw [EReal.coe_add, ← decay_sub, ← decay_sub_neg]
  rfl

end Cert.RetKernel
end
-- ==== Proof.RetSpec.lean ====
module

public import proofs.«01_k».proof.Proof.RetTables

@[expose] public section

set_option maxRecDepth 16384

noncomputable section

/-! # What one head of the gated retention computes, from its queries, keys, values, gate and context states -/

namespace Cert.Ret

open Idealize.ShloMosaic

/-- A stream's rows as real numbers, in order. -/
def seqF (X : Fin 4096 → Fin 128 → EReal) : ℕ → Fin 128 → ℝ := fun i d => if h : i < 4096 then (X ⟨i, h⟩ d).toReal else 0

/-- A stream's rows as real numbers, from the last one back. -/
def seqB (X : Fin 4096 → Fin 128 → EReal) : ℕ → Fin 128 → ℝ := fun i d => if h : i < 4096 then (X ⟨4095 - i, by omega⟩ d).toReal else 0

/-- The state after the first `i` positions: each position decays it by `γ` and adds its key times its value. -/
def TE (γ : ℝ) (k v : ℕ → Fin 128 → ℝ) (S : Fin 128 → Fin 128 → EReal) : ℕ → Fin 128 → Fin 128 → EReal
  | 0 => S
  | i + 1 => fun d e => (γ : EReal) * TE γ k v S i d e + ((k i d * v i e : ℝ) : EReal)

/-- A sum of real numbers is the sum of them. -/
theorem coe_sum {ι : Type} (t : Finset ι) (f : ι → ℝ) : ((∑ i ∈ t, f i : ℝ) : EReal) = ∑ i ∈ t, ((f i : ℝ) : EReal) := by
  classical
  induction t using Finset.induction_on with
  | empty => simp
  | insert a t ha ih => rw [Finset.sum_insert ha, Finset.sum_insert ha, EReal.coe_add, ih]

/-- A real factor over a sum with a real term. -/
theorem coe_mul_add (r t : ℝ) (x : EReal) : (r : EReal) * (x + (t : EReal)) = (r : EReal) * x + ((r * t : ℝ) : EReal) := by
  induction x with
  | coe x => rw [← EReal.coe_add, ← EReal.coe_mul, ← EReal.coe_mul, ← EReal.coe_add]; congr 1; ring
  | top =>
    rw [EReal.top_add_coe]
    rcases lt_trichotomy r 0 with h | rfl | h
    · rw [EReal.coe_mul_top_of_neg h, EReal.bot_add]
    · rw [EReal.coe_zero, zero_mul, zero_mul, EReal.coe_zero, add_zero]
    · rw [EReal.coe_mul_top_of_pos h, EReal.top_add_coe]
  | bot =>
    rw [EReal.bot_add]
    rcases lt_trichotomy r 0 with h | rfl | h
    · rw [EReal.coe_mul_bot_of_neg h, EReal.top_add_coe]
    · rw [EReal.coe_zero, zero_mul, zero_mul, EReal.coe_zero, add_zero]
    · rw [EReal.coe_mul_bot_of_pos h, EReal.bot_add]

section state
variable (γ : ℝ) (k v : ℕ → Fin 128 → ℝ) (S : Fin 128 → Fin 128 → EReal)

/-- The state is the first one decayed, and the real state from nothing. -/
theorem TE_eq (n : ℕ) (d e : Fin 128) :
    TE γ k v S n d e = ((γ ^ n : ℝ) : EReal) * S d e + ((T γ k v (fun _ _ => 0) n d e : ℝ) : EReal) := by
  induction n with
  | zero =>
    show S d e = ((γ ^ 0 : ℝ) : EReal) * S d e + ((0 : ℝ) : EReal)
    rw [pow_zero, EReal.coe_one, one_mul, EReal.coe_zero, add_zero]
  | succ n ih =>
    show (γ : EReal) * TE γ k v S n d e + ((k n d * v n e : ℝ) : EReal) = _
    rw [ih, coe_mul_add, add_assoc, ← EReal.coe_add, ← mul_assoc, ← EReal.coe_mul, pow_succ, mul_comm γ]
    rfl

/-- `C` positions at once: the state decayed, and each position's product by what follows it. -/
theorem TE_chunk (a C : ℕ) (d e : Fin 128) :
    TE γ k v S (a + C) d e = TE γ k v S a d e * ((γ ^ C : ℝ) : EReal)
      + ((∑ j : Fin C, γ ^ (C - 1 - j.val) * (k (a + j.val) d * v (a + j.val) e) : ℝ) : EReal) := by
  rw [TE_eq, TE_eq, T_chunk, mul_comm _ ((γ ^ C : ℝ) : EReal), coe_mul_add, add_assoc, ← EReal.coe_add, ← mul_assoc, ← EReal.coe_mul, pow_add, mul_comm (γ ^ a)]

/-- A query against a state: against the first one, decayed, and against the real state from nothing. -/
theorem TE_query (q : Fin 128 → ℝ) (n : ℕ) (e : Fin 128) :
    ∑ d, (q d : EReal) * TE γ k v S n d e
      = ∑ d, ((q d * γ ^ n : ℝ) : EReal) * S d e + ((∑ d, q d * T γ k v (fun _ _ => 0) n d e : ℝ) : EReal) := by
  rw [coe_sum, ← Finset.sum_add_distrib]
  refine Finset.sum_congr rfl fun d _ => ?_
  rw [TE_eq, coe_mul_add, ← mul_assoc, ← EReal.coe_mul]

/-- A query against the state after position `il` of a chunk that begins at `a`: the query, decayed, against the state
    before the chunk, and the chunk's own positions up to `il`. -/
theorem TE_out (a C il : ℕ) (h : il < C) (q : Fin 128 → ℝ) (e : Fin 128) :
    ∑ d, (q d : EReal) * TE γ k v S (a + il + 1) d e
      = ∑ d, ((q d * γ ^ (il + 1) : ℝ) : EReal) * TE γ k v S a d e
        + ((∑ j : Fin C, ((∑ d, q d * k (a + j.val) d) * (if j.val ≤ il then γ ^ (il - j.val) else 0)) * v (a + j.val) e : ℝ) : EReal) := by
  rw [TE_query, T_out γ k v _ a C il h q e, TE_query γ k v S (fun d => q d * γ ^ (il + 1)) a e, EReal.coe_add, add_assoc (G := EReal)]
  congr 1
  refine Finset.sum_congr rfl fun d _ => ?_
  rw [show q d * γ ^ (a + il + 1) = q d * γ ^ (il + 1) * γ ^ a from by ring]

end state

variable (q k v g : Fin 4096 → Fin 128 → EReal) (s s' : Fin 128 → Fin 128 → EReal) (x y : EReal) (gain : Fin 128 → EReal)

/-- The forward state after the first `n` positions. -/
def TF (n : ℕ) : Fin 128 → Fin 128 → EReal := TE (gam x) (seqF k) (seqF v) s n

/-- The backward state after the last `n` positions. -/
def TB (n : ℕ) : Fin 128 → Fin 128 → EReal := TE (gam y) (seqB k) (seqB v) s' n

/-- Row `l` of the retention: the query against the forward state after position `l` and the backward state before it,
    each taking position `l` in. -/
def O (l : ℕ) (e : Fin 128) : EReal :=
  ∑ d, (seqF q l d : EReal) * TF k v s x (l + 1) d e + ∑ d, (seqF q l d : EReal) * TB k v s' y (4096 - l) d e

/-- The mean of a row. -/
def mean (o : Fin 128 → EReal) : EReal := Ideal.div (∑ e, o e) (Ideal.ofBits .f32 1124073472#32)

/-- A row minus its mean, over its standard deviation. -/
def norm (o : Fin 128 → EReal) (e : Fin 128) : EReal :=
  (o e - mean o) * Ideal.rsqrt (Ideal.div (∑ e', (o e' - mean o) * (o e' - mean o)) (Ideal.ofBits .f32 1124073472#32) + Ideal.ofBits .f32 897988541#32)

/-- Entry `e` of row `l` of the result: the retention's row normalised, times the gain and the gate. -/
def Row (l : Fin 4096) (e : Fin 128) : EReal :=
  norm (O q k v s s' x y l.val) e * gain e * g l e

/-- Entry `e` of row `l` of head `h` of batch element `b`, from the four arguments: the streams side by side, the context
    states, the learned exponents of the decays, and the gain. -/
def HeadRow (a0 : Fin 8 → Fin 4096 → Fin 2048 → EReal) (a1 : Fin 8 → Fin 8 → Fin 128 → Fin 128 → EReal) (a2 : Fin 2 → Fin 4 → EReal)
    (a3 : Fin 512 → EReal) (b : Fin 8) (h : Fin 4) (l : Fin 4096) (e : Fin 128) : EReal :=
  Row (fun l d => a0 b l ⟨h.val * 128 + d.val, by omega⟩) (fun l d => a0 b l ⟨(4 + h.val) * 128 + d.val, by omega⟩)
    (fun l d => a0 b l ⟨(8 + h.val) * 128 + d.val, by omega⟩) (fun l d => a0 b l ⟨(12 + h.val) * 128 + d.val, by omega⟩)
    (fun d e => a1 b ⟨h.val, by omega⟩ d e) (fun d e => a1 b ⟨4 + h.val, by omega⟩ d e) (a2 0 h) (a2 1 h)
    (fun e => a3 ⟨h.val * 128 + e.val, by omega⟩) l e

/-- A chunk of the backward sequence, its positions counted from the chunk's start: the sum the other way round. -/
theorem sum_rev {C : ℕ} (f : Fin C → ℝ) : ∑ j : Fin C, f j = ∑ j : Fin C, f (Fin.rev j) :=
  (Equiv.sum_comp Fin.revPerm f).symm

end Cert.Ret
end
-- ==== Proof.RetChunk.lean ====
module

public import proofs.«01_k».proof.Proof.RetSpec

@[expose] public section

set_option maxRecDepth 16384

noncomputable section

/-! # The retention kernel's chunks are rows of the retention -/

namespace Cert.RetKernel

open Cert.KernelIdeal Cert.KernelIdeal.Gen Cert.Ret Idealize.ShloMosaic Idealize.ShloMosaic.TcCoe

/-- A chunk's row before its normalisation. -/
def oRow (q k v : Bf S1x256x128) (t2 t3 : Fl S1x256x128) (D : Fl S256x256) (a b : FVec Ideal S128x128 .f32) (il : Fin 256) (e : Fin 128) : EReal :=
  (∑ d : Fin 128, q (ix3 0 il d) * t2 (ix3 0 il d) * a (ix2 d e) + ∑ d : Fin 128, q (ix3 0 il d) * t3 (ix3 0 il d) * b (ix2 d e))
    + ∑ j : Fin 256, (∑ d : Fin 128, q (ix3 0 il d) * k (ix3 0 j d)) * D (ix2 il j) * v (ix3 0 j e)

/-- A sum over the 512 lanes of the three products side by side. -/
theorem sum512 (A B : Fin 128 → EReal) (C : Fin 256 → EReal) (f : Fin 512 → EReal)
    (hA : ∀ d : Fin 128, f ⟨d.val, by omega⟩ = A d) (hB : ∀ d : Fin 128, f ⟨d.val + 128, by omega⟩ = B d)
    (hC : ∀ j : Fin 256, f ⟨j.val + 256, by omega⟩ = C j) : ∑ x, f x = (∑ d, A d + ∑ d, B d) + ∑ j, C j := by
  rw [Fin.sum_univ_two_halves 256 256 rfl f, Fin.sum_univ_two_halves 128 128 rfl]
  congr 1
  · congr 1
    · exact Finset.sum_congr rfl fun d _ => hA d
    · refine Finset.sum_congr rfl fun d _ => ?_
      rw [← hB d]; congr 1; exact Fin.ext (by simp; try omega)
  · refine Finset.sum_congr rfl fun d _ => ?_
    rw [← hC d]; congr 1; exact Fin.ext (by simp; try omega)

/-- The row as one sum over the three products side by side. -/
def oSum (q k v : Bf S1x256x128) (t2 t3 : Fl S1x256x128) (D : Fl S256x256) (a b : FVec Ideal S128x128 .f32) (il : Fin 256) (e : Fin 128) : EReal :=
  ∑ x : Fin 512, (if h : x.val < 128 then q (ix3 0 il ⟨x.val, h⟩) * t2 (ix3 0 il ⟨x.val, h⟩)
      else if h : x.val - 128 < 128 then q (ix3 0 il ⟨x.val - 128, h⟩) * t3 (ix3 0 il ⟨x.val - 128, h⟩)
      else (∑ d : Fin 128, q (ix3 0 il d) * k (ix3 0 ⟨x.val - 128 - 128, by omega⟩ d)) * D (ix2 il ⟨x.val - 128 - 128, by omega⟩))
    * (if h : x.val < 128 then a (ix2 ⟨x.val, h⟩ e)
      else if h : x.val - 128 < 128 then b (ix2 ⟨x.val - 128, h⟩ e) else v (ix3 0 ⟨x.val - 128 - 128, by omega⟩ e))

theorem oSum_eq (q k v : Bf S1x256x128) (t2 t3 : Fl S1x256x128) (D : Fl S256x256) (a b : FVec Ideal S128x128 .f32) (il : Fin 256) (e : Fin 128) :
    oSum q k v t2 t3 D a b il e = oRow q k v t2 t3 D a b il e := by
  refine sum512 _ _ _ _ (fun d => ?_) (fun d => ?_) (fun j => ?_)
  · rw [dif_pos (show (⟨d.val, by omega⟩ : Fin 512).val < 128 from d.isLt), dif_pos (show (⟨d.val, by omega⟩ : Fin 512).val < 128 from d.isLt)]
  · have h1 : ¬ (⟨d.val + 128, by omega⟩ : Fin 512).val < 128 := by simp
    have h2 : (⟨d.val + 128, by omega⟩ : Fin 512).val - 128 < 128 := by simp
    have e2 : (⟨(⟨d.val + 128, by omega⟩ : Fin 512).val - 128, h2⟩ : Fin 128) = d := Fin.ext (by simp)
    rw [dif_neg h1, dif_pos h2, dif_neg h1, dif_pos h2, e2]
  · have h1 : ¬ (⟨j.val + 256, by omega⟩ : Fin 512).val < 128 := by simp
    have h2 : ¬ (⟨j.val + 256, by omega⟩ : Fin 512).val - 128 < 128 := by simp
    have e2 : (⟨(⟨j.val + 256, by omega⟩ : Fin 512).val - 128 - 128, by simp⟩ : Fin 256) = j := Fin.ext (by simp; try omega)
    rw [dif_neg h1, dif_neg h2, dif_neg h1, dif_neg h2, e2]

/-- A chunk's rows are normalised, and multiplied by the gain and the gate. -/
theorem chunkOut_at (q k v g : Bf S1x256x128) (gain : Fl S1x128) (T : Fl S6x256x128) (D : Fl S256x256)
    (a b : FVec Ideal S128x128 .f32) (il : Fin 256) (e : Fin 128) :
    chunkOut q k v g gain T D a b (ix3 0 il e)
      = norm (oRow q k v (tab2 T) (tab3 T) D a b il) e * gain (ix2 0 e) * g (ix3 0 il e) := by
  unfold chunkOut
  generalize tab2 T = t2
  generalize tab3 T = t3
  pointwise [k0_pay146, k0_pay143, k0_pay144, k0_pay145, k0_pay141, k0_pay142]
  rw [show oRow q k v t2 t3 D a b il = oSum q k v t2 t3 D a b il from funext fun e => (oSum_eq q k v t2 t3 D a b il e).symm]
  rfl

/-- Row `j` of chunk `n` is row `256 n + j`. -/
theorem rows_at (n : ℕ) (h : n < 16) (x : Bf S1x4096x128) (j : Fin 256) (d : Fin 128) :
    rows n h x (ix3 0 j d) = x (ix3 0 ⟨256 * n + j.val, by omega⟩ d) := by
  show x ((chunkRect n h).emb (ix3 0 j d)) = _
  congr 1
  funext a
  match a with
  | ⟨0, _⟩ => rfl
  | ⟨1, _⟩ => exact Fin.ext (by show 256 * n + 1 * j.val = 256 * n + j.val; omega)
  | ⟨2, _⟩ => exact Fin.ext (by show 0 + 1 * d.val = d.val; omega)

/-- The rows of a stream's block, and a state's block. -/
abbrev str (x : Bf S1x4096x128) : Fin 4096 → Fin 128 → EReal := fun l d => x (ix3 0 l d)
@[inherit_doc str] abbrev sts (s : Fl S1x1x128x128) : Fin 128 → Fin 128 → EReal := fun d e => s (ix4 0 0 d e)

theorem str_seqF (x : Bf S1x4096x128) (hx : ∀ i, x i = (((x i).toReal : ℝ) : EReal)) (l : ℕ) (h : l < 4096) (d : Fin 128) :
    x (ix3 0 ⟨l, h⟩ d) = ((seqF (str x) l d : ℝ) : EReal) := by
  rw [hx]; unfold seqF; rw [dif_pos h]

theorem seqB_seqF (X : Fin 4096 → Fin 128 → EReal) (i l : ℕ) (h : i + l = 4095) (d : Fin 128) : seqB X i d = seqF X l d := by
  have hi : i < 4096 := by omega
  have hl : l < 4096 := by omega
  unfold seqB seqF
  rw [dif_pos hi, dif_pos hl]
  congr 2
  exact Fin.ext (by show 4095 - i = l; omega)

/-- A chunk's weighted keys against its values. -/
theorem pay18_at (k v : Bf S1x256x128) (t : Fl S1x256x128) (d e : Fin 128) :
    k0_pay18 k v t (ix2 d e) = ∑ x : Fin 256, k (ix3 0 x d) * t (ix3 0 x d) * v (ix3 0 x e) := by
  pointwise [k0_pay18]
/-- The same for chunk `n` of two streams. -/
theorem pay18_rows (k v : Bf S1x4096x128) (t : Fl S1x256x128) (n : ℕ) (h : n < 16) (d e : Fin 128) :
    k0_pay18 (rows n h k) (rows n h v) t (ix2 d e)
      = ∑ x : Fin 256, k (ix3 0 ⟨256 * n + x.val, by omega⟩ d) * t (ix3 0 x d) * v (ix3 0 ⟨256 * n + x.val, by omega⟩ e) := by
  rw [pay18_at]
  exact Finset.sum_congr rfl fun x _ => by rw [rows_at, rows_at]
/-- A row of chunk `n` of three streams. -/
theorem oRow_rows (q k v : Bf S1x4096x128) (t2 t3 : Fl S1x256x128) (D : Fl S256x256) (a b : FVec Ideal S128x128 .f32) (n : ℕ) (h : n < 16) (il : Fin 256) (e : Fin 128) :
    oRow (rows n h q) (rows n h k) (rows n h v) t2 t3 D a b il e
      = (∑ d : Fin 128, q (ix3 0 ⟨256 * n + il.val, by omega⟩ d) * t2 (ix3 0 il d) * a (ix2 d e)
          + ∑ d : Fin 128, q (ix3 0 ⟨256 * n + il.val, by omega⟩ d) * t3 (ix3 0 il d) * b (ix2 d e))
        + ∑ j : Fin 256, (∑ d : Fin 128, q (ix3 0 ⟨256 * n + il.val, by omega⟩ d) * k (ix3 0 ⟨256 * n + j.val, by omega⟩ d)) * D (ix2 il j)
            * v (ix3 0 ⟨256 * n + j.val, by omega⟩ e) := by
  unfold oRow
  congr 1
  · congr 1
    · exact Finset.sum_congr rfl fun x _ => by rw [rows_at]
    · exact Finset.sum_congr rfl fun x _ => by rw [rows_at]
  · refine Finset.sum_congr rfl fun x _ => ?_
    rw [rows_at n h v]
    congr 2
    exact Finset.sum_congr rfl fun d _ => by rw [rows_at, rows_at]
theorem pay77_at (t : Fl S1x128x128) (d e : Fin 128) : k0_pay77 t (ix2 d e) = t (ix3 0 d e) := by
  pointwise [k0_pay77]
theorem pay79_at (t : Fl S1x1x128x128) (d e : Fin 128) : k0_pay79 t (ix2 d e) = t (ix4 0 0 d e) := by
  pointwise [k0_pay79]

/-- The six tables and the mask of a head whose two learned exponents are `z` and `w`. -/
structure Tabs (T : Fl S6x256x128) (D : Fl S256x256) (z w : EReal) : Prop where
  t0 : ∀ (j : Fin 256) (d : Fin 128), tab0 T (ix3 0 j d) = ((gam z ^ (255 - j.val) : ℝ) : EReal)
  t1 : ∀ (j : Fin 256) (d : Fin 128), tab1 T (ix3 0 j d) = ((gam w ^ j.val : ℝ) : EReal)
  t2 : ∀ (j : Fin 256) (d : Fin 128), tab2 T (ix3 0 j d) = ((gam z ^ (j.val + 1) : ℝ) : EReal)
  t3 : ∀ (j : Fin 256) (d : Fin 128), tab3 T (ix3 0 j d) = ((gam w ^ (256 - j.val) : ℝ) : EReal)
  t4 : ∀ (j d : Fin 128), tab4 T (ix3 0 j d) = ((gam z ^ 256 : ℝ) : EReal)
  t5 : ∀ (j d : Fin 128), tab5 T (ix3 0 j d) = ((gam w ^ 256 : ℝ) : EReal)
  mask : ∀ il j : Fin 256, D (ix2 il j)
    = (((if j.val ≤ il.val then gam z ^ (il.val - j.val) else 0) + (if il.val ≤ j.val then gam w ^ (j.val - il.val) else 0) : ℝ) : EReal)

section vals
variable (q k v g : Bf S1x4096x128) (s s' : Fl S1x1x128x128) (gain : Fl S1x128) (T : Fl S6x256x128) (D : Fl S256x256) (z w : EReal)
  (hq : ∀ i, q i = (((q i).toReal : ℝ) : EReal)) (hk : ∀ i, k i = (((k i).toReal : ℝ) : EReal)) (hv : ∀ i, v i = (((v i).toReal : ℝ) : EReal))
  (ht : Tabs T D z w)
include hq hk hv ht

/-- The forward state before chunk `n` is the state after the first `256 n` positions. -/
theorem sF_at : ∀ (n : ℕ) (h : n ≤ 16) (d e : Fin 128), sF k v s T n h (ix2 d e) = TF (str k) (str v) (sts s) z (256 * n) d e
  | 0, _, d, e => by
    show k0_pay79 s (ix2 d e) = _
    rw [pay79_at]
    rfl
  | n + 1, h, d, e => by
    show sF k v s T n _ (ix2 d e) * k0_pay77 (tab4 T) (ix2 d e) + k0_pay18 (rows n (show n < 16 from h) k) (rows n (show n < 16 from h) v) (tab0 T) (ix2 d e) = _
    rw [sF_at n, pay77_at, pay18_rows, ht.t4]
    simp only [ht.t0, str_seqF k hk, str_seqF v hv, ← EReal.coe_mul, ← coe_sum]
    show _ = TE (gam z) _ _ _ (256 * n + 256) d e
    rw [TE_chunk]
    congr 2
    exact Finset.sum_congr rfl fun j _ => by ring

/-- The backward state after the last `j` chunks is the state after the last `256 j` positions. -/
theorem sB_at : ∀ (n : ℕ) (h : n ≤ 16) (d e : Fin 128), sB k v s' T n h (ix2 d e) = TB (str k) (str v) (sts s') w (256 * n) d e
  | 0, _, d, e => by
    show k0_pay79 s' (ix2 d e) = _
    rw [pay79_at]
    rfl
  | n + 1, h, d, e => by
    show sB k v s' T n _ (ix2 d e) * k0_pay77 (tab5 T) (ix2 d e) + k0_pay18 (rows (15 - n) (show 15 - n < 16 by omega) k) (rows (15 - n) (show 15 - n < 16 by omega) v) (tab1 T) (ix2 d e) = _
    rw [sB_at n, pay77_at, pay18_rows, ht.t5]
    simp only [ht.t1, str_seqF k hk, str_seqF v hv, ← EReal.coe_mul, ← coe_sum]
    show _ = TE (gam w) _ _ _ (256 * n + 256) d e
    rw [TE_chunk]
    congr 2
    rw [sum_rev]
    refine Finset.sum_congr rfl fun j _ => ?_
    have hj : (Fin.rev j).val = 255 - j.val := by rw [Fin.val_rev]; omega
    rw [hj, seqB_seqF (str k) (256 * n + j.val) (256 * (15 - n) + (255 - j.val)) (by omega),
      seqB_seqF (str v) (256 * n + j.val) (256 * (15 - n) + (255 - j.val)) (by omega)]
    ring

/-- A chunk's row before its normalisation is the retention's row. -/
theorem oRow_at (n : ℕ) (h : n < 16) (il : Fin 256) (e : Fin 128) :
    oRow (rows n h q) (rows n h k) (rows n h v) (tab2 T) (tab3 T) D (sF k v s T n (Nat.le_of_lt h)) (sB k v s' T (15 - n) (by omega)) il e
      = O (str q) (str k) (str v) (sts s) (sts s') z w (256 * n + il.val) e := by
  rw [oRow_rows]
  simp only [ht.t2, ht.t3, ht.mask, str_seqF q hq, str_seqF k hk, str_seqF v hv, sF_at q k v s T D z w hq hk hv ht,
    sB_at q k v s' T D z w hq hk hv ht, ← EReal.coe_mul, ← coe_sum]
  unfold O
  have eF := TE_out (gam z) (seqF (str k)) (seqF (str v)) (sts s) (256 * n) 256 il.val il.isLt (seqF (str q) (256 * n + il.val)) e
  have eB := TE_out (gam w) (seqB (str k)) (seqB (str v)) (sts s') (256 * (15 - n)) 256 (255 - il.val) (by omega) (seqF (str q) (256 * n + il.val)) e
  rw [show 256 * (15 - n) + (255 - il.val) + 1 = 4096 - (256 * n + il.val) from by omega, show 255 - il.val + 1 = 256 - il.val from by omega,
    sum_rev (fun j : Fin 256 => (∑ d, seqF (str q) (256 * n + il.val) d * seqB (str k) (256 * (15 - n) + j.val) d)
      * (if j.val ≤ 255 - il.val then gam w ^ (255 - il.val - j.val) else 0) * seqB (str v) (256 * (15 - n) + j.val) e)] at eB
  unfold TF TB
  rw [eF, eB, add_add_add_comm, ← EReal.coe_add, ← Finset.sum_add_distrib, ← Finset.sum_add_distrib]
  refine congrArg₂ (· + ·) rfl (congrArg _ ?_)
  refine Finset.sum_congr rfl fun j _ => ?_
  have hj : (Fin.rev j).val = 255 - j.val := by rw [Fin.val_rev]; omega
  have hd : ∀ d, seqB (str k) (256 * (15 - n) + (Fin.rev j).val) d = seqF (str k) (256 * n + j.val) d := fun d => seqB_seqF _ _ _ (by omega) d
  simp only [hd, seqB_seqF (str v) (256 * (15 - n) + (Fin.rev j).val) (256 * n + j.val) (by omega)]
  have c : ((Fin.rev j).val ≤ 255 - il.val) ↔ (il.val ≤ j.val) := by omega
  have x : 255 - il.val - (Fin.rev j).val = j.val - il.val := by omega
  simp only [c, x]
  ring

/-- The block's rows are the gated retention's. -/
theorem block_at (l : Fin 4096) (e : Fin 128) :
    block q k v g s s' gain T D (ix3 0 l e)
      = Row (str q) (str k) (str v) (str g) (sts s) (sts s') z w (fun e => gain (ix2 0 e)) l e := by
  have hl : 256 * (l.val / 256) + l.val % 256 = l.val := by omega
  have h16 : l.val / 256 < 16 := by omega
  show chunk q k v g s s' gain T D (l.val / 256) h16 (ix3 0 ⟨l.val % 256, Nat.mod_lt _ (by decide)⟩ e) = _
  unfold chunk
  rw [chunkOut_at, show oRow (rows (l.val / 256) h16 q) (rows (l.val / 256) h16 k) (rows (l.val / 256) h16 v) (tab2 T) (tab3 T) D
        (sF k v s T (l.val / 256) (Nat.le_of_lt h16)) (sB k v s' T (15 - l.val / 256) (by omega)) ⟨l.val % 256, Nat.mod_lt _ (by decide)⟩
      = O (str q) (str k) (str v) (sts s) (sts s') z w l.val from
    funext fun e' => by
      rw [oRow_at q k v s s' T D z w hq hk hv ht (l.val / 256) h16 ⟨l.val % 256, Nat.mod_lt _ (by decide)⟩ e']
      simp only [hl]]
  unfold Row
  rw [rows_at]
  simp only [hl]

end vals

end Cert.RetKernel
end
-- ==== Proof.RetValue.lean ====
module

public import proofs.«01_k».proof.Proof.RetChunk

@[expose] public section

set_option maxRecDepth 16384

noncomputable section

/-! # The retention kernel's result, as one function of its arguments -/

namespace Cert.RetKernel

open Cert.KernelIdeal Cert.KernelIdeal.Gen Cert.Ret Idealize.ShloMosaic Idealize.ShloMosaic.TcCoe Idealize.SL.Sem
open Idealize.ShloMosaic.Pipeline (Dat)

/-- The row of a head's forward decay among the eight, and of its backward decay. -/
abbrev rF (h : Fin 4) : Fin 8 := ⟨h.val, by omega⟩
@[inherit_doc rF] abbrev rB (h : Fin 4) : Fin 8 := ⟨4 + h.val, by omega⟩

/-! ## The tables the first point of a head fills -/

/-- The forward direction's row is the head's row of the decays, -/
theorem rowF_at (i : grid0.Coords) (h : Fin 4) (hi : i 0 = h) (x : Fl S8x128) (d : Fin 128) : rowF i x (ix2 0 d) = x (ix2 (rF h) d) := by
  subst hi
  have e : ∀ n : ℕ, n < 4 → BitVec.toNat (Scalar.indexCast (BitVec.ofNat 32 n)) = n := by decide +kernel
  show x _ = _
  congr 1
  funext a
  match a with
  | ⟨0, _⟩ => exact Fin.ext ((Nat.add_zero _).trans (e _ (i 0).isLt))
  | ⟨1, _⟩ => exact Fin.ext (by show 0 + 1 * d.val = d.val; omega)

/-- and the backward direction's row the fourth after it. -/
theorem rowB_at (i : grid0.Coords) (h : Fin 4) (hi : i 0 = h) (x : Fl S8x128) (d : Fin 128) : rowB i x (ix2 0 d) = x (ix2 (rB h) d) := by
  subst hi
  have e : ∀ n : ℕ, n < 4 → BitVec.toNat (Scalar.indexCast (Scalar.addi (BitVec.ofNat 32 n) 4#32)) = 4 + n := by decide +kernel
  show x _ = _
  congr 1
  funext a
  match a with
  | ⟨0, _⟩ => exact Fin.ext ((Nat.add_zero _).trans (e _ (i 0).isLt))
  | ⟨1, _⟩ => exact Fin.ext (by show 0 + 1 * d.val = d.val; omega)

/-- What the tables hold: table `n`, row `j`, for the decays `γ` forward and `δ` backward. -/
def tabVal (γ δ : ℝ) (n j : ℕ) : EReal :=
  match n with
  | 0 => ((γ ^ (255 - j) : ℝ) : EReal)
  | 1 => ((δ ^ j : ℝ) : EReal)
  | 2 => ((γ ^ (j + 1) : ℝ) : EReal)
  | 3 => ((δ ^ (256 - j) : ℝ) : EReal)
  | 4 => ((γ ^ 256 : ℝ) : EReal)
  | _ => ((δ ^ 256 : ℝ) : EReal)

section tabs
variable (i : grid0.Coords) (h : Fin 4) (hi : i 0 = h) (x : Fl S8x128) (z w : EReal)
  (hz : ∀ d : Fin 128, x (ix2 (rF h) d) = z) (hw : ∀ d : Fin 128, x (ix2 (rB h) d) = w)
include hi hz hw

theorem TAB_at (y : S6x256x128.Idx) : TAB i x y = tabVal (gam z) (gam w) (y 0).val (y 1).val := by
  have hF : ∀ d : Fin 128, rowF i x (ix2 0 d) = z := fun d => (rowF_at i h hi x d).trans (hz d)
  have hB : ∀ d : Fin 128, rowB i x (ix2 0 d) = w := fun d => (rowB_at i h hi x d).trans (hw d)
  have hx : ∀ x : S1x256x128.Idx, ∃ (j : Fin 256) (d : Fin 128), x = ix3 0 j d := by
    intro x
    refine ⟨x 1, x 2, ?_⟩
    funext a
    match a with
    | ⟨0, _⟩ => exact Subsingleton.elim (α := Fin 1) _ _
    | ⟨1, _⟩ => rfl
    | ⟨2, _⟩ => rfl
  refine View.read_writes_apply_of_pieces VS0_0 _ (fun y => tabVal (gam z) (gam w) (y 0).val (y 1).val) (tables i x) ?_ y (tables_cover i x y)
  simp only [List.forall_mem_cons]
  refine ⟨fun y => ?_, fun y => ?_, fun y => ?_, fun y => ?_, fun y => ?_, fun y => ?_, by simp⟩ <;> obtain ⟨j, d, rfl⟩ := hx y
  · rw [pay11_at _ w hB]; rfl
  · rw [pay10_at _ z hF]; rfl
  · rw [pay9_at _ w hB]; show _ = (((gam w) ^ (256 - (0 + 1 * j.val)) : ℝ) : EReal); rw [Nat.zero_add, Nat.one_mul]
  · rw [pay7_at _ z hF]; show _ = (((gam z) ^ ((0 + 1 * j.val) + 1) : ℝ) : EReal); rw [Nat.zero_add, Nat.one_mul]
  · rw [pay6_at _ w hB]; show _ = (((gam w) ^ (0 + 1 * j.val) : ℝ) : EReal); rw [Nat.zero_add, Nat.one_mul]
  · rw [pay5_at _ z hF]; show _ = (((gam z) ^ (255 - (0 + 1 * j.val)) : ℝ) : EReal); rw [Nat.zero_add, Nat.one_mul]

/-- The first point of a head fills the tables with the powers of the head's decays. -/
theorem tabs_of : Tabs (TAB i x) (MASK i x) z w where
  t0 j d := by
    show TAB i x _ = _
    rw [TAB_at i h hi x z w hz hw]; show ((gam z ^ (255 - (0 + 1 * j.val)) : ℝ) : EReal) = _; rw [Nat.zero_add, Nat.one_mul]
  t1 j d := by
    show TAB i x _ = _
    rw [TAB_at i h hi x z w hz hw]; show ((gam w ^ (0 + 1 * j.val) : ℝ) : EReal) = _; rw [Nat.zero_add, Nat.one_mul]
  t2 j d := by
    show TAB i x _ = _
    rw [TAB_at i h hi x z w hz hw]; show ((gam z ^ ((0 + 1 * j.val) + 1) : ℝ) : EReal) = _; rw [Nat.zero_add, Nat.one_mul]
  t3 j d := by
    show TAB i x _ = _
    rw [TAB_at i h hi x z w hz hw]; show ((gam w ^ (256 - (0 + 1 * j.val)) : ℝ) : EReal) = _; rw [Nat.zero_add, Nat.one_mul]
  t4 j d := by
    show TAB i x _ = _
    rw [TAB_at i h hi x z w hz hw]; rfl
  t5 j d := by
    show TAB i x _ = _
    rw [TAB_at i h hi x z w hz hw]; rfl
  mask il j := pay17_at _ z (fun d => (rowF_at i h hi x d).trans (hz d)) _ w (fun d => (rowB_at i h hi x d).trans (hw d)) il j

end tabs

/-! ## What the region's windows read -/

variable (m : (ℓ : Loc nD τ sig) → Buf (Elt Ideal) ℓ) (ρ : Dev nD → PrngReg)

/-- The decays as the region finds them: row `r` of the eight holds exponent `r % 4` of direction `r / 4` in every lane. -/
theorem V_main_v2 (c : Dev nD) (r : Fin 8) (d : Fin 128) :
    (V m c main_v2 : Fl S8x128) (ix2 r d) = (m ((c : Thread nD τ).loc main_arg2) : Fl S1x2x4) (ix3 0 ⟨r.val / 4, by omega⟩ ⟨r.val % 4, by omega⟩) := by
  have h : (V m c main_v2 : Fl S8x128) = broadcastInDim S8x128 ![0, 1] bcast_S8x1_S8x128_0_1
      (shapeCast S8x1 (shapeCast S2x4 (m ((c : Thread nD τ).loc main_arg2) : Fl S1x2x4) shapeCasts_S1x2x4_S2x4) shapeCasts_S2x4_S8x1) := by
    show StableHlo.after hostOps0 _ (Proc.devRef .tc main_v2) = _
    after_results
    rfl
  rw [h]
  generalize (m ((c : Thread nD τ).loc main_arg2) : Fl S1x2x4) = w
  pointwise
  try rfl

/-- Each point's head is `t / 8`, its batch element `t % 8`; the block each window reads there. -/
theorem index_all : ∀ t : Fin cfg0.N, ((win0_0.index t = ![t.val % 8, 0, t.val / 8] ∧ win0_1.index t = ![t.val % 8, 0, 4 + t.val / 8]
    ∧ win0_2.index t = ![t.val % 8, 0, 8 + t.val / 8] ∧ win0_3.index t = ![t.val % 8, 0, 12 + t.val / 8]) ∧ win0_8.index t = ![t.val % 8, 0, t.val / 8])
    ∧ (win0_4.index t = ![t.val % 8, t.val / 8, 0, 0] ∧ win0_5.index t = ![t.val % 8, 4 + t.val / 8, 0, 0])
    ∧ win0_6.index t = ![0, 0] ∧ win0_7.index t = ![0, t.val / 8] ∧ (grid0.coords t 0).val = t.val / 8 :=
  (by decide +kernel : ∀ t : Fin grid0.N, ((win0_0.index t = ![t.val % 8, 0, t.val / 8] ∧ win0_1.index t = ![t.val % 8, 0, 4 + t.val / 8]
    ∧ win0_2.index t = ![t.val % 8, 0, 8 + t.val / 8] ∧ win0_3.index t = ![t.val % 8, 0, 12 + t.val / 8]) ∧ win0_8.index t = ![t.val % 8, 0, t.val / 8])
    ∧ (win0_4.index t = ![t.val % 8, t.val / 8, 0, 0] ∧ win0_5.index t = ![t.val % 8, 4 + t.val / 8, 0, 0])
    ∧ win0_6.index t = ![0, 0] ∧ win0_7.index t = ![0, t.val / 8] ∧ (grid0.coords t 0).val = t.val / 8)

theorem t_lt (t : Fin cfg0.N) : t.val < 32 := lt_of_lt_of_eq t.isLt N_0

/-- The point's batch element, and its head. -/
def bt (t : Fin cfg0.N) : Fin 8 := ⟨t.val % 8, by omega⟩
@[inherit_doc bt] def ht (t : Fin cfg0.N) : Fin 4 := ⟨t.val / 8, by have := t_lt t; omega⟩

/-- An index of the streams inside a head's block: its batch element, row and lane. -/
theorem emb3 {N : ℕ} (x : (⟨3, ![8, 4096, N]⟩ : Shape).Idx) (idx : Fin 3 → ℕ) (b o : ℕ) (e : idx = ![b, 0, o]) (l : Fin 4096) (d : Fin 128)
    (hb : b < 8) (ho : o * 128 + d.val < N) (h0 : (x 0).val = idx 0 * 1 + 1 * 0) (h1 : (x 1).val = idx 1 * 4096 + 1 * l.val)
    (h2 : (x 2).val = idx 2 * 128 + 1 * d.val) : x = ix3 ⟨b, hb⟩ l ⟨o * 128 + d.val, ho⟩ := by
  subst e
  funext a
  apply Fin.ext
  match a with
  | ⟨0, _⟩ => rw [show (x ⟨0, _⟩).val = _ from h0]; show b * 1 + 1 * 0 = b; omega
  | ⟨1, _⟩ => rw [show (x ⟨1, _⟩).val = _ from h1]; show 0 * 4096 + 1 * l.val = l.val; omega
  | ⟨2, _⟩ => rw [show (x ⟨2, _⟩).val = _ from h2]; show o * 128 + 1 * d.val = o * 128 + d.val; omega

/-- An index of the context states inside a head's block. -/
theorem emb4 (x : (⟨4, ![8, 8, 128, 128]⟩ : Shape).Idx) (idx : Fin 4 → ℕ) (b o : ℕ) (e : idx = ![b, o, 0, 0]) (d d' : Fin 128)
    (hb : b < 8) (ho : o < 8) (h0 : (x 0).val = idx 0 * 1 + 1 * 0) (h1 : (x 1).val = idx 1 * 1 + 1 * 0)
    (h2 : (x 2).val = idx 2 * 128 + 1 * d.val) (h3 : (x 3).val = idx 3 * 128 + 1 * d'.val) : x = ix4 ⟨b, hb⟩ ⟨o, ho⟩ d d' := by
  subst e
  funext a
  apply Fin.ext
  match a with
  | ⟨0, _⟩ => rw [show (x ⟨0, _⟩).val = _ from h0]; show b * 1 + 1 * 0 = b; omega
  | ⟨1, _⟩ => rw [show (x ⟨1, _⟩).val = _ from h1]; show o * 1 + 1 * 0 = o; omega
  | ⟨2, _⟩ => rw [show (x ⟨2, _⟩).val = _ from h2]; show 0 * 128 + 1 * d.val = d.val; omega
  | ⟨3, _⟩ => rw [show (x ⟨3, _⟩).val = _ from h3]; show 0 * 128 + 1 * d'.val = d'.val; omega

/-- The arguments, by their coordinates. -/
abbrev A0 (c : Dev nD) : Fin 8 → Fin 4096 → Fin 2048 → EReal := fun b l j => (m ((c : Thread nD τ).loc main_arg0) : Bf S8x4096x2048) (ix3 b l j)
@[inherit_doc A0] abbrev A1 (c : Dev nD) : Fin 8 → Fin 8 → Fin 128 → Fin 128 → EReal := fun b h d e => (m ((c : Thread nD τ).loc main_arg1) : Fl S8x8x128x128) (ix4 b h d e)
@[inherit_doc A0] abbrev A2 (c : Dev nD) : Fin 2 → Fin 4 → EReal := fun r h => (m ((c : Thread nD τ).loc main_arg2) : Fl S1x2x4) (ix3 0 r h)
@[inherit_doc A0] abbrev A3 (c : Dev nD) : Fin 512 → EReal := fun j => (m ((c : Thread nD τ).loc main_arg3) : Fl S1x512) (ix2 0 j)

/-- The queries of the point's head. -/
theorem blk0 (c : Dev nD) (t : Fin cfg0.N) (l : Fin 4096) (d : Fin 128) :
    (iblk m c 0 t : Bf S1x4096x128) (ix3 0 l d) = A0 m c (bt t) l ⟨(ht t).val * 128 + d.val, by omega⟩ := by
  unfold iblk
  rw [show V m c (Pipeline.arrRef spec0 0) = m ((c : Thread nD τ).loc main_arg0) from V_main_arg0 m c]
  show (m ((c : Thread nD τ).loc main_arg0) : Bf S8x4096x2048) _ = (m ((c : Thread nD τ).loc main_arg0) : Bf S8x4096x2048) _
  congr 1
  obtain ⟨⟨⟨e, -, -, -⟩, -⟩, -⟩ := index_all t
  have := t_lt t
  exact emb3 _ (win0_0.index t) _ _ e l d (by omega) (by omega) rfl rfl rfl

/-- The keys of the point's head. -/
theorem blk1 (c : Dev nD) (t : Fin cfg0.N) (l : Fin 4096) (d : Fin 128) :
    (iblk m c 1 t : Bf S1x4096x128) (ix3 0 l d) = A0 m c (bt t) l ⟨(4 + (ht t).val) * 128 + d.val, by omega⟩ := by
  unfold iblk
  rw [show V m c (Pipeline.arrRef spec0 1) = m ((c : Thread nD τ).loc main_arg0) from V_main_arg0 m c]
  show (m ((c : Thread nD τ).loc main_arg0) : Bf S8x4096x2048) _ = (m ((c : Thread nD τ).loc main_arg0) : Bf S8x4096x2048) _
  congr 1
  obtain ⟨⟨⟨-, e, -, -⟩, -⟩, -⟩ := index_all t
  have := t_lt t
  exact emb3 _ (win0_1.index t) _ _ e l d (by omega) (by omega) rfl rfl rfl

/-- The values of the point's head. -/
theorem blk2 (c : Dev nD) (t : Fin cfg0.N) (l : Fin 4096) (d : Fin 128) :
    (iblk m c 2 t : Bf S1x4096x128) (ix3 0 l d) = A0 m c (bt t) l ⟨(8 + (ht t).val) * 128 + d.val, by omega⟩ := by
  unfold iblk
  rw [show V m c (Pipeline.arrRef spec0 2) = m ((c : Thread nD τ).loc main_arg0) from V_main_arg0 m c]
  show (m ((c : Thread nD τ).loc main_arg0) : Bf S8x4096x2048) _ = (m ((c : Thread nD τ).loc main_arg0) : Bf S8x4096x2048) _
  congr 1
  obtain ⟨⟨⟨-, -, e, -⟩, -⟩, -⟩ := index_all t
  have := t_lt t
  exact emb3 _ (win0_2.index t) _ _ e l d (by omega) (by omega) rfl rfl rfl

/-- The gate of the point's head. -/
theorem blk3 (c : Dev nD) (t : Fin cfg0.N) (l : Fin 4096) (d : Fin 128) :
    (iblk m c 3 t : Bf S1x4096x128) (ix3 0 l d) = A0 m c (bt t) l ⟨(12 + (ht t).val) * 128 + d.val, by omega⟩ := by
  unfold iblk
  rw [show V m c (Pipeline.arrRef spec0 3) = m ((c : Thread nD τ).loc main_arg0) from V_main_arg0 m c]
  show (m ((c : Thread nD τ).loc main_arg0) : Bf S8x4096x2048) _ = (m ((c : Thread nD τ).loc main_arg0) : Bf S8x4096x2048) _
  congr 1
  obtain ⟨⟨⟨-, -, -, e⟩, -⟩, -⟩ := index_all t
  have := t_lt t
  exact emb3 _ (win0_3.index t) _ _ e l d (by omega) (by omega) rfl rfl rfl

/-- The forward context state of the point's head. -/
theorem blk4 (c : Dev nD) (t : Fin cfg0.N) (d e' : Fin 128) :
    (iblk m c 4 t : Fl S1x1x128x128) (ix4 0 0 d e') = A1 m c (bt t) ⟨(ht t).val, by omega⟩ d e' := by
  unfold iblk
  rw [show V m c (Pipeline.arrRef spec0 4) = m ((c : Thread nD τ).loc main_arg1) from V_main_arg1 m c]
  show (m ((c : Thread nD τ).loc main_arg1) : Fl S8x8x128x128) _ = (m ((c : Thread nD τ).loc main_arg1) : Fl S8x8x128x128) _
  congr 1
  obtain ⟨-, ⟨e, -⟩, -⟩ := index_all t
  have := t_lt t
  exact emb4 _ (win0_4.index t) _ _ e d e' (by omega) (by omega) rfl rfl rfl rfl

/-- The backward context state of the point's head. -/
theorem blk5 (c : Dev nD) (t : Fin cfg0.N) (d e' : Fin 128) :
    (iblk m c 5 t : Fl S1x1x128x128) (ix4 0 0 d e') = A1 m c (bt t) ⟨4 + (ht t).val, by omega⟩ d e' := by
  unfold iblk
  rw [show V m c (Pipeline.arrRef spec0 5) = m ((c : Thread nD τ).loc main_arg1) from V_main_arg1 m c]
  show (m ((c : Thread nD τ).loc main_arg1) : Fl S8x8x128x128) _ = (m ((c : Thread nD τ).loc main_arg1) : Fl S8x8x128x128) _
  congr 1
  obtain ⟨-, ⟨-, e⟩, -⟩ := index_all t
  have := t_lt t
  exact emb4 _ (win0_5.index t) _ _ e d e' (by omega) (by omega) rfl rfl rfl rfl

/-- The decays, whole. -/
theorem blk6 (c : Dev nD) (t : Fin cfg0.N) (r : Fin 8) (d : Fin 128) :
    (iblk m c 6 t : Fl S8x128) (ix2 r d) = A2 m c ⟨r.val / 4, by omega⟩ ⟨r.val % 4, by omega⟩ := by
  refine Eq.trans ?_ (V_main_v2 m c r d)
  unfold iblk
  rw [show V m c (Pipeline.arrRef spec0 6) = V m c main_v2 from rfl]
  generalize V m c main_v2 = w
  show (w : Fl S8x128) _ = _
  congr 1
  obtain ⟨-, -, e, -⟩ := index_all t
  funext a
  apply Fin.ext
  match a with
  | ⟨0, _⟩ => show win0_6.index t 0 * 8 + 1 * r.val = r.val; rw [e]; show 0 * 8 + 1 * r.val = r.val; omega
  | ⟨1, _⟩ => show win0_6.index t 1 * 128 + 1 * d.val = d.val; rw [e]; show 0 * 128 + 1 * d.val = d.val; omega

/-- The gain of the point's head. -/
theorem blk7 (c : Dev nD) (t : Fin cfg0.N) (d : Fin 128) :
    (iblk m c 7 t : Fl S1x128) (ix2 0 d) = A3 m c ⟨(ht t).val * 128 + d.val, by omega⟩ := by
  unfold iblk
  rw [show V m c (Pipeline.arrRef spec0 7) = m ((c : Thread nD τ).loc main_arg3) from V_main_arg3 m c]
  show (m ((c : Thread nD τ).loc main_arg3) : Fl S1x512) _ = (m ((c : Thread nD τ).loc main_arg3) : Fl S1x512) _
  congr 1
  obtain ⟨-, -, -, e, -⟩ := index_all t
  funext a
  apply Fin.ext
  match a with
  | ⟨0, _⟩ => show win0_7.index t 0 * 1 + 1 * 0 = 0; rw [e]; show 0 * 1 + 1 * 0 = 0; omega
  | ⟨1, _⟩ => show win0_7.index t 1 * 128 + 1 * d.val = t.val / 8 * 128 + d.val; rw [e]; show t.val / 8 * 128 + 1 * d.val = _; omega

/-! ## The points one after another -/

/-- The first point of a head fills the tables from the decays it reads. -/
theorem scr_A (c : Dev nD) (t : Fin cfg0.N) (h0 : t.val % 8 = 0) :
    (outsAt0 m c t.val t.isLt).2.1 = TAB (F := Ideal) (grid0.coords t) (iblk m c 6 t) ∧ (outsAt0 m c t.val t.isLt).2.2 = MASK (F := Ideal) (grid0.coords t) (iblk m c 6 t) := by
  rw [outsAt0_A m c t h0]
  dsimp only
  rw [sout_0, sout_1]
  exact ⟨rfl, rfl⟩

/-- Every other point leaves them as it found them. -/
theorem scr_B (c : Dev nD) (t : Fin cfg0.N) (h0 : ¬t.val % 8 = 0) :
    (outsAt0 m c t.val t.isLt).2 = (outsAt0 m c (t.val - 1) (Nat.lt_of_le_of_lt (Nat.sub_le _ _) t.isLt)).2 := by
  rw [outsAt0_B m c t h0]
  rfl

/-- At a head's first point they are the head's. -/
theorem tabs_first (c : Dev nD) (t : Fin cfg0.N) (h0 : t.val % 8 = 0) :
    Tabs (outsAt0 m c t.val t.isLt).2.1 (outsAt0 m c t.val t.isLt).2.2 (A2 m c 0 (ht t)) (A2 m c 1 (ht t)) := by
  rw [(scr_A m c t h0).1, (scr_A m c t h0).2]
  have e : grid0.coords t 0 = ht t := Fin.ext (index_all t).2.2.2.2
  have hh := (ht t).isLt
  refine tabs_of (grid0.coords t) (ht t) e _ _ _ (fun d => (blk6 m c t _ d).trans ?_) (fun d => (blk6 m c t _ d).trans ?_)
  · rw [show (⟨(ht t).val / 4, by omega⟩ : Fin 2) = 0 from Fin.ext (by show (ht t).val / 4 = 0; omega),
      show (⟨(ht t).val % 4, by omega⟩ : Fin 4) = ht t from Fin.ext (by show (ht t).val % 4 = (ht t).val; omega)]
  · rw [show (⟨(4 + (ht t).val) / 4, by omega⟩ : Fin 2) = 1 from Fin.ext (by show (4 + (ht t).val) / 4 = 1; omega),
      show (⟨(4 + (ht t).val) % 4, by omega⟩ : Fin 4) = ht t from Fin.ext (by show (4 + (ht t).val) % 4 = (ht t).val; omega)]

/-- After every point the tables are those of its head. -/
theorem tabs_at (c : Dev nD) (n : ℕ) : ∀ (h : n < cfg0.N),
    Tabs (outsAt0 m c n h).2.1 (outsAt0 m c n h).2.2 (A2 m c 0 (ht ⟨n, h⟩)) (A2 m c 1 (ht ⟨n, h⟩)) := by
  induction n with
  | zero => intro h; exact tabs_first m c ⟨0, h⟩ rfl
  | succ n ih =>
    intro h
    by_cases h0 : (n + 1) % 8 = 0
    · exact tabs_first m c ⟨n + 1, h⟩ h0
    · rw [scr_B m c ⟨n + 1, h⟩ h0]
      have e : ht ⟨n + 1, h⟩ = ht ⟨n, Nat.lt_of_succ_lt h⟩ := Fin.ext (by show (n + 1) / 8 = n / 8; omega)
      rw [e]
      exact ih (Nat.lt_of_succ_lt h)

/-- What every point leaves in the output's block. -/
theorem outs_at (c : Dev nD) (t : Fin cfg0.N) : ∃ T D, Tabs T D (A2 m c 0 (ht t)) (A2 m c 1 (ht t))
    ∧ (outsAt0 m c t.val t.isLt).1 = block (F := Ideal) (iblk m c 0 t) (iblk m c 1 t) (iblk m c 2 t) (iblk m c 3 t) (iblk m c 4 t) (iblk m c 5 t) (iblk m c 7 t) T D := by
  refine ⟨(outsAt0 m c t.val t.isLt).2.1, (outsAt0 m c t.val t.isLt).2.2, tabs_at m c t.val t.isLt, ?_⟩
  by_cases h0 : t.val % 8 = 0
  · rw [outsAt0_A m c t h0]
    dsimp only
    rw [sout_0, sout_1, out_A]
  · rw [outsAt0_B m c t h0]
    dsimp only
    rw [out_B]
    rfl

/-- The queries, keys and values are real numbers. -/
structure Real (c : Dev nD) : Prop where
  qkv : ∀ b l (j : Fin 2048), j.val < 1536 → A0 m c b l j = (((A0 m c b l j).toReal : ℝ) : EReal)

/-- The kernel's result: each lane belongs to a head. -/
def GK (c : Dev nD) : Bf S8x4096x512 := fun i =>
  HeadRow (A0 m c) (A1 m c) (A2 m c) (A3 m c) (i 0) ⟨(i 2).val / 128, by have : (i 2).val < 512 := (i 2).isLt; omega⟩ (i 1)
    ⟨(i 2).val % 128, Nat.mod_lt _ (by decide)⟩

theorem idx3 (i : S1x4096x128.Idx) : i = ix3 0 (i 1) (i 2) := by
  funext a
  match a with
  | ⟨0, _⟩ => exact Subsingleton.elim (α := Fin 1) _ _
  | ⟨1, _⟩ => rfl
  | ⟨2, _⟩ => rfl

/-- A block whose entries are real numbers, by its coordinates. -/
theorem real3 (x : Bf S1x4096x128) (f : Fin 4096 → Fin 128 → EReal) (hx : ∀ l d, x (ix3 0 l d) = f l d)
    (hf : ∀ l d, f l d = (((f l d).toReal : ℝ) : EReal)) (i : S1x4096x128.Idx) : x i = (((x i).toReal : ℝ) : EReal) := by
  obtain ⟨l, d, rfl⟩ : ∃ l d, i = ix3 0 l d := ⟨i 1, i 2, idx3 i⟩
  rw [hx]
  exact hf _ _

/-- The block of point `t` is its head's rows. -/
theorem blockOf (c : Dev nD) (hr : Real m c) (t : Fin cfg0.N) (T : Fl S6x256x128) (D : Fl S256x256)
    (hT : Tabs T D (A2 m c 0 (ht t)) (A2 m c 1 (ht t))) (l : Fin 4096) (e : Fin 128) :
    block (F := Ideal) (iblk m c 0 t) (iblk m c 1 t) (iblk m c 2 t) (iblk m c 3 t) (iblk m c 4 t) (iblk m c 5 t) (iblk m c 7 t) T D (ix3 0 l e)
      = HeadRow (A0 m c) (A1 m c) (A2 m c) (A3 m c) (bt t) (ht t) l e := by
  have hh := (ht t).isLt
  refine (block_at (iblk m c 0 t) (iblk m c 1 t) (iblk m c 2 t) (iblk m c 3 t) (iblk m c 4 t) (iblk m c 5 t) (iblk m c 7 t) T D _ _
    (real3 _ _ (blk0 m c t) fun l d => hr.qkv _ _ _ (by show (ht t).val * 128 + d.val < 1536; omega))
    (real3 _ _ (blk1 m c t) fun l d => hr.qkv _ _ _ (by show (4 + (ht t).val) * 128 + d.val < 1536; omega))
    (real3 _ _ (blk2 m c t) fun l d => hr.qkv _ _ _ (by show (8 + (ht t).val) * 128 + d.val < 1536; omega))
    hT l e).trans ?_
  unfold HeadRow
  congr 1
  · funext l d; exact blk0 m c t l d
  · funext l d; exact blk1 m c t l d
  · funext l d; exact blk2 m c t l d
  · funext l d; exact blk3 m c t l d
  · funext d e; exact blk4 m c t d e
  · funext d e; exact blk5 m c t d e
  · funext d; exact blk7 m c t d

/-- What point `t` writes back is the result on its block. -/
theorem flushed_eq (c : Dev nD) (hr : Real m c) (t : Fin cfg0.N) :
    (dats m 0 c).flushed 8 t = ((cfg0.win 8).blk t).view.read (Elt Ideal) (GK m c) := by
  obtain ⟨T, D, hT, e⟩ := outs_at m c t
  rw [Cert.KernelIdeal.Value.flushed8, e]
  funext y
  rw [idx3 y]
  refine (blockOf m c hr t T D hT (y 1) (y 2)).trans ?_
  have y2 : (y 2).val < 128 := (y 2).isLt
  obtain ⟨⟨-, e⟩, -⟩ := index_all t
  show _ = GK m c (((win0_8.rect t)).emb _)
  unfold GK
  congr 1
  · exact Fin.ext (by show t.val % 8 = win0_8.index t 0 * 1 + 1 * 0; rw [e]; show _ = t.val % 8 * 1 + 1 * 0; omega)
  · exact Fin.ext (by show t.val / 8 = (win0_8.index t 2 * 128 + 1 * (y 2).val) / 128; rw [e]; show _ = (t.val / 8 * 128 + 1 * (y 2).val) / 128; omega)
  · exact Fin.ext (by show (y 1).val = win0_8.index t 1 * 4096 + 1 * (y 1).val; rw [e]; show _ = 0 * 4096 + 1 * (y 1).val; omega)
  · exact Fin.ext (by show (y 2).val = (win0_8.index t 2 * 128 + 1 * (y 2).val) % 128; rw [e]; show _ = (t.val / 8 * 128 + 1 * (y 2).val) % 128; omega)

/-- An index of the array is in point `t`'s block when its batch element and its head are the point's. -/
theorem mem_blk (t : Fin cfg0.N) (i : S8x4096x512.Idx) (h0 : (i 0).val = t.val % 8) (h2 : (i 2).val / 128 = t.val / 8) :
    i ∈ ((cfg0.win 8).blk t).view.set := by
  show i ∈ ((View.whole main_v3).slice (win0_8.rect t)).set
  rw [View.set_slice_whole, Rect.mem_set_unit]
  obtain ⟨⟨-, e⟩, -⟩ := index_all t
  have i1 : (i 1).val < 4096 := (i 1).isLt
  intro a
  match a with
  | ⟨0, _⟩ => show win0_8.index t 0 * 1 ≤ (i 0).val ∧ (i 0).val < win0_8.index t 0 * 1 + 1; rw [e]; show t.val % 8 * 1 ≤ (i 0).val ∧ (i 0).val < t.val % 8 * 1 + 1; omega
  | ⟨1, _⟩ => show win0_8.index t 1 * 4096 ≤ (i 1).val ∧ (i 1).val < win0_8.index t 1 * 4096 + 4096; rw [e]; show 0 * 4096 ≤ (i 1).val ∧ (i 1).val < 0 * 4096 + 4096; omega
  | ⟨2, _⟩ => show win0_8.index t 2 * 128 ≤ (i 2).val ∧ (i 2).val < win0_8.index t 2 * 128 + 128; rw [e]; show t.val / 8 * 128 ≤ (i 2).val ∧ (i 2).val < t.val / 8 * 128 + 128; omega

/-- Every grid point writes its block back. -/
theorem flushes : ∀ t : Fin cfg0.N, (cfg0.win 8).flush t = true :=
  (by decide +kernel : ∀ t : Fin grid0.N, win0_8.flush t = true)

/-- The array after the run. -/
theorem final (c : Dev nD) (hr : Real m c) : (dats m 0 c).arrAt 8 cfg0.N = GK m c :=
  (dats m 0 c).arrAt_eq_of_cover 8 _ (fun t _ => flushed_eq m c hr t) (fun i => by
    have i0 : (i 0).val < 8 := (i 0).isLt
    have i2 : (i 2).val < 512 := (i 2).isLt
    have hN : (i 2).val / 128 * 8 + (i 0).val < cfg0.N := by rw [show cfg0.N = 32 from N_0]; omega
    refine ⟨⟨(i 2).val / 128 * 8 + (i 0).val, hN⟩, flushes _, mem_blk _ i ?_ ?_⟩
    · show (i 0).val = ((i 2).val / 128 * 8 + (i 0).val) % 8; omega
    · show (i 2).val / 128 = ((i 2).val / 128 * 8 + (i 0).val) / 8; omega)

end Cert.RetKernel
end
-- ==== Proof.RetRefRun.lean ====
module

public import proofs.«01_k».proof.Proof.Gen.ReferenceIdeal.Run
public import proofs.«01_k».proof.Defs

@[expose] public section

set_option maxRecDepth 16384

noncomputable section

/-! # The retention reference's run: its arguments end unchanged -/

namespace Cert.RetRef

open Cert.ReferenceIdeal Cert.ReferenceIdeal.Gen Cert.ReferenceIdeal.Value
open Idealize.ShloMosaic Idealize.ShloMosaic.TcCoe Idealize.ShloMosaic.StableHlo Idealize.SL.Sem

variable (m : (ℓ : Loc nD τ sig) → Buf (Elt Ideal) ℓ) (ρ : Dev nD → PrngReg)

/-- What the stretches before the loop write. -/
abbrev preW : List (Ref sig .tc) := hostOps0_W ++ hostOps0_1_W ++ hostOps0_2_W ++ hostOps0_3_W ++ hostOps0_4_W ++ hostOps0_5_W ++ hostOps0_6_W ++ hostOps0_7_W ++ hostOps0_8_W
/-- What one trip of the loop writes, its condition included. -/
abbrev tripW : List (Ref sig .tc) := condOps_W ++ while0Ops0_W ++ while0Ops0_1_W ++ while0Ops0_2_W ++ while0Ops0_3_W

/-- A buffer no operation before the loop writes is at the loop's entry as at the launch. -/
theorem entry_keep (c : Dev nD) (r : Ref sig .tc) (h : r ∉ preW) :
    entryContents preI m c (Proc.devRef .tc r) = launchContents m c (Proc.devRef .tc r) := by
  simp only [preW, List.mem_append, not_or] at h
  obtain ⟨⟨⟨⟨⟨⟨⟨⟨h0, h1⟩, h2⟩, h3⟩, h4⟩, h5⟩, h6⟩, h7⟩, h8⟩ := h
  show after hostOps0_8 (after hostOps0_7 (after hostOps0_6 (after hostOps0_5 (after hostOps0_4 (after hostOps0_3 (after hostOps0_2 (after hostOps0_1 (after hostOps0 _)))))))) _ = _
  rw [after_of_writes_sub _ _ hostOps0_8_writes h8, after_of_writes_sub _ _ hostOps0_7_writes h7, after_of_writes_sub _ _ hostOps0_6_writes h6,
    after_of_writes_sub _ _ hostOps0_5_writes h5, after_of_writes_sub _ _ hostOps0_4_writes h4, after_of_writes_sub _ _ hostOps0_3_writes h3,
    after_of_writes_sub _ _ hostOps0_2_writes h2, after_of_writes_sub _ _ hostOps0_1_writes h1, after_of_writes_sub _ _ hostOps0_writes h0]

/-- A buffer no trip writes is before the `k`-th condition as at the loop's entry. -/
theorem atK_keep (c : Dev nD) (r : Ref sig .tc) (h : r ∉ tripW) : ∀ k, atK m k c (Proc.devRef .tc r) = entryContents preI m c (Proc.devRef .tc r)
  | 0 => rfl
  | k + 1 => by
    have ih := atK_keep c r h k
    simp only [tripW, List.mem_append, not_or] at h
    obtain ⟨⟨⟨⟨hc, h0⟩, h1⟩, h2⟩, h3⟩ := h
    show after while0Ops0_3 (after while0Ops0_2 (after while0Ops0_1 (after while0Ops0 (after condOps (atK m k c))))) _ = _
    rw [after_of_writes_sub _ _ while0Ops0_3_writes h3, after_of_writes_sub _ _ while0Ops0_2_writes h2, after_of_writes_sub _ _ while0Ops0_1_writes h1,
      after_of_writes_sub _ _ while0Ops0_writes h0, after_of_writes_sub _ _ condOps_writes hc, ih]

/-- Every buffer's contents after the last condition. -/
abbrev atEnd (c : Dev nD) : Valuation τ sig (Elt Ideal) := after condOps (atK m 32 c)

theorem atEnd_keep (c : Dev nD) (r : Ref sig .tc) (h : r ∉ tripW) : atEnd m c (Proc.devRef .tc r) = entryContents preI m c (Proc.devRef .tc r) := by
  have hc : r ∉ condOps_W := fun hr => h (by simp only [tripW, List.mem_append]; exact Or.inl (Or.inl (Or.inl (Or.inl hr))))
  rw [atEnd, after_of_writes_sub _ _ condOps_writes hc, atK_keep m c r h]

/-- The end: the stretches after the loop, from the contents after its last condition. -/
theorem final_eq (c : Dev nD) : finalContents condOps preI bodyI postI 32 m c = after hostOps0_11 (after hostOps0_10 (after hostOps0_9 (atEnd m c))) := rfl

/-- The arguments end as they were. -/
theorem final_arg0 (c : Dev nD) : finalContents condOps preI bodyI postI 32 m c (Proc.devRef .tc main_arg0) = m (c.tc.loc main_arg0) := by
  rw [final_eq]
  after_reads_simp
  rw [atK_keep m c _ (by decide), entry_keep m c _ (by decide)]
@[inherit_doc final_arg0]
theorem final_arg1 (c : Dev nD) : finalContents condOps preI bodyI postI 32 m c (Proc.devRef .tc main_arg1) = m (c.tc.loc main_arg1) := by
  rw [final_eq]
  after_reads_simp
  rw [atK_keep m c _ (by decide), entry_keep m c _ (by decide)]
@[inherit_doc final_arg0]
theorem final_arg2 (c : Dev nD) : finalContents condOps preI bodyI postI 32 m c (Proc.devRef .tc main_arg2) = m (c.tc.loc main_arg2) := by
  rw [final_eq]
  after_reads_simp
  rw [atK_keep m c _ (by decide), entry_keep m c _ (by decide)]
@[inherit_doc final_arg0]
theorem final_arg3 (c : Dev nD) : finalContents condOps preI bodyI postI 32 m c (Proc.devRef .tc main_arg3) = m (c.tc.loc main_arg3) := by
  rw [final_eq]
  after_reads_simp
  rw [atK_keep m c _ (by decide), entry_keep m c _ (by decide)]

/-- The reference's run: its result is what the fold leaves, its arguments are unchanged. -/
theorem run : θ_run (defs (F := Ideal)) (onTc (τ := τ) (main (F := Ideal))) ⟨m, fun _ => 0, ρ⟩ (fun r => ∀ c : Dev nD,
    r.2.mem (c.tc.loc main_v108) = finalContents condOps preI bodyI postI 32 m c (Proc.devRef .tc main_v108)
    ∧ r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3)) :=
  (θ_run _ _ _).mono (fun r h c => ⟨h c main_v108 rfl, (h c main_arg0 rfl).trans (final_arg0 m c), (h c main_arg1 rfl).trans (final_arg1 m c),
    (h c main_arg2 rfl).trans (final_arg2 m c), (h c main_arg3 rfl).trans (final_arg3 m c)⟩) (run_fold m ρ)

/-- The reference's frame, with every semaphore counter back at zero. -/
theorem frame : θ_run (defs (F := Ideal)) (onTc (τ := τ) (main (F := Ideal))) ⟨m, fun _ => 0, ρ⟩ (fun r => (∀ c : Dev nD,
    r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3)) ∧ r.2.sem = fun _ => 0) :=
  (θ_run _ _ _).mono (fun r h => ⟨fun c => (h c).2, sem_eq_zero_of_no_sems (by decide) r.2⟩) (run m ρ)

end Cert.RetRef
end
-- ==== Proof.RetRefTerms.lean ====
module

public import proofs.«01_k».proof.Proof.RetRefRun
public import proofs.«01_k».proof.Proof.RetSpec

@[expose] public section

set_option maxRecDepth 16384

noncomputable section

/-! # The retention reference, stage by stage -/

namespace Cert.RetRef

open Cert.ReferenceIdeal Cert.ReferenceIdeal.Gen Cert.ReferenceIdeal.Value Cert.Ret
open Idealize.ShloMosaic Idealize.ShloMosaic.TcCoe Idealize.ShloMosaic.StableHlo Idealize.SL.Sem

/-- An array of the program, of half-precision and of single-precision numbers. -/
abbrev Bf (S : Shape) := FVec Ideal S .bf16
@[inherit_doc Bf] abbrev Fl (S : Shape) := FVec Ideal S .f32

/-- A stream's four heads, each before the other's. -/
def heads (x : Fl S8x4096x512) : Fl S8x4x4096x128 :=
  transpose S8x4x4096x128 [0, 2, 1, 3] (shapeCast S8x4096x4x128 x shapeCasts_S8x4096x512_S8x4096x4x128) transposes_S8x4096x4x128_S8x4x4096x128_0_2_1_3

/-- The heads in order, and after them the heads from the last position back. -/
def both (x : Fl S8x4x4096x128) : Fl S8x8x4096x128 :=
  concatenate S8x8x4096x128 1 [⟨S8x4x4096x128, x⟩, ⟨S8x4x4096x128, Host.reverse [2] x⟩] concatenates_S8x4x4096x128_S8x4x4096x128_S8x8x4096x128_d1

/-- A stream in chunks of 128 positions. -/
def chunks (x : Fl S8x8x4096x128) : Fl S8x8x32x128x128 := shapeCast S8x8x32x128x128 x shapeCasts_S8x8x4096x128_S8x8x32x128x128

/-- The logarithms of the eight decays. -/
def lgs (x : Fl S1x2x4) : Fl S8 := shapeCast S8 (Host.log1p (Host.negf (Host.exp (shapeCast S2x4 x shapeCasts_S1x2x4_S2x4)))) shapeCasts_S2x4_S8

/-- The positions of a chunk. -/
def pos : Fl S128 := sitofp .f32 (iotaInDim S128 32 0)

/-- The difference of two positions. -/
def diff : Fl S128x128 :=
  subf (broadcastInDim S128x128 ![0, 1] bcast_S128x1_S128x128_0_1 (broadcastInDim S128x1 ![0] bcast_S128_S128x1_0 pos))
    (broadcastInDim S128x128 ![0, 1] bcast_S1x128_S128x128_0_1 (broadcastInDim S1x128 ![1] bcast_S128_S1x128_1 pos))

/-- The decay from a position to a later one, zero to an earlier one. -/
def mask (l : Fl S8) : Fl S8x128x128 :=
  select (broadcastInDim S8x128x128 ![1, 2] bcast_S128x128_S8x128x128_1_2 (cmpf .oge diff (broadcastInDim S128x128 ![] bcast_S_S128x128 (constant S_ .f32 0x00000000#32))))
    (Host.exp (mulf (broadcastInDim S8x128x128 ![0, 1, 2] bcast_S8x1x1_S8x128x128_0_1_2 (broadcastInDim S8x1x1 ![0] bcast_S8_S8x1x1_0 l))
      (broadcastInDim S8x128x128 ![0, 1, 2] bcast_S1x128x128_S8x128x128_0_1_2 (broadcastInDim S1x128x128 ![1, 2] bcast_S128x128_S1x128x128_1_2
        (maximumf diff (broadcastInDim S128x128 ![] bcast_S_S128x128 (constant S_ .f32 0x00000000#32)))))))
    (broadcastInDim S8x128x128 ![] bcast_S_S8x128x128 (constant S_ .f32 0x00000000#32))

/-- A chunk's own positions: the scores, decayed, against the values. -/
def inner (q k v : Fl S8x8x32x128x128) (d : Fl S8x128x128) : Fl S8x8x32x128x128 :=
  Host.dotGeneral dot_S8x8x32x128x128_S8x8x32x128x128_S8x8x32x128x128_4_3_3_4_012_012 none
    (mulf (Host.dotGeneral dot_S8x8x32x128x128_S8x8x32x128x128_S8x8x32x128x128_4_4_3_3_012_012 none q k)
      (broadcastInDim S8x8x32x128x128 ![0, 1, 2, 3, 4] bcast_S1x8x1x128x128_S8x8x32x128x128_0_1_2_3_4 (broadcastInDim S1x8x1x128x128 ![1, 3, 4] bcast_S8x128x128_S1x8x1x128x128_1_3_4 d))) v

/-- The exponential of a head's logarithm times a number of each position, along a stream. -/
def weights (l : Fl S8) (n : Fl S128) : Fl S8x8x32x128x128 :=
  broadcastInDim S8x8x32x128x128 ![0, 1, 2, 3, 4] bcast_S1x8x1x128x1_S8x8x32x128x128_0_1_2_3_4 (broadcastInDim S1x8x1x128x1 ![1, 3] bcast_S8x128_S1x8x1x128x1_1_3
    (Host.exp (mulf (broadcastInDim S8x128 ![0, 1] bcast_S8x1_S8x128_0_1 (broadcastInDim S8x1 ![0] bcast_S8_S8x1_0 l))
      (broadcastInDim S8x128 ![0, 1] bcast_S1x128_S8x128_0_1 (broadcastInDim S1x128 ![1] bcast_S128_S1x128_1 n)))))

/-- What each chunk adds to the state. -/
def kvs (k v : Fl S8x8x32x128x128) (l : Fl S8) (i : Fl S128) : Fl S32x8x8x128x128 :=
  Host.dotGeneral dot_S8x8x32x128x128_S8x8x32x128x128_S32x8x8x128x128_3_3_4_4_201_201 none
    (mulf k (weights l (subf (broadcastInDim S128 ![] bcast_S_S128 (constant S_ .f32 0x42FE0000#32)) i))) v

/-- A whole chunk's decay. -/
def decs (l : Fl S8) : Fl S1x8x1x1 :=
  broadcastInDim S1x8x1x1 ![1] bcast_S8_S1x8x1x1_1 (Host.exp (mulf l (broadcastInDim S8 ![] bcast_S_S8 (constant S_ .f32 0x43000000#32))))

/-- The retention of all eight, from the chunks' own part and the states before the chunks. -/
def outs (q inn : Fl S8x8x32x128x128) (z : Fl S32x8x8x128x128) (l : Fl S8) (i : Fl S128) : Fl S8x8x4096x128 :=
  shapeCast S8x8x4096x128 (addf inn (Host.dotGeneral dot_S8x8x32x128x128_S32x8x8x128x128_S8x8x32x128x128_4_3_3_4_012_120 none
    (mulf q (weights l (addf i (broadcastInDim S128 ![] bcast_S_S128 (constant S_ .f32 0x3F800000#32))))) z)) shapeCasts_S8x8x32x128x128_S8x8x4096x128

/-- The two directions of each head added, the second from its last position back. -/
def comb (o : Fl S8x8x4096x128) : Fl S8x4x4096x128 :=
  addf (extractStridedSlice S8x4x4096x128 ![0, 0, 0, 0] o slices_S8x8x4096x128_S8x4x4096x128_0_0_0_0)
    (Host.reverse [2] (extractStridedSlice S8x4x4096x128 ![0, 4, 0, 0] o slices_S8x8x4096x128_S8x4x4096x128_0_4_0_0))

/-- A row's mean. -/
def means (o : Fl S8x4x4096x128) : Fl S8x4x4096x1 :=
  Host.divf (broadcastInDim S8x4x4096x1 ![0, 1, 2] bcast_S8x4x4096_S8x4x4096x1_0_1_2 (Host.reduceAdd o (constant S_ .f32 0x00000000#32) reducesTo_S8x4x4096x128_S8x4x4096_d3 h_S_))
    (broadcastInDim S8x4x4096x1 ![] bcast_S_S8x4x4096x1 (constant S_ .f32 0x43000000#32))

/-- A row minus its mean. -/
def cent (o : Fl S8x4x4096x128) : Fl S8x4x4096x128 :=
  subf o (broadcastInDim S8x4x4096x128 ![0, 1, 2, 3] bcast_S8x4x4096x1_S8x4x4096x128_0_1_2_3 (means o))

/-- The rows normalised, times the gain and the gate. -/
def gout (o : Fl S8x4x4096x128) (g : Fl S1x512) (x : Fl S8x4096x2048) : Bf S8x4096x512 :=
  truncf .bf16 (mulf (mulf (shapeCast S8x4096x512 (transpose S8x4096x4x128 [0, 2, 1, 3]
      (mulf (cent o) (broadcastInDim S8x4x4096x128 ![0, 1, 2, 3] bcast_S8x4x4096x1_S8x4x4096x128_0_1_2_3
        (Host.rsqrt (addf (means (mulf (cent o) (cent o))) (broadcastInDim S8x4x4096x1 ![] bcast_S_S8x4x4096x1 (constant S_ .f32 0x358637BD#32))))))
      transposes_S8x4x4096x128_S8x4096x4x128_0_2_1_3) shapeCasts_S8x4096x4x128_S8x4096x512)
    (broadcastInDim S8x4096x512 ![0, 1, 2] bcast_S1x1x512_S8x4096x512_0_1_2 (broadcastInDim S1x1x512 ![2] bcast_S512_S1x1x512_2 (shapeCast S512 g shapeCasts_S1x512_S512))))
    (extractStridedSlice S8x4096x512 ![0, 0, 1536] x slices_S8x4096x2048_S8x4096x512_0_0_1536)) bitsLt_bf16_f32

/-! ## What each stretch of the program computes -/

section stretches
variable (X : Valuation τ sig (Elt Ideal))

/-- What the program reads at a buffer. -/
abbrev rd (X : Valuation τ sig (Elt Ideal)) (r : Ref sig .tc) : (Proc.devRef .tc r : DevRef τ sig).ty.Contents (Elt Ideal) := X (Proc.devRef .tc r)

theorem s8_inner : (rd (after hostOps0_8 X) main_v45 : Fl S8x8x32x128x128) = inner (rd X main_v21) (rd X main_v22) (rd X main_v23) (rd X main_v40) := by
  unfold rd; after_reads_simp; rfl
theorem s8_kvs : (rd (after hostOps0_8 X) main_v63_0 : Fl S32x8x8x128x128) = kvs (rd X main_v22) (rd X main_v23) (rd X main_v20) (rd X main_v24) := by
  unfold rd; after_reads_simp; rfl
theorem s8_decs : (rd (after hostOps0_8 X) main_v63_1 : Fl S1x8x1x1) = decs (rd X main_v20) := by
  unfold rd; after_reads_simp; rfl
theorem s8_ctr : (rd (after hostOps0_8 X) main_v63_2 : IVec S_ 32) = constantI S_ 32 0#32 := by
  unfold rd; after_reads_simp; rfl
theorem s8_state : (rd (after hostOps0_8 X) main_v63_3 : Fl S8x8x128x128) = rd X main_arg1 := by
  unfold rd; after_reads_simp; rfl

theorem s67_mask : (rd (after hostOps0_7 (after hostOps0_6 X)) main_v40 : Fl S8x128x128)
    = mask (shapeCast S8 (rd X main_v13 : Fl S2x4) shapeCasts_S2x4_S8) := by
  unfold rd; after_reads_simp; rfl
theorem s67_l : (rd (after hostOps0_7 (after hostOps0_6 X)) main_v20 : Fl S8) = shapeCast S8 (rd X main_v13 : Fl S2x4) shapeCasts_S2x4_S8 := by
  unfold rd; after_reads_simp; rfl
theorem s67_pos : (rd (after hostOps0_7 (after hostOps0_6 X)) main_v24 : Fl S128) = pos := by
  unfold rd; after_reads_simp; rfl
theorem s67_q : (rd (after hostOps0_7 (after hostOps0_6 X)) main_v21 : Fl S8x8x32x128x128) = chunks (rd X main_v15) := by
  unfold rd; after_reads_simp; rfl
theorem s67_k : (rd (after hostOps0_7 (after hostOps0_6 X)) main_v22 : Fl S8x8x32x128x128) = chunks (rd X main_v17) := by
  unfold rd; after_reads_simp; rfl
theorem s67_v : (rd (after hostOps0_7 (after hostOps0_6 X)) main_v23 : Fl S8x8x32x128x128)
    = chunks (concatenate S8x8x4096x128 1 [⟨S8x4x4096x128, (rd X main_v9 : Fl S8x4x4096x128)⟩, ⟨S8x4x4096x128, (rd X main_v18 : Fl S8x4x4096x128)⟩] concatenates_S8x4x4096x128_S8x4x4096x128_S8x8x4096x128_d1) := by
  unfold rd; after_reads_simp; rfl

/-- The contents after the first six stretches. -/
abbrev X5 : Valuation τ sig (Elt Ideal) := after hostOps0_5 (after hostOps0_4 (after hostOps0_3 (after hostOps0_2 (after hostOps0_1 (after hostOps0 X)))))

theorem s5_x : (rd (X5 X) main_v0 : Fl S8x4096x2048) = (extf .f32 (rd X main_arg0 : Bf S8x4096x2048) bitsLt_bf16_f32 : Fl S8x4096x2048) := by
  unfold rd; after_reads_simp; try rfl
theorem s5_q : (rd (X5 X) main_v15 : Fl S8x8x4096x128)
    = both (heads (extractStridedSlice S8x4096x512 ![0, 0, 0] (extf .f32 (rd X main_arg0 : Bf S8x4096x2048) bitsLt_bf16_f32) slices_S8x4096x2048_S8x4096x512_0_0_0)) := by
  unfold rd; after_reads_simp; rfl
theorem s5_k : (rd (X5 X) main_v17 : Fl S8x8x4096x128)
    = both (heads (extractStridedSlice S8x4096x512 ![0, 0, 512] (extf .f32 (rd X main_arg0 : Bf S8x4096x2048) bitsLt_bf16_f32) slices_S8x4096x2048_S8x4096x512_0_0_512)) := by
  unfold rd; after_reads_simp; rfl
theorem s5_v9 : (rd (X5 X) main_v9 : Fl S8x4x4096x128)
    = heads (extractStridedSlice S8x4096x512 ![0, 0, 1024] (extf .f32 (rd X main_arg0 : Bf S8x4096x2048) bitsLt_bf16_f32) slices_S8x4096x2048_S8x4096x512_0_0_1024) := by
  unfold rd; after_reads_simp; rfl
theorem s5_v18 : (rd (X5 X) main_v18 : Fl S8x4x4096x128)
    = Host.reverse [2] (heads (extractStridedSlice S8x4096x512 ![0, 0, 1024] (extf .f32 (rd X main_arg0 : Bf S8x4096x2048) bitsLt_bf16_f32) slices_S8x4096x2048_S8x4096x512_0_0_1024)) := by
  unfold rd; after_reads_simp; rfl
theorem s5_l : (rd (X5 X) main_v13 : Fl S2x4) = (Host.log1p (Host.negf (Host.exp (shapeCast S2x4 (rd X main_arg2 : Fl S1x2x4) shapeCasts_S1x2x4_S2x4))) : Fl S2x4) := by
  unfold rd; after_reads_simp; rfl

theorem post : (rd (after hostOps0_11 (after hostOps0_10 (after hostOps0_9 X))) main_v108 : Bf S8x4096x512)
    = gout (comb (outs (rd X main_v21) (rd X main_v45) (rd X main_v63_4) (rd X main_v20) (rd X main_v24))) (rd X main_arg3) (rd X main_v0) := by
  unfold rd; after_reads_simp; rfl

end stretches

end Cert.RetRef
end
-- ==== Proof.RetRefAt.lean ====
module

public import proofs.«01_k».proof.Proof.RetRefTerms

@[expose] public section

set_option maxRecDepth 16384

noncomputable section

/-! # The retention reference's stages, entry by entry -/

namespace Cert.RetRef

open Cert.ReferenceIdeal Cert.ReferenceIdeal.Gen Cert.ReferenceIdeal.Value Cert.Ret
open Idealize.ShloMosaic Idealize.ShloMosaic.TcCoe Idealize.ShloMosaic.StableHlo Idealize.SL.Sem

/-- A head's forward direction among the eight, and its backward direction. -/
abbrev hF (h : Fin 4) : Fin 8 := ⟨h.val, by omega⟩
@[inherit_doc hF] abbrev hB (h : Fin 4) : Fin 8 := ⟨4 + h.val, by omega⟩
/-- A position's chunk, and its place there. -/
abbrev pc (l : Fin 4096) : Fin 32 := ⟨l.val / 128, by omega⟩
@[inherit_doc pc] abbrev pj (l : Fin 4096) : Fin 128 := ⟨l.val % 128, by omega⟩
/-- The position at a place of a chunk. -/
abbrev at' (n : Fin 32) (j : Fin 128) : Fin 4096 := ⟨n.val * 128 + j.val, by omega⟩
/-- The position as far from the end. -/
abbrev bk (l : Fin 4096) : Fin 4096 := ⟨4095 - l.val, by omega⟩

theorem heads_at (x : Fl S8x4096x512) (b : Fin 8) (h : Fin 4) (l : Fin 4096) (d : Fin 128) :
    heads x (ix4 b h l d) = x (ix3 b l ⟨h.val * 128 + d.val, by omega⟩) := by
  pointwise [heads]

theorem both_fwd (x : Fl S8x4x4096x128) (b : Fin 8) (h : Fin 4) (l : Fin 4096) (d : Fin 128) :
    both x (ix4 b (hF h) l d) = x (ix4 b h l d) := by
  pointwise [both]

/-- A stream reversed along its positions. -/
theorem rev_at (x : Fl S8x4x4096x128) (b : Fin 8) (h : Fin 4) (l : Fin 4096) (d : Fin 128) :
    Host.reverse [2] x (ix4 b h l d) = x (ix4 b h (bk l) d) := by
  show x _ = _
  congr 1
  funext a
  match a with
  | ⟨0, _⟩ => rfl
  | ⟨1, _⟩ => rfl
  | ⟨2, _⟩ => exact Fin.ext (by show 4096 - (l.val + 1) = 4095 - l.val; omega)
  | ⟨3, _⟩ => rfl

/-- The second half of two groups of heads, one after the other. -/
theorem cat_bwd (x y : Fl S8x4x4096x128) (b : Fin 8) (h : Fin 4) (l : Fin 4096) (d : Fin 128) :
    concatenate S8x8x4096x128 1 [⟨S8x4x4096x128, x⟩, ⟨S8x4x4096x128, y⟩] concatenates_S8x4x4096x128_S8x4x4096x128_S8x8x4096x128_d1 (ix4 b (hB h) l d) = y (ix4 b h l d) := by
  pointwise []

theorem both_bwd (x : Fl S8x4x4096x128) (b : Fin 8) (h : Fin 4) (l : Fin 4096) (d : Fin 128) :
    both x (ix4 b (hB h) l d) = x (ix4 b h (bk l) d) := (cat_bwd x _ b h l d).trans (rev_at x b h l d)

theorem chunks_at (x : Fl S8x8x4096x128) (b hh : Fin 8) (n : Fin 32) (j d : Fin 128) :
    chunks x (ix5 b hh n j d) = x (ix4 b hh (at' n j) d) := by
  pointwise [chunks]

theorem lgs_at (x : Fl S1x2x4) (r : Fin 2) (h : Fin 4) : lgs x (ix1 ⟨4 * r.val + h.val, by omega⟩) = lg (x (ix3 0 r h)) := by
  pointwise [lgs]
  rw [lg, zero_sub]

theorem pos_at (j : Fin 128) : pos (ix1 j) = ((j.val : ℝ) : EReal) := by
  pointwise [pos]
  show (((BitVec.ofNat 32 j.val).toInt : ℝ) : EReal) = _
  rw [toInt_ofNat _ (by omega), Int.cast_natCast]

theorem diff_at (i j : Fin 128) : diff (ix2 i j) = pos (ix1 i) - pos (ix1 j) := by
  pointwise [diff]

theorem mask_at (l : Fl S8) (hh : Fin 8) (i j : Fin 128) :
    mask l (ix3 hh i j) = if (0 : EReal) ≤ diff (ix2 i j) then Ideal.exp (l (ix1 hh) * max (diff (ix2 i j)) 0) else 0 := by
  pointwise [mask]

theorem inner_at (q k v : Fl S8x8x32x128x128) (M : Fl S8x128x128) (b hh : Fin 8) (n : Fin 32) (i e : Fin 128) :
    inner q k v M (ix5 b hh n i e) = ∑ j : Fin 128, ((∑ d : Fin 128, q (ix5 b hh n i d) * k (ix5 b hh n j d)) * M (ix3 hh i j)) * v (ix5 b hh n j e) := by
  pointwise [inner]

theorem weights_at (l : Fl S8) (w : Fl S128) (b hh : Fin 8) (n : Fin 32) (i d : Fin 128) :
    weights l w (ix5 b hh n i d) = Ideal.exp (l (ix1 hh) * w (ix1 i)) := by
  pointwise [weights]

theorem kvs_at (k v : Fl S8x8x32x128x128) (l : Fl S8) (w : Fl S128) (n : Fin 32) (b hh : Fin 8) (d e : Fin 128) :
    kvs k v l w (ix5 n b hh d e) = ∑ j : Fin 128, (k (ix5 b hh n j d) * Ideal.exp (l (ix1 hh) * (((127 : ℕ) : ℝ) - w (ix1 j)))) * v (ix5 b hh n j e) := by
  rw [← c127]
  pointwise [kvs, weights]

theorem decs_at (l : Fl S8) (hh : Fin 8) : decs l (ix4 0 hh 0 0) = Ideal.exp (l (ix1 hh) * ((128 : ℕ) : ℝ)) := by
  rw [← c128]
  pointwise [decs]

theorem outs_at (q inn : Fl S8x8x32x128x128) (z : Fl S32x8x8x128x128) (l : Fl S8) (w : Fl S128) (b hh : Fin 8) (p : Fin 4096) (e : Fin 128) :
    outs q inn z l w (ix4 b hh p e) = inn (ix5 b hh (pc p) (pj p) e)
      + ∑ d : Fin 128, (q (ix5 b hh (pc p) (pj p) d) * Ideal.exp (l (ix1 hh) * (w (ix1 (pj p)) + 1))) * z (ix5 (pc p) b hh d e) := by
  rw [← Ideal.ofBits_one_f32]
  pointwise [outs, weights]

theorem comb_at (o : Fl S8x8x4096x128) (b : Fin 8) (h : Fin 4) (l : Fin 4096) (e : Fin 128) :
    comb o (ix4 b h l e) = o (ix4 b (hF h) l e) + o (ix4 b (hB h) (bk l) e) := by
  have e : comb o (ix4 b h l e) = extractStridedSlice S8x4x4096x128 ![0, 0, 0, 0] o slices_S8x8x4096x128_S8x4x4096x128_0_0_0_0 (ix4 b h l e)
    + Host.reverse [2] (extractStridedSlice S8x4x4096x128 ![0, 4, 0, 0] o slices_S8x8x4096x128_S8x4x4096x128_0_4_0_0) (ix4 b h l e) := rfl
  rw [e, rev_at]
  pointwise []

theorem means_at (o : Fl S8x4x4096x128) (b : Fin 8) (h : Fin 4) (l : Fin 4096) :
    means o (ix4 b h l 0) = Ideal.div (∑ e : Fin 128, o (ix4 b h l e)) (Ideal.ofBits .f32 1124073472#32) := by
  pointwise [means]

theorem cent_at (o : Fl S8x4x4096x128) (b : Fin 8) (h : Fin 4) (l : Fin 4096) (e : Fin 128) :
    cent o (ix4 b h l e) = o (ix4 b h l e) - means o (ix4 b h l 0) := by
  pointwise [cent]

theorem gout_at (o : Fl S8x4x4096x128) (g : Fl S1x512) (x : Fl S8x4096x2048) (b : Fin 8) (l : Fin 4096) (h : Fin 4) (e : Fin 128) :
    gout o g x (ix3 b l ⟨h.val * 128 + e.val, by omega⟩)
      = (cent o (ix4 b h l e) * Ideal.rsqrt (means (mulf (cent o) (cent o)) (ix4 b h l 0) + Ideal.ofBits .f32 897988541#32))
        * g (ix2 0 ⟨h.val * 128 + e.val, by omega⟩) * x (ix3 b l ⟨(12 + h.val) * 128 + e.val, by omega⟩) := by
  pointwise [gout]
  congr 3
  exact Fin.ext (by show 1536 + (h.val * 128 + e.val) = (12 + h.val) * 128 + e.val; omega)

end Cert.RetRef
end
-- ==== Proof.RetRefLoop.lean ====
module

public import proofs.«01_k».proof.Proof.RetRefAt
public import Idealize.ShloMosaic.Lib.WordCmp

@[expose] public section

set_option maxRecDepth 16384

noncomputable section

/-! # The retention reference's loop: the state before each chunk -/

namespace Cert.RetRef

open Cert.ReferenceIdeal Cert.ReferenceIdeal.Gen Cert.ReferenceIdeal.Value Cert.Ret
open Idealize.ShloMosaic Idealize.ShloMosaic.TcCoe Idealize.ShloMosaic.StableHlo Idealize.SL.Sem

/-! ## One trip's operations -/

/-- Where the trip's block begins, of the counter. -/
abbrev starts (n : IVec S_ 32) : Fin 5 → Int :=
  fun k => (((![n, constantI S_ 32 0#32, constantI S_ 32 0#32, constantI S_ 32 0#32, constantI S_ 32 0#32] : Fin 5 → IVec S_ 32)) k (Shape.Idx.first h_S_)).toInt

/-- The next state: the state times the chunk's decay, and what the counter's chunk adds. -/
def nextState (s : Fl S8x8x128x128) (g : Fl S1x8x1x1) (kv : Fl S32x8x8x128x128) (n : IVec S_ 32) : Fl S8x8x128x128 :=
  addf (mulf s (broadcastInDim S8x8x128x128 ![0, 1, 2, 3] bcast_S1x8x1x1_S8x8x128x128_0_1_2_3 g))
    (shapeCast S8x8x128x128 (Host.dynamicSlice S1x8x8x128x128 kv (starts n) sliceFits_S32x8x8x128x128_S1x8x8x128x128) shapeCasts_S1x8x8x128x128_S8x8x128x128)

/-- The stack of states with the counter's row set. -/
def nextStack (z : Fl S32x8x8x128x128) (s : Fl S8x8x128x128) (n : IVec S_ 32) : Fl S32x8x8x128x128 :=
  Host.dynamicUpdateSlice z (broadcastInDim S1x8x8x128x128 ![1, 2, 3, 4] bcast_S8x8x128x128_S1x8x8x128x128_1_2_3_4 s) (starts n) updateFits_S32x8x8x128x128_S1x8x8x128x128

/-- The counter's block lies inside the stack. -/
theorem fits (k : Fin 32) : S32x8x8x128x128.Slices ![k.val, 0, 0, 0, 0] S1x8x8x128x128 :=
  ⟨rfl, fun a => by
    match a with
    | ⟨0, _⟩ => show k.val + 1 ≤ 32; omega
    | ⟨1, _⟩ => exact le_refl 8
    | ⟨2, _⟩ => exact le_refl 8
    | ⟨3, _⟩ => exact le_refl 128
    | ⟨4, _⟩ => exact le_refl 128⟩

theorem starts_at (k : Fin 32) (n : IVec S_ 32) (hn : n = fun _ => BitVec.ofNat 32 k.val) (a : Fin 5) :
    starts n a = ((![k.val, 0, 0, 0, 0] : Fin 5 → ℕ) a : Int) := by
  subst hn
  match a with
  | ⟨0, _⟩ => exact toInt_ofNat k.val (by omega)
  | ⟨1, _⟩ => rfl
  | ⟨2, _⟩ => rfl
  | ⟨3, _⟩ => rfl
  | ⟨4, _⟩ => rfl

theorem nextState_at (s : Fl S8x8x128x128) (g : Fl S1x8x1x1) (kv : Fl S32x8x8x128x128) (k : Fin 32) (n : IVec S_ 32)
    (hn : n = fun _ => BitVec.ofNat 32 k.val) (b hh : Fin 8) (d e : Fin 128) :
    nextState s g kv n (ix4 b hh d e) = s (ix4 b hh d e) * g (ix4 0 hh 0 0) + kv (ix5 k b hh d e) := by
  rw [nextState, WordCmp.dynamicSlice_eq_extract _ _ _ _ _ (fits k) (starts_at k n hn)]
  pointwise []

theorem nextStack_self (z : Fl S32x8x8x128x128) (s : Fl S8x8x128x128) (k : Fin 32) (n : IVec S_ 32)
    (hn : n = fun _ => BitVec.ofNat 32 k.val) (b hh : Fin 8) (d e : Fin 128) :
    nextStack z s n (ix5 k b hh d e) = s (ix4 b hh d e) := by
  rw [nextStack, WordCmp.dynamicUpdateSlice_eq_update _ _ _ _ _ (fits k) (starts_at k n hn), updateSlice_apply, dif_pos (fun a => by
    match a with
    | ⟨0, _⟩ => exact ⟨le_refl k.val, Nat.lt_succ_self k.val⟩
    | ⟨1, _⟩ => exact ⟨Nat.zero_le _, by show b.val < 0 + 8; omega⟩
    | ⟨2, _⟩ => exact ⟨Nat.zero_le _, by show hh.val < 0 + 8; omega⟩
    | ⟨3, _⟩ => exact ⟨Nat.zero_le _, by show d.val < 0 + 128; omega⟩
    | ⟨4, _⟩ => exact ⟨Nat.zero_le _, by show e.val < 0 + 128; omega⟩)]
  show s _ = s _
  congr 1
  funext a
  match a with
  | ⟨0, _⟩ => rfl
  | ⟨1, _⟩ => rfl
  | ⟨2, _⟩ => rfl
  | ⟨3, _⟩ => rfl

theorem nextStack_other (z : Fl S32x8x8x128x128) (s : Fl S8x8x128x128) (k i : Fin 32) (hi : i ≠ k) (n : IVec S_ 32)
    (hn : n = fun _ => BitVec.ofNat 32 k.val) (b hh : Fin 8) (d e : Fin 128) :
    nextStack z s n (ix5 i b hh d e) = z (ix5 i b hh d e) := by
  rw [nextStack, WordCmp.dynamicUpdateSlice_eq_update _ _ _ _ _ (fits k) (starts_at k n hn), updateSlice_apply, dif_neg (fun h => by
    obtain ⟨h1, h2⟩ : k.val ≤ i.val ∧ i.val < k.val + 1 := h 0
    exact hi (Fin.ext (by omega)))]

/-! ## The loop -/

section loop
variable (E : Valuation τ sig (Elt Ideal)) (γ : Fin 8 → ℝ) (K V : Fin 8 → Fin 8 → ℕ → Fin 128 → ℝ) (s : Fin 8 → Fin 8 → Fin 128 → Fin 128 → EReal)
  (hctr : (rd E main_v63_2 : IVec S_ 32) = fun _ => 0#32)
  (hkv : ∀ (n : Fin 32) (b hh : Fin 8) (d e : Fin 128), (rd E main_v63_0 : Fl S32x8x8x128x128) (ix5 n b hh d e)
    = ((∑ j : Fin 128, γ hh ^ (127 - j.val) * (K b hh (n.val * 128 + j.val) d * V b hh (n.val * 128 + j.val) e) : ℝ) : EReal))
  (hg : ∀ hh : Fin 8, (rd E main_v63_1 : Fl S1x8x1x1) (ix4 0 hh 0 0) = ((γ hh ^ 128 : ℝ) : EReal))
  (hs : ∀ (b hh : Fin 8) (d e : Fin 128), (rd E main_v63_3 : Fl S8x8x128x128) (ix4 b hh d e) = s b hh d e)
include hctr hkv hg hs

/-- After `k` trips the state is the state after `128·k` positions, and the stack's first `k` rows are the states before each chunk. -/
theorem loop_at (k : ℕ) (hk : k ≤ 32) :
    rd (STEP^[k] E) main_v63_0 = rd E main_v63_0 ∧ rd (STEP^[k] E) main_v63_1 = rd E main_v63_1
    ∧ (rd (STEP^[k] E) main_v63_2 : IVec S_ 32) = (fun _ => BitVec.ofNat 32 k)
    ∧ (∀ (b hh : Fin 8) (d e : Fin 128), (rd (STEP^[k] E) main_v63_3 : Fl S8x8x128x128) (ix4 b hh d e)
        = TE (γ hh) (K b hh) (V b hh) (s b hh) (k * 128) d e)
    ∧ ∀ (n : Fin 32) (b hh : Fin 8) (d e : Fin 128), n.val < k → (rd (STEP^[k] E) main_v63_4 : Fl S32x8x8x128x128) (ix5 n b hh d e)
        = TE (γ hh) (K b hh) (V b hh) (s b hh) (n.val * 128) d e := by
  induction k with
  | zero => exact ⟨rfl, rfl, hctr, fun b hh d e => by rw [Nat.zero_mul]; exact hs b hh d e, fun n _ _ _ _ h => absurd h (Nat.not_lt_zero _)⟩
  | succ k ih =>
    obtain ⟨h0, h1, h2, h3, h4⟩ := ih (by omega)
    rw [Function.iterate_succ_apply']
    generalize STEP^[k] E = W at h0 h1 h2 h3 h4 ⊢
    have e3 : (rd (STEP W) main_v63_3 : Fl S8x8x128x128) = nextState (rd W main_v63_3) (rd W main_v63_1) (rd W main_v63_0) (rd W main_v63_2) := STEP_main_v63_3 W
    have e4 : (rd (STEP W) main_v63_4 : Fl S32x8x8x128x128) = nextStack (rd W main_v63_4) (rd W main_v63_3) (rd W main_v63_2) := STEP_main_v63_4 W
    have e2 : (rd (STEP W) main_v63_2 : IVec S_ 32) = addi (rd W main_v63_2 : IVec S_ 32) (constantI S_ 32 1#32) := STEP_main_v63_2 W
    refine ⟨(STEP_main_v63_0 W).trans h0, (STEP_main_v63_1 W).trans h1, ?_, ?_, ?_⟩
    · rw [e2, h2]
      funext _
      exact (BitVec.ofNat_add k 1).symm
    · intro b hh d e
      rw [e3, nextState_at _ _ _ ⟨k, by omega⟩ _ h2, h3, h1, hg, h0, hkv, show (k + 1) * 128 = k * 128 + 128 from by omega, TE_chunk]
    · intro n b hh d e hn
      rw [e4]
      by_cases hnk : n.val = k
      · have hk32 : k < 32 := by omega
        rw [show n = ⟨k, hk32⟩ from Fin.ext hnk, nextStack_self _ _ ⟨k, hk32⟩ _ h2, h3]
      · rw [nextStack_other _ _ ⟨k, by omega⟩ n (fun h => hnk (congrArg Fin.val h)) _ h2]
        exact h4 n b hh d e (by omega)

/-- After the loop the stack holds the state before each chunk. -/
theorem stack_at (n : Fin 32) (b hh : Fin 8) (d e : Fin 128) : (rd (STEP^[32] E) main_v63_4 : Fl S32x8x8x128x128) (ix5 n b hh d e)
    = TE (γ hh) (K b hh) (V b hh) (s b hh) (n.val * 128) d e :=
  (loop_at E γ K V s hctr hkv hg hs 32 (le_refl _)).2.2.2.2 n b hh d e n.isLt

end loop

/-! ## One direction of a head -/

section stream
variable (q k v : Fl S8x8x32x128x128) (l : Fl S8) (b hh : Fin 8) (z : EReal) (Q K V : ℕ → Fin 128 → ℝ)
  (hq : ∀ (n : Fin 32) (j d : Fin 128), q (ix5 b hh n j d) = ((Q (n.val * 128 + j.val) d : ℝ) : EReal))
  (hk : ∀ (n : Fin 32) (j d : Fin 128), k (ix5 b hh n j d) = ((K (n.val * 128 + j.val) d : ℝ) : EReal))
  (hv : ∀ (n : Fin 32) (j d : Fin 128), v (ix5 b hh n j d) = ((V (n.val * 128 + j.val) d : ℝ) : EReal))
  (hl : l (ix1 hh) = lg z)

include hl in
/-- The mask holds the decays from each position to the later ones. -/
theorem mask_real (i j : Fin 128) : mask l (ix3 hh i j) = ((if j.val ≤ i.val then gam z ^ (i.val - j.val) else 0 : ℝ) : EReal) := by
  rw [mask_at, diff_at, pos_at, pos_at, hl, ← decay_sub]
  have e : (((i.val : ℝ) : EReal) - ((j.val : ℝ) : EReal)) = ((((i.val : ℤ) - j.val : ℤ) : ℝ) : EReal) := by
    rw [← EReal.coe_sub]; push_cast; rfl
  rw [e]

include hk hv hl in
/-- What a chunk adds to the state. -/
theorem kvs_real (n : Fin 32) (d e : Fin 128) : kvs k v l pos (ix5 n b hh d e)
    = ((∑ j : Fin 128, gam z ^ (127 - j.val) * (K (n.val * 128 + j.val) d * V (n.val * 128 + j.val) e) : ℝ) : EReal) := by
  rw [kvs_at, coe_sum]
  refine Finset.sum_congr rfl fun j _ => ?_
  rw [hk, hv, hl, pos_at, coe_nat_sub _ _ (by omega), exp_lg_mul, ← EReal.coe_mul, ← EReal.coe_mul]
  congr 1
  ring

include hq hk hv hl in
/-- A position's result: its query against the state after it. -/
theorem outs_real (s : Fin 128 → Fin 128 → EReal) (Z : Fl S32x8x8x128x128)
    (hZ : ∀ (n : Fin 32) (d e : Fin 128), Z (ix5 n b hh d e) = TE (gam z) K V s (n.val * 128) d e) (p : Fin 4096) (e : Fin 128) :
    outs q (inner q k v (mask l)) Z l pos (ix4 b hh p e) = ∑ d, (Q p.val d : EReal) * TE (gam z) K V s (p.val + 1) d e := by
  have hp : (pc p).val * 128 + (pj p).val = p.val := by show p.val / 128 * 128 + p.val % 128 = p.val; omega
  have ht := TE_out (gam z) K V s ((pc p).val * 128) 128 (pj p).val (pj p).isLt (Q p.val) e
  rw [hp] at ht
  rw [ht, add_comm (G := EReal), coe_sum, outs_at, inner_at]
  congr 1
  · refine Finset.sum_congr rfl fun j _ => ?_
    rw [EReal.coe_mul, EReal.coe_mul, coe_sum, mask_real l hh z hl, hv]
    congr 2
    refine Finset.sum_congr rfl fun d _ => ?_
    rw [hq, hk, hp, EReal.coe_mul]
  · refine Finset.sum_congr rfl fun d _ => ?_
    rw [hq, hZ, hl, pos_at, hp, EReal.coe_mul]
    congr 2
    rw [show (((pj p).val : ℝ) : EReal) + 1 = ((((pj p).val + 1 : ℕ) : ℝ) : EReal) from by push_cast; rfl, exp_lg_mul]

end stream

end Cert.RetRef
end
-- ==== Proof.RetRefValue.lean ====
module

public import proofs.«01_k».proof.Proof.RetRefLoop

@[expose] public section

set_option maxRecDepth 16384

noncomputable section

/-! # The retention reference's result, as one function of its arguments -/

namespace Cert.RetRef

open Cert.ReferenceIdeal Cert.ReferenceIdeal.Gen Cert.ReferenceIdeal.Value Cert.Ret
open Idealize.ShloMosaic Idealize.ShloMosaic.TcCoe Idealize.ShloMosaic.StableHlo Idealize.SL.Sem

/-! ## The streams of the eight directions -/

/-- The head of a direction. -/
abbrev hd (hh : Fin 8) : Fin 4 := ⟨hh.val % 4, by omega⟩

/-- A direction's sequence: its head's rows in order in the first four, from the last one back in the others. -/
def sgn (X : Fin 4 → Fin 4096 → Fin 128 → EReal) (hh : Fin 8) : ℕ → Fin 128 → ℝ :=
  if hh.val < 4 then seqF (X (hd hh)) else seqB (X (hd hh))

theorem sgn_F (X : Fin 4 → Fin 4096 → Fin 128 → EReal) (h : Fin 4) : sgn X (hF h) = seqF (X h) := by
  rw [sgn, if_pos (show (hF h).val < 4 from h.isLt), show hd (hF h) = h from Fin.ext (Nat.mod_eq_of_lt h.isLt)]

theorem sgn_B (X : Fin 4 → Fin 4096 → Fin 128 → EReal) (h : Fin 4) : sgn X (hB h) = seqB (X h) := by
  rw [sgn, if_neg (show ¬ 4 + h.val < 4 by omega), show hd (hB h) = h from Fin.ext (by show (4 + h.val) % 4 = h.val; omega)]

/-- Each of the eight is a head's forward direction or its backward one. -/
theorem cases8 (hh : Fin 8) : (∃ h : Fin 4, hh = hF h) ∨ ∃ h : Fin 4, hh = hB h := by
  by_cases h : hh.val < 4
  · exact Or.inl ⟨⟨hh.val, h⟩, rfl⟩
  · exact Or.inr ⟨⟨hh.val - 4, by omega⟩, Fin.ext (by show hh.val = 4 + (hh.val - 4); omega)⟩

/-- A stream of real numbers, in chunks: the directions' sequences. -/
theorem stream_at (x : Fl S8x4096x512) (b : Fin 8) (X : Fin 4 → Fin 4096 → Fin 128 → EReal)
    (hX : ∀ (h : Fin 4) (l : Fin 4096) (d : Fin 128), x (ix3 b l ⟨h.val * 128 + d.val, by omega⟩) = X h l d)
    (hr : ∀ h l d, X h l d = (((X h l d).toReal : ℝ) : EReal)) (hh : Fin 8) (n : Fin 32) (j d : Fin 128) :
    chunks (both (heads x)) (ix5 b hh n j d) = ((sgn X hh (n.val * 128 + j.val) d : ℝ) : EReal) := by
  have hlt : n.val * 128 + j.val < 4096 := by omega
  rw [chunks_at]
  rcases cases8 hh with ⟨h, rfl⟩ | ⟨h, rfl⟩
  · rw [both_fwd, heads_at, hX, sgn_F, seqF, dif_pos hlt]
    exact hr h _ d
  · rw [both_bwd, heads_at, hX, sgn_B, seqB, dif_pos hlt]
    exact hr h _ d

/-- The backward sequence is the forward one from its end. -/
theorem seqB_end (X : Fin 4096 → Fin 128 → EReal) (l : Fin 4096) (d : Fin 128) : seqB X (bk l).val d = seqF X l.val d := by
  have h1 : (bk l).val < 4096 := (bk l).isLt
  rw [seqB, seqF, dif_pos h1, dif_pos l.isLt]
  congr 2
  exact Fin.ext (by show 4095 - (4095 - l.val) = l.val; omega)

/-! ## The result of the arrays -/

section arrays
variable (a0 : Bf S8x4096x2048) (a1 : Fl S8x8x128x128) (a2 : Fl S1x2x4) (a3 : Fl S1x512)

/-- The stream that begins at lane `o`, and the streams of the queries, the keys and the values. -/
abbrev cut0 : Fl S8x4096x512 := extractStridedSlice S8x4096x512 ![0, 0, 0] (extf .f32 a0 bitsLt_bf16_f32) slices_S8x4096x2048_S8x4096x512_0_0_0
@[inherit_doc cut0] abbrev cut1 : Fl S8x4096x512 := extractStridedSlice S8x4096x512 ![0, 0, 512] (extf .f32 a0 bitsLt_bf16_f32) slices_S8x4096x2048_S8x4096x512_0_0_512
@[inherit_doc cut0] abbrev cut2 : Fl S8x4096x512 := extractStridedSlice S8x4096x512 ![0, 0, 1024] (extf .f32 a0 bitsLt_bf16_f32) slices_S8x4096x2048_S8x4096x512_0_0_1024
@[inherit_doc cut0] abbrev qs := chunks (both (heads (cut0 a0)))
@[inherit_doc cut0] abbrev ks := chunks (both (heads (cut1 a0)))
@[inherit_doc cut0] abbrev vs := chunks (both (heads (cut2 a0)))

theorem cut1_at (b : Fin 8) (l : Fin 4096) (j : Fin 512) : cut1 a0 (ix3 b l j) = a0 (ix3 b l ⟨512 + j.val, by omega⟩) := by
  pointwise [cut1]

theorem lane1 (h : Fin 4) (d : Fin 128) (p : h.val * 128 + d.val < 512) (p' : 512 + (⟨h.val * 128 + d.val, p⟩ : Fin 512).val < 2048) :
    (⟨512 + (⟨h.val * 128 + d.val, p⟩ : Fin 512).val, p'⟩ : Fin 2048) = ⟨(4 + h.val) * 128 + d.val, by omega⟩ := Fin.ext (by dsimp only; omega)

theorem cut2_at (b : Fin 8) (l : Fin 4096) (j : Fin 512) : cut2 a0 (ix3 b l j) = a0 (ix3 b l ⟨1024 + j.val, by omega⟩) := by
  pointwise [cut2]

theorem lane2 (h : Fin 4) (d : Fin 128) (p : h.val * 128 + d.val < 512) (p' : 1024 + (⟨h.val * 128 + d.val, p⟩ : Fin 512).val < 2048) :
    (⟨1024 + (⟨h.val * 128 + d.val, p⟩ : Fin 512).val, p'⟩ : Fin 2048) = ⟨(8 + h.val) * 128 + d.val, by omega⟩ := Fin.ext (by dsimp only; omega)

/-- A head's queries, keys and values. -/
abbrev qh (b : Fin 8) (h : Fin 4) : Fin 4096 → Fin 128 → EReal := fun l d => a0 (ix3 b l ⟨h.val * 128 + d.val, by omega⟩)
@[inherit_doc qh] abbrev kh (b : Fin 8) (h : Fin 4) : Fin 4096 → Fin 128 → EReal := fun l d => a0 (ix3 b l ⟨(4 + h.val) * 128 + d.val, by omega⟩)
@[inherit_doc qh] abbrev vh (b : Fin 8) (h : Fin 4) : Fin 4096 → Fin 128 → EReal := fun l d => a0 (ix3 b l ⟨(8 + h.val) * 128 + d.val, by omega⟩)

/-- A direction's learned exponent. -/
def dk (hh : Fin 8) : EReal := a2 (ix3 0 ⟨hh.val / 4, by omega⟩ (hd hh))

theorem lgs_dk (hh : Fin 8) : lgs a2 (ix1 hh) = lg (dk a2 hh) := by
  have e : hh = ⟨4 * (hh.val / 4) + hh.val % 4, by omega⟩ := Fin.ext (by show hh.val = 4 * (hh.val / 4) + hh.val % 4; omega)
  have := lgs_at a2 ⟨hh.val / 4, by omega⟩ (hd hh)
  rw [dk, ← this]
  exact congrArg (fun i => lgs a2 (ix1 i)) e

theorem dk_F (h : Fin 4) : dk a2 (hF h) = a2 (ix3 0 0 h) := by
  rw [dk, show hd (hF h) = h from Fin.ext (Nat.mod_eq_of_lt h.isLt)]
  exact congrArg (fun r => a2 (ix3 0 r h)) (Fin.ext (by show h.val / 4 = 0; omega))

theorem dk_B (h : Fin 4) : dk a2 (hB h) = a2 (ix3 0 1 h) := by
  rw [dk, show hd (hB h) = h from Fin.ext (by show (4 + h.val) % 4 = h.val; omega)]
  exact congrArg (fun r => a2 (ix3 0 r h)) (Fin.ext (by show (4 + h.val) / 4 = 1; omega))

-- the queries, keys and values are real numbers
variable (hr : ∀ (b : Fin 8) (l : Fin 4096) (j : Fin 2048), j.val < 1536 → a0 (ix3 b l j) = (((a0 (ix3 b l j)).toReal : ℝ) : EReal))
include hr

theorem qs_at (b hh : Fin 8) (n : Fin 32) (j d : Fin 128) : qs a0 (ix5 b hh n j d) = ((sgn (qh a0 b) hh (n.val * 128 + j.val) d : ℝ) : EReal) :=
  stream_at (cut0 a0) b (qh a0 b) (fun h l d => by
    pointwise [cut0]) (fun h l d => hr b l _ (by show h.val * 128 + d.val < 1536; omega)) hh n j d

theorem ks_at (b hh : Fin 8) (n : Fin 32) (j d : Fin 128) : ks a0 (ix5 b hh n j d) = ((sgn (kh a0 b) hh (n.val * 128 + j.val) d : ℝ) : EReal) :=
  stream_at (cut1 a0) b (kh a0 b) (fun h l d => by
    rw [cut1_at, lane1])
    (fun h l d => hr b l _ (by show (4 + h.val) * 128 + d.val < 1536; omega)) hh n j d

theorem vs_at (b hh : Fin 8) (n : Fin 32) (j d : Fin 128) : vs a0 (ix5 b hh n j d) = ((sgn (vh a0 b) hh (n.val * 128 + j.val) d : ℝ) : EReal) :=
  stream_at (cut2 a0) b (vh a0 b) (fun h l d => by
    rw [cut2_at, lane2])
    (fun h l d => hr b l _ (by show (8 + h.val) * 128 + d.val < 1536; omega)) hh n j d

omit hr in
/-- The two directions of a head, from their sequences' states. -/
theorem pair_at (W : Fl S8x8x4096x128) (b : Fin 8) (h : Fin 4)
    (ho : ∀ (hh : Fin 8) (p : Fin 4096) (e : Fin 128), W (ix4 b hh p e)
      = ∑ d, (sgn (qh a0 b) hh p.val d : EReal) * TE (gam (dk a2 hh)) (sgn (kh a0 b) hh) (sgn (vh a0 b) hh) (fun d e => a1 (ix4 b hh d e)) (p.val + 1) d e)
    (l : Fin 4096) (e : Fin 128) :
    comb W (ix4 b h l e) = O (qh a0 b h) (kh a0 b h) (vh a0 b h) (fun d e => a1 (ix4 b (hF h) d e)) (fun d e => a1 (ix4 b (hB h) d e))
      (a2 (ix3 0 0 h)) (a2 (ix3 0 1 h)) l.val e := by
  have hl : (bk l).val + 1 = 4096 - l.val := by show 4095 - l.val + 1 = 4096 - l.val; omega
  have hb : ∀ d, sgn (qh a0 b) (hB h) (bk l).val d = seqF (qh a0 b h) l.val d := fun d => by rw [sgn_B, seqB_end]
  rw [comb_at, ho, ho, O, hl]
  simp only [hb, sgn_F, sgn_B, dk_F, dk_B, TF, TB]

omit hr in
/-- A row normalised, times its gain and its gate. -/
theorem gout_row (w : Fl S8x4x4096x128) (b : Fin 8) (l : Fin 4096) (h : Fin 4) (e : Fin 128) :
    gout w a3 (extf .f32 a0 bitsLt_bf16_f32) (ix3 b l ⟨h.val * 128 + e.val, by omega⟩)
      = Ret.norm (fun e => w (ix4 b h l e)) e * a3 (ix2 0 ⟨h.val * 128 + e.val, by omega⟩) * a0 (ix3 b l ⟨(12 + h.val) * 128 + e.val, by omega⟩) := by
  have hce : ∀ e' : Fin 128, cent w (ix4 b h l e') = w (ix4 b h l e') - mean (fun e => w (ix4 b h l e)) := fun e' => by
    rw [cent_at, means_at, mean]
  have hm : means (mulf (cent w) (cent w)) (ix4 b h l 0) = Ideal.div (∑ e' : Fin 128, cent w (ix4 b h l e') * cent w (ix4 b h l e')) (Ideal.ofBits .f32 1124073472#32) :=
    means_at (mulf (cent w) (cent w)) b h l
  have hx : (extf .f32 a0 bitsLt_bf16_f32 : Fl S8x4096x2048) (ix3 b l ⟨(12 + h.val) * 128 + e.val, by omega⟩) = a0 (ix3 b l ⟨(12 + h.val) * 128 + e.val, by omega⟩) := rfl
  rw [gout_at, hm, hx]
  simp only [hce]
  rw [Ret.norm]

/-- The result, entry by entry: each head's row, from the states before each chunk. -/
theorem result_at (Z : Fl S32x8x8x128x128)
    (hZ : ∀ (n : Fin 32) (b hh : Fin 8) (d e : Fin 128), Z (ix5 n b hh d e)
      = TE (gam (dk a2 hh)) (sgn (kh a0 b) hh) (sgn (vh a0 b) hh) (fun d e => a1 (ix4 b hh d e)) (n.val * 128) d e)
    (b : Fin 8) (l : Fin 4096) (h : Fin 4) (e : Fin 128) :
    gout (comb (outs (qs a0) (inner (qs a0) (ks a0) (vs a0) (mask (lgs a2))) Z (lgs a2) pos)) a3 (extf .f32 a0 bitsLt_bf16_f32)
        (ix3 b l ⟨h.val * 128 + e.val, by omega⟩)
      = HeadRow (fun b l j => a0 (ix3 b l j)) (fun b h d e => a1 (ix4 b h d e)) (fun r h => a2 (ix3 0 r h)) (fun j => a3 (ix2 0 j)) b h l e := by
  have ho : ∀ (hh : Fin 8) (p : Fin 4096) (e : Fin 128), outs (qs a0) (inner (qs a0) (ks a0) (vs a0) (mask (lgs a2))) Z (lgs a2) pos (ix4 b hh p e)
      = ∑ d, (sgn (qh a0 b) hh p.val d : EReal) * TE (gam (dk a2 hh)) (sgn (kh a0 b) hh) (sgn (vh a0 b) hh) (fun d e => a1 (ix4 b hh d e)) (p.val + 1) d e :=
    fun hh p e => outs_real _ _ _ _ b hh (dk a2 hh) _ _ _ (qs_at a0 hr b hh) (ks_at a0 hr b hh) (vs_at a0 hr b hh) (lgs_dk a2 hh) _ Z (fun n d e => hZ n b hh d e) p e
  have hc := pair_at a0 a1 a2 _ b h ho l
  rw [gout_row, HeadRow, Row, funext hc]

end arrays

end Cert.RetRef
end
-- ==== Proof.RetRefProgram.lean ====
module

public import proofs.«01_k».proof.Proof.RetRefValue

@[expose] public section

set_option maxRecDepth 16384

noncomputable section

/-! # The retention reference program's result -/

namespace Cert.RetRef

open Cert.ReferenceIdeal Cert.ReferenceIdeal.Gen Cert.ReferenceIdeal.Value Cert.Ret
open Idealize.ShloMosaic Idealize.ShloMosaic.TcCoe Idealize.ShloMosaic.StableHlo Idealize.SL.Sem

section program
variable (m : (ℓ : Loc nD τ sig) → Buf (Elt Ideal) ℓ) (c : Dev nD)

/-- The arguments by coordinates. -/
def A0 (b : Fin 8) (l : Fin 4096) (j : Fin 2048) : EReal := (m (c.tc.loc main_arg0) : Bf S8x4096x2048) (ix3 b l j)
@[inherit_doc A0] def A1 (b h : Fin 8) (d e : Fin 128) : EReal := (m (c.tc.loc main_arg1) : Fl S8x8x128x128) (ix4 b h d e)
@[inherit_doc A0] def A2 (r : Fin 2) (h : Fin 4) : EReal := (m (c.tc.loc main_arg2) : Fl S1x2x4) (ix3 0 r h)
@[inherit_doc A0] def A3 (j : Fin 512) : EReal := (m (c.tc.loc main_arg3) : Fl S1x512) (ix2 0 j)

/-- Every buffer's contents before the chunks' own part is computed. -/
abbrev Y : Valuation τ sig (Elt Ideal) := after hostOps0_7 (after hostOps0_6 (X5 (launchContents m c)))

theorem entry_eq : entryContents preI m c = after hostOps0_8 (Y m c) := rfl

/-- What the last stretch before the loop does not write stays. -/
theorem s8_keep (r : Ref sig .tc) (h : r ∉ hostOps0_8_W) : rd (after hostOps0_8 (Y m c)) r = rd (Y m c) r :=
  after_of_writes_sub _ _ hostOps0_8_writes h

theorem Y_q : (rd (Y m c) main_v21 : Fl S8x8x32x128x128) = qs (m (c.tc.loc main_arg0)) := by
  rw [Y, s67_q, s5_q]
theorem Y_k : (rd (Y m c) main_v22 : Fl S8x8x32x128x128) = ks (m (c.tc.loc main_arg0)) := by
  rw [Y, s67_k, s5_k]
theorem Y_v : (rd (Y m c) main_v23 : Fl S8x8x32x128x128) = vs (m (c.tc.loc main_arg0)) := by
  rw [Y, s67_v, s5_v9, s5_v18]; rfl
theorem Y_l : (rd (Y m c) main_v20 : Fl S8) = lgs (m (c.tc.loc main_arg2)) := by
  rw [Y, s67_l, s5_l]; rfl
theorem Y_mask : (rd (Y m c) main_v40 : Fl S8x128x128) = mask (lgs (m (c.tc.loc main_arg2))) := by
  rw [Y, s67_mask, s5_l]; rfl
theorem Y_pos : (rd (Y m c) main_v24 : Fl S128) = pos := s67_pos _
theorem Y_x : (rd (Y m c) main_v0 : Fl S8x4096x2048) = (extf .f32 (m (c.tc.loc main_arg0) : Bf S8x4096x2048) bitsLt_bf16_f32 : Fl S8x4096x2048) := by
  have e : rd (Y m c) main_v0 = rd (X5 (launchContents m c)) main_v0 :=
    (after_of_writes_sub _ _ hostOps0_7_writes (by decide)).trans (after_of_writes_sub _ _ hostOps0_6_writes (by decide))
  rw [e, s5_x]

/-- The result, from the stack of states the loop leaves. -/
theorem final_stages : (finalContents condOps preI bodyI postI 32 m c (Proc.devRef .tc main_v108) : Bf S8x4096x512)
    = gout (comb (outs (qs (m (c.tc.loc main_arg0))) (inner (qs (m (c.tc.loc main_arg0))) (ks (m (c.tc.loc main_arg0))) (vs (m (c.tc.loc main_arg0))) (mask (lgs (m (c.tc.loc main_arg2)))))
        (rd (STEP^[32] (entryContents preI m c)) main_v63_4) (lgs (m (c.tc.loc main_arg2))) pos)) (m (c.tc.loc main_arg3)) (extf .f32 (m (c.tc.loc main_arg0) : Bf S8x4096x2048) bitsLt_bf16_f32) := by
  have hE : ∀ r : Ref sig .tc, r ∉ tripW → rd (atEnd m c) r = rd (after hostOps0_8 (Y m c)) r := fun r h => atEnd_keep m c r h
  have hz : rd (atEnd m c) main_v63_4 = rd (STEP^[32] (entryContents preI m c)) main_v63_4 :=
    (after_of_writes_sub _ _ condOps_writes (by decide)).trans (atK_agree m c 32 main_v63_4 (by decide))
  have h3 : rd (atEnd m c) main_arg3 = m (c.tc.loc main_arg3) := by
    rw [rd, atEnd_keep m c _ (by decide), entry_keep m c _ (by decide)]
  rw [final_eq]
  refine (post (atEnd m c)).trans ?_
  rw [hz, h3, hE _ (by decide), hE _ (by decide), hE _ (by decide), hE _ (by decide), hE _ (by decide), s8_inner,
    s8_keep m c _ (by decide), s8_keep m c _ (by decide), s8_keep m c _ (by decide), s8_keep m c _ (by decide),
    Y_q, Y_k, Y_v, Y_l, Y_mask, Y_pos, Y_x]

variable (hr : ∀ (b : Fin 8) (l : Fin 4096) (j : Fin 2048), j.val < 1536 → A0 m c b l j = (((A0 m c b l j).toReal : ℝ) : EReal))
include hr

/-- The loop's stack: the state before each chunk of each direction. -/
theorem stack (n : Fin 32) (b hh : Fin 8) (d e : Fin 128) : (rd (STEP^[32] (entryContents preI m c)) main_v63_4 : Fl S32x8x8x128x128) (ix5 n b hh d e)
    = TE (gam (dk (m (c.tc.loc main_arg2)) hh)) (sgn (kh (m (c.tc.loc main_arg0)) b) hh) (sgn (vh (m (c.tc.loc main_arg0)) b) hh)
        (fun d e => (m (c.tc.loc main_arg1) : Fl S8x8x128x128) (ix4 b hh d e)) (n.val * 128) d e := by
  refine stack_at (entryContents preI m c) (fun hh => gam (dk (m (c.tc.loc main_arg2)) hh)) (fun b hh => sgn (kh (m (c.tc.loc main_arg0)) b) hh)
    (fun b hh => sgn (vh (m (c.tc.loc main_arg0)) b) hh) (fun b hh d e => (m (c.tc.loc main_arg1) : Fl S8x8x128x128) (ix4 b hh d e)) ?_ ?_ ?_ ?_ n b hh d e
  · exact s8_ctr (Y m c)
  · intro n b hh d e
    rw [entry_eq, s8_kvs, Y_k, Y_v, Y_l, Y_pos]
    exact kvs_real _ _ _ b hh _ _ _ (ks_at _ hr b hh) (vs_at _ hr b hh) (lgs_dk _ hh) n d e
  · intro hh
    rw [entry_eq, s8_decs, Y_l, decs_at, lgs_dk, exp_lg_mul]
  · intro b hh d e
    have e1 : (rd (Y m c) main_arg1 : Fl S8x8x128x128) = m (c.tc.loc main_arg1) :=
      (s8_keep m c main_arg1 (by decide)).symm.trans (entry_keep m c main_arg1 (by decide))
    rw [entry_eq, s8_state, e1]

/-- The result, as one function of the arguments. -/
theorem value (b : Fin 8) (l : Fin 4096) (h : Fin 4) (e : Fin 128) :
    (finalContents condOps preI bodyI postI 32 m c (Proc.devRef .tc main_v108) : Bf S8x4096x512) (ix3 b l ⟨h.val * 128 + e.val, by omega⟩)
      = HeadRow (A0 m c) (A1 m c) (A2 m c) (A3 m c) b h l e := by
  rw [final_stages]
  exact result_at _ (m (c.tc.loc main_arg1)) _ _ hr _ (stack m c hr) b l h e

end program

end Cert.RetRef
end
-- ==== Proof.RetClaim.lean ====
module

public import proofs.«01_k».proof.Proof.RetValue
public import proofs.«01_k».proof.Proof.RetRefProgram
public import proofs.«01_k».proof.Defs
public import Idealize.ShloMosaic.Lib.ReduceAll

@[expose] public section

set_option maxRecDepth 16384

noncomputable section

/-! # The retention's claim: the kernel's result is the reference's -/

namespace Cert.RetClaim

open Idealize.ShloMosaic Idealize.ShloMosaic.TcCoe Idealize.SL.Sem

/-! ## The precondition -/

/-- The precondition's side conditions. -/
theorem preFacts : Cert.Pre_finite.Facts where
  slices_S8x4096x2048_S8x4096x1536_0_0_0 := by decide
  bitsLt_bf16_f32 := by decide
  bcast_S_S8x4096x1536 := by decide
  reducesTo_S8x4096x1536_S_d0_1_2 := by decide
  h_S_ := by decide

/-- The constant the absolute values are compared with is plus infinity. -/
theorem cInf : Ideal.ofBits .f32 0x7F800000#32 = (⊤ : EReal) := by simp [Ideal.ofBits, Ideal.ieee]

/-- A number whose absolute value is below infinity is a real number. -/
theorem real_of_lt (x : EReal) (h : Ideal.cmp .olt (max x (-x)) (Ideal.ofBits .f32 0x7F800000#32) = 1#1) : x = ((x.toReal : ℝ) : EReal) := by
  rw [cInf] at h
  have hlt : max x (-x) < ⊤ := by
    by_contra hn
    have : Ideal.cmp .olt (max x (-x)) ⊤ = 0#1 := by simp [Ideal.cmp, hn]
    rw [this] at h
    exact absurd h (by decide)
  refine (EReal.coe_toReal (fun e => ?_) (fun e => ?_)).symm
  · rw [e] at hlt; exact absurd hlt (by simp)
  · rw [e] at hlt; exact absurd hlt (by simp)

instance : Subsingleton Cert.Pre_finite.S_.Idx := ⟨fun a b => funext fun i => i.elim0⟩

section pre
attribute [local instance] preFacts
open Cert.Pre_finite

/-- Under the precondition the queries, keys and values are real numbers. -/
theorem real_of_pre (a0 : FVec Ideal S8x4096x2048 .bf16) (a1 : FVec Ideal S8x8x128x128 .f32) (a2 : FVec Ideal S1x2x4 .f32) (a3 : FVec Ideal S1x512 .f32)
    (h : Cert.Pre_finite.fn (F := Ideal) a0 a1 a2 a3 = fun _ => 1#1) :
    ∀ (b : Fin 8) (l : Fin 4096) (j : Fin 2048), j.val < 1536 → a0 (ix3 b l j) = (((a0 (ix3 b l j)).toReal : ℝ) : EReal) := by
  intro b l j hj
  have := Host.reduce_andi_all _ _ _ _ _ (congrFun h (Shape.Idx.first Facts.h_S_)) (ix3 b l ⟨j.val, hj⟩)
  have e : extractStridedSlice S8x4096x1536 ![0, 0, 0] a0 Facts.slices_S8x4096x2048_S8x4096x1536_0_0_0 (ix3 b l ⟨j.val, hj⟩) = a0 (ix3 b l j) := by
    pointwise []
  rw [← e]
  exact real_of_lt _ this

end pre

/-! ## The claims -/

/-- An index of the result, by its coordinates. -/
theorem idx_res (i : Cert.ReferenceIdeal.S8x4096x512.Idx) : i = ix3 (i 0) (i 1) (i 2) := by
  funext a
  match a with
  | ⟨0, _⟩ => rfl
  | ⟨1, _⟩ => rfl
  | ⟨2, _⟩ => rfl

/-- The kernel's result, as the reference's. -/
theorem algebraic : Cert.algebraic_KernelIdeal_ReferenceIdeal_pre_finite (hPre_finite := preFacts) := by
  intro m ρ m' ρ' hpre hag
  have hreal : ∀ c, Cert.RetKernel.Real m c := fun c => by
    exact ⟨real_of_pre _ _ _ _ (hpre c)⟩
  refine ⟨fun c => Cert.RetKernel.GK m c, ?_, ?_⟩
  · refine (θ_run _ _ _).mono (fun r h c => ?_) (Cert.KernelIdeal.Value.run_blocks m ρ)
    exact ⟨(h c).1.trans (Cert.RetKernel.final m c (hreal c)), (h c).2⟩
  · refine (θ_run _ _ _).mono (fun r h c => ?_) (Cert.RetRef.run m' ρ')
    obtain ⟨h0, h1, h2, h3⟩ := hag c
    refine ⟨(h c).1.trans ?_, (h c).2⟩
    have e0 : Cert.RetRef.A0 m' c = Cert.RetKernel.A0 m c := by funext b l j; exact congrFun h0 (ix3 b l j)
    have e1 : Cert.RetRef.A1 m' c = Cert.RetKernel.A1 m c := by funext b h d e; exact congrFun h1 (ix4 b h d e)
    have e2 : Cert.RetRef.A2 m' c = Cert.RetKernel.A2 m c := by funext r h; exact congrFun h2 (ix3 0 r h)
    have e3 : Cert.RetRef.A3 m' c = Cert.RetKernel.A3 m c := by funext j; exact congrFun h3 (ix2 0 j)
    funext i
    obtain ⟨b, l, j, rfl⟩ : ∃ (b : Fin 8) (l : Fin 4096) (j : Fin 512), i = ix3 b l j := ⟨i 0, i 1, i 2, idx_res i⟩
    have hv := Cert.RetRef.value m' c (by rw [e0]; exact (hreal c).qkv) b l ⟨j.val / 128, by omega⟩ ⟨j.val % 128, by omega⟩
    rw [e0, e1, e2, e3] at hv
    have hj : (⟨j.val / 128 * 128 + j.val % 128, by omega⟩ : Fin 512) = j := Fin.ext (by dsimp only; omega)
    dsimp only at hv
    rw [hj] at hv
    exact hv

end Cert.RetClaim
end
-- ==== Proof.FfnSpec.lean ====
module

public import Idealize.ShloMosaic.Lib.Pointwise
public import Idealize.ShloMosaic.Lib.IdealHost

@[expose] public section

noncomputable section

/-! # One row of the output projection and the feed-forward block, over the extended reals

A row of the result depends on one row of the retention, of the convolution and of the input stream, on the
modulation of its batch element, and on the weights. The functions below say how, in the reference's order. -/

namespace Cert.Ffn

open Idealize.ShloMosaic

/-- The constant added to a mean square before the root. -/
def eps : EReal := Ideal.ofBits .f32 897988541#32

/-- The reciprocal root mean square of a row `f` whose length is `n`. -/
def rms (n : BitVec 32) {N : ℕ} (f : Fin N → EReal) : EReal :=
  Ideal.rsqrt (Ideal.div (∑ x, f x * f x) (Ideal.ofBits .f32 n) + eps)

/-- The first residual stream: `x + g · ((ret ‖ rmsnorm hy · hg) · wo)`, where `‖` sets two rows side by side. -/
def X1 (ret hy hg : Fin 512 → EReal) (x g : Fin 1024 → EReal) (wo : Fin 1024 → Fin 1024 → EReal) (k : Fin 1024) : EReal :=
  x k + g k * (∑ j : Fin 512, ret j * wo ⟨j.val, by omega⟩ k
    + ∑ j : Fin 512, hy j * rms 1140850688#32 hy * hg j * wo ⟨512 + j.val, by omega⟩ k)

/-- The feed-forward's input: the stream normalised with gain `n2`, scaled by `1 + sc` and shifted by `sh`. -/
def H (x1 n2 sc sh : Fin 1024 → EReal) (k : Fin 1024) : EReal :=
  x1 k * rms 1149239296#32 x1 * n2 k * (1 + sc k) + sh k

/-- Column `j` of a row's product with the gate and up weights. -/
def GU (h : Fin 1024 → EReal) (w : Fin 1024 → Fin 5632 → EReal) (j : Fin 5632) : EReal := ∑ x, h x * w x j

/-- The gated unit: `silu` of the gate column times the up column. -/
def Act (h : Fin 1024 → EReal) (w : Fin 1024 → Fin 5632 → EReal) (j : Fin 2816) : EReal :=
  GU h w ⟨j.val, by omega⟩ * Ideal.div 1 (1 + Ideal.exp (-GU h w ⟨j.val, by omega⟩)) * GU h w ⟨2816 + j.val, by omega⟩

/-- The activation's product with the down weights. -/
def Down (a : Fin 2816 → EReal) (wd : Fin 2816 → Fin 1024 → EReal) (k : Fin 1024) : EReal := ∑ j, a j * wd j k

/-- The second residual stream. -/
def X2 (x1 g d : Fin 1024 → EReal) (k : Fin 1024) : EReal := x1 k + g k * d k

/-- The final normalisation. -/
def Out (x2 fn : Fin 1024 → EReal) (k : Fin 1024) : EReal := x2 k * rms 1149239296#32 x2 * fn k

/-- A row of the result from a row of each array: `m` is the modulation of the row's batch element. -/
def Row (ret hy : Fin 512 → EReal) (x : Fin 1024 → EReal) (m : Fin 6 → Fin 1024 → EReal) (hg : Fin 512 → EReal)
    (n2 fn : Fin 1024 → EReal) (wo : Fin 1024 → Fin 1024 → EReal) (wgu : Fin 1024 → Fin 5632 → EReal)
    (wd : Fin 2816 → Fin 1024 → EReal) : Fin 1024 → EReal :=
  let x1 := X1 ret hy hg x (m 2) wo
  Out (X2 x1 (m 5) (Down (Act (H x1 n2 (m 4) (m 3)) wgu) wd)) fn

/-- The exponential is never negative. -/
theorem exp_nonneg' (y : EReal) : 0 ≤ Ideal.exp y := by
  induction y using EReal.rec with
  | bot => exact le_refl _
  | top => exact le_top
  | coe r => exact EReal.coe_nonneg.mpr (Real.exp_pos r).le

/-- One plus an exponential is not zero. -/
theorem one_add_exp_ne_zero (y : EReal) : 1 + Ideal.exp y ≠ 0 := by
  have h : (0 : EReal) < 1 + Ideal.exp y := lt_of_lt_of_le zero_lt_one (le_add_of_nonneg_right (exp_nonneg' y))
  exact h.ne'

end Cert.Ffn
end
-- ==== Proof.FfnGroup.lean ====
module

public import proofs.«01_k».proof.Proof.Gen.Kernel2Ideal.Value
public import proofs.«01_k».proof.Proof.FfnSpec

@[expose] public section

set_option maxRecDepth 16384

noncomputable section

/-! # The kernel's block of the feed-forward, read row by row -/

namespace Cert.FfnKernel

open Cert.Kernel2Ideal Cert.Kernel2Ideal.Gen Cert.Ffn Idealize.ShloMosaic Idealize.ShloMosaic.TcCoe

/-- A vector of half-precision numbers, and one of single-precision numbers. -/
abbrev Bf (S : Shape) := Vec Ideal S .bf16
@[inherit_doc Bf] abbrev Fl (S : Shape) := Vec Ideal S .f32

/-- The kernel's first residual stream for one group of 256 rows. -/
def gX1 (ret hy : Bf S1x256x512) (x : Fl S1x256x1024) (x3 : Fl S1x6x1024) (x4 : Fl S1x512) (x7 : Bf S1024x1024) : Fl S256x1024 :=
  k0_pay4 (k0_pay3 hy (View.ld x4 r0_3) ret (View.ld x7 r0_4) (View.ld x7 r0_5)) x (View.ld x3 r0_7)

/-- The kernel's feed-forward input for one group. -/
def gH (x1 : Fl S256x1024) (x3 : Fl S1x6x1024) (x5 : Fl S1x1024) : Bf S256x1024 :=
  k0_pay14 (k0_pay2 (View.ld x5 r0_0) (View.ld x3 r0_1)) x1 (View.ld x3 r0_14)

/-- The kernel's feed-forward product for one group: the columns 0 to 1535 of the activation, then the rest. -/
def gAcc (h : Bf S256x1024) (x8 : Bf S1024x5632) (x9 : Bf S2816x1024) : Fl S256x1024 :=
  k0_pay31 (k0_pay22 (k0_pay17 h (View.ld x8 r0_15) (View.ld x8 r0_16)) (View.ld x9 r0_17))
    (k0_pay26 h (View.ld x8 r0_18) (View.ld x8 r0_19)) (View.ld x9 r0_20)

/-- The kernel's result for one group. -/
def gOut (x1 acc : Fl S256x1024) (x3 : Fl S1x6x1024) (x6 : Fl S1x1024) : Fl S1x256x1024 :=
  k0_pay37 x1 acc (View.ld x3 r0_21) (View.ld x6 r0_0)

/-- The kernel's result for one group from the group's rows of the three streams. -/
def group (ret hy : Bf S1x256x512) (x : Fl S1x256x1024) (x3 : Fl S1x6x1024) (x4 : Fl S1x512) (x5 x6 : Fl S1x1024)
    (x7 : Bf S1024x1024) (x8 : Bf S1024x5632) (x9 : Bf S2816x1024) : Fl S1x256x1024 :=
  let x1 := gX1 ret hy x x3 x4 x7
  gOut x1 (gAcc (gH x1 x3 x5) x8 x9) x3 x6

/-- The block the body leaves is four groups of rows. -/
theorem out_eq (x0 x1 : Bf S1x1024x512) (x2 : Fl S1x1024x1024) (x3 : Fl S1x6x1024) (x4 : Fl S1x512) (x5 x6 : Fl S1x1024)
    (x7 : Bf S1024x1024) (x8 : Bf S1024x5632) (x9 : Bf S2816x1024) :
    out0_10 x0 x1 x2 x3 x4 x5 x6 x7 x8 x9 =
      View.canon [⟨r0_13, group (View.ld x0 r0_12) (View.ld x1 r0_12) (View.ld x2 r0_13) x3 x4 x5 x6 x7 x8 x9⟩,
        ⟨r0_11, group (View.ld x0 r0_10) (View.ld x1 r0_10) (View.ld x2 r0_11) x3 x4 x5 x6 x7 x8 x9⟩,
        ⟨r0_9, group (View.ld x0 r0_8) (View.ld x1 r0_8) (View.ld x2 r0_9) x3 x4 x5 x6 x7 x8 x9⟩,
        ⟨r0_6, group (View.ld x0 r0_2) (View.ld x1 r0_2) (View.ld x2 r0_6) x3 x4 x5 x6 x7 x8 x9⟩] := rfl

/-- A group's first stream, row by row. -/
theorem gX1_at (ret hy : Bf S1x256x512) (x : Fl S1x256x1024) (x3 : Fl S1x6x1024) (x4 : Fl S1x512) (x7 : Bf S1024x1024)
    (r : Fin 256) (k : Fin 1024) :
    gX1 ret hy x x3 x4 x7 (ix2 r k) = X1 (fun j => ret (ix3 0 r j)) (fun j => hy (ix3 0 r j)) (fun j => x4 (ix2 0 j))
      (fun j => x (ix3 0 r j)) (fun j => x3 (ix3 0 2 j)) (fun i j => x7 (ix2 i j)) k := by
  pointwise [gX1, k0_pay4, k0_pay3]
  rfl

/-- A group's feed-forward input, row by row: the gain and the scale are multiplied first. -/
theorem gH_at (x1 : Fl S256x1024) (x3 : Fl S1x6x1024) (x5 : Fl S1x1024) (r : Fin 256) (k : Fin 1024) :
    gH x1 x3 x5 (ix2 r k) = H (fun j => x1 (ix2 r j)) (fun j => x5 (ix2 0 j)) (fun j => x3 (ix3 0 4 j)) (fun j => x3 (ix3 0 3 j)) k := by
  pointwise [gH, k0_pay14, k0_pay2]
  rw [← mul_assoc]
  rfl

/-- A group's feed-forward product, row by row: the two halves of the sum over the activation's columns. -/
theorem gAcc_at (h : Bf S256x1024) (x8 : Bf S1024x5632) (x9 : Bf S2816x1024) (r : Fin 256) (k : Fin 1024) :
    gAcc h x8 x9 (ix2 r k) = Down (Act (fun j => h (ix2 r j)) (fun i j => x8 (ix2 i j))) (fun i j => x9 (ix2 i j)) k := by
  pointwise [gAcc, k0_pay31, k0_pay22, k0_pay17, k0_pay26]
  unfold Down Act
  rw [Fin.sum_univ_two_halves 1536 1280 rfl]
  simp only [Ideal.mul_one_div (one_add_exp_ne_zero _), zero_sub]
  have e : ∀ j : Fin 1280, (⟨2816 + (1536 + j.val), by omega⟩ : Fin 5632) = ⟨4352 + j.val, by omega⟩ := fun j => Fin.ext (by show 2816 + (1536 + j.val) = 4352 + j.val; omega)
  simp only [e]
  rfl

/-- A group's result, row by row. -/
theorem gOut_at (x1 acc : Fl S256x1024) (x3 : Fl S1x6x1024) (x6 : Fl S1x1024) (r : Fin 256) (k : Fin 1024) :
    gOut x1 acc x3 x6 (ix3 0 r k) = Out (X2 (fun j => x1 (ix2 r j)) (fun j => x3 (ix3 0 5 j)) (fun j => acc (ix2 r j))) (fun j => x6 (ix2 0 j)) k := by
  pointwise [gOut, k0_pay37]
  rfl

/-- A group's result is the row function of the group's rows. -/
theorem group_at (ret hy : Bf S1x256x512) (x : Fl S1x256x1024) (x3 : Fl S1x6x1024) (x4 : Fl S1x512) (x5 x6 : Fl S1x1024)
    (x7 : Bf S1024x1024) (x8 : Bf S1024x5632) (x9 : Bf S2816x1024) (r : Fin 256) (k : Fin 1024) :
    group ret hy x x3 x4 x5 x6 x7 x8 x9 (ix3 0 r k) =
      Row (fun j => ret (ix3 0 r j)) (fun j => hy (ix3 0 r j)) (fun j => x (ix3 0 r j)) (fun a j => x3 (ix3 0 a j))
        (fun j => x4 (ix2 0 j)) (fun j => x5 (ix2 0 j)) (fun j => x6 (ix2 0 j)) (fun i j => x7 (ix2 i j))
        (fun i j => x8 (ix2 i j)) (fun i j => x9 (ix2 i j)) k := by
  simp only [group, gOut_at, gAcc_at, gH_at, gX1_at]
  rfl

/-- The block the body leaves, at an index: the row function of the blocks' rows. -/
def rowOf (x0 x1 : Bf S1x1024x512) (x2 : Fl S1x1024x1024) (x3 : Fl S1x6x1024) (x4 : Fl S1x512) (x5 x6 : Fl S1x1024)
    (x7 : Bf S1024x1024) (x8 : Bf S1024x5632) (x9 : Bf S2816x1024) : Fl S1x1024x1024 := fun i =>
  Row (fun j => x0 (ix3 0 (i 1) j)) (fun j => x1 (ix3 0 (i 1) j)) (fun j => x2 (ix3 0 (i 1) j)) (fun a j => x3 (ix3 0 a j))
    (fun j => x4 (ix2 0 j)) (fun j => x5 (ix2 0 j)) (fun j => x6 (ix2 0 j)) (fun i j => x7 (ix2 i j))
    (fun i j => x8 (ix2 i j)) (fun i j => x9 (ix2 i j)) (i 2)

/-- Reading 256 rows of a block from row `o` on. -/
theorem ld_rows {e : EltTy} {n : ℕ} (o : ℕ) (ho : o + 256 ≤ 1024) (v : Vec Ideal ⟨3, ![1, 1024, n]⟩ e)
    (inb : ∀ a, (![0, o, 0] : Fin 3 → ℕ) a + (![1, 256, n] : Fin 3 → ℕ) a ≤ (![1, 1024, n] : Fin 3 → ℕ) a) (r : Fin 256) (j : Fin n) :
    View.ld v (Rect.unit (s := (⟨3, ![1, 1024, n]⟩ : Shape)) ![0, o, 0] ![1, 256, n] inb) (ix3 0 r j) = v (ix3 0 ⟨o + r.val, by omega⟩ j) := by
  show v _ = v _
  congr 1
  funext a
  apply Fin.ext
  match a with
  | ⟨0, _⟩ => rfl
  | ⟨1, _⟩ => show o + 1 * r.val = o + r.val; omega
  | ⟨2, _⟩ => show 0 + 1 * j.val = j.val; omega

/-- A group whose rows start at row `o` of the block is the block's row function on those rows. -/
theorem piece (x0 x1 : Bf S1x1024x512) (x2 : Fl S1x1024x1024) (x3 : Fl S1x6x1024) (x4 : Fl S1x512) (x5 x6 : Fl S1x1024)
    (x7 : Bf S1024x1024) (x8 : Bf S1024x5632) (x9 : Bf S2816x1024) (o : ℕ) (ho : o + 256 ≤ 1024)
    (inb : ∀ a, (![0, o, 0] : Fin 3 → ℕ) a + S1x256x512.size a ≤ S1x1024x512.size a)
    (inb' : ∀ a, (![0, o, 0] : Fin 3 → ℕ) a + S1x256x1024.size a ≤ S1x1024x1024.size a) (x : S1x256x1024.Idx) :
    group (View.ld x0 (Rect.unit (s := S1x1024x512) ![0, o, 0] S1x256x512.size inb))
      (View.ld x1 (Rect.unit (s := S1x1024x512) ![0, o, 0] S1x256x512.size inb))
      (View.ld x2 (Rect.unit (s := S1x1024x1024) ![0, o, 0] S1x256x1024.size inb')) x3 x4 x5 x6 x7 x8 x9 x =
    rowOf x0 x1 x2 x3 x4 x5 x6 x7 x8 x9 ((Rect.unit (s := S1x1024x1024) ![0, o, 0] S1x256x1024.size inb').emb x) := by
  have hx : x = ix3 0 (x 1) (x 2) := by
    funext a
    match a with
    | ⟨0, _⟩ => exact Subsingleton.elim (α := Fin 1) _ _
    | ⟨1, _⟩ => rfl
    | ⟨2, _⟩ => rfl
  have e1 : (Rect.unit (s := S1x1024x1024) ![0, o, 0] S1x256x1024.size inb').emb x 1 = (⟨o + (x 1).val, by have := (x 1).isLt; change (x 1).val < 256 at this; omega⟩ : Fin 1024) :=
    Fin.ext (show o + 1 * (x 1).val = o + (x 1).val by omega)
  have e2 : (Rect.unit (s := S1x1024x1024) ![0, o, 0] S1x256x1024.size inb').emb x 2 = (x 2 : Fin 1024) :=
    Fin.ext (show 0 + 1 * (x 2).val = (x 2).val by omega)
  conv_lhs => rw [hx]
  refine (group_at _ _ _ x3 x4 x5 x6 x7 x8 x9 (x 1) (x 2)).trans ?_
  unfold rowOf
  rw [e1, e2]
  congr 1
  · funext j; exact ld_rows o ho x0 inb (x 1) j
  · funext j; exact ld_rows o ho x1 inb (x 1) j
  · funext j; exact ld_rows o ho x2 inb' (x 1) j

/-- The block the body leaves is the row function of the blocks it read. -/
theorem out_rows (x0 x1 : Bf S1x1024x512) (x2 : Fl S1x1024x1024) (x3 : Fl S1x6x1024) (x4 : Fl S1x512) (x5 x6 : Fl S1x1024)
    (x7 : Bf S1024x1024) (x8 : Bf S1024x5632) (x9 : Bf S2816x1024) :
    out0_10 x0 x1 x2 x3 x4 x5 x6 x7 x8 x9 = rowOf x0 x1 x2 x3 x4 x5 x6 x7 x8 x9 := by
  funext y
  rw [out_eq]
  refine View.canon_apply_of_pieces (rowOf x0 x1 x2 x3 x4 x5 x6 x7 x8 x9) _ ?_ y (cover0_10 _ _ _ _ y)
  intro p hp
  simp only [List.mem_cons, List.not_mem_nil, or_false] at hp
  rcases hp with rfl | rfl | rfl | rfl
  · exact piece x0 x1 x2 x3 x4 x5 x6 x7 x8 x9 768 (by omega) _ _
  · exact piece x0 x1 x2 x3 x4 x5 x6 x7 x8 x9 512 (by omega) _ _
  · exact piece x0 x1 x2 x3 x4 x5 x6 x7 x8 x9 256 (by omega) _ _
  · exact piece x0 x1 x2 x3 x4 x5 x6 x7 x8 x9 0 (by omega) _ _

end Cert.FfnKernel
end
-- ==== Proof.FfnRef.lean ====
module

public import proofs.«01_k».proof.Proof.Gen.Reference2Ideal.Run
public import proofs.«01_k».proof.Proof.FfnSpec

@[expose] public section

set_option maxRecDepth 16384

noncomputable section

/-! # The reference's feed-forward block, read row by row -/

namespace Cert.FfnRef

open Cert.Reference2Ideal Cert.Reference2Ideal.Gen Cert.Reference2Ideal.Value Cert.Ffn Idealize.ShloMosaic Idealize.ShloMosaic.TcCoe

/-- An array of the program, of half-precision and of single-precision numbers. -/
abbrev Bf (S : Shape) := FVec Ideal S .bf16
@[inherit_doc Bf] abbrev Fl (S : Shape) := FVec Ideal S .f32

/-- The first residual stream: the input plus the gated mix of the retention and the normalised convolution. -/
def rX1 (a0 a1 : Bf S8x4096x512) (a2 : Fl S8x4096x1024) (a3 : Fl S8x6x1024) (a4 : Fl S1x512) (a7 : Bf S1024x1024) : Fl S8x4096x1024 :=
  addf a2 (mulf (broadcastInDim S8x4096x1024 ![0, 1, 2] bcast_S8x1x1024_S8x4096x1024_0_1_2 (shapeCast _ (extractStridedSlice S8x1x1x1024 ![0, 2, 0, 0] (broadcastInDim S8x6x1x1024 ![0, 1, 3] bcast_S8x6x1024_S8x6x1x1024_0_1_3 a3) slices_S8x6x1x1024_S8x1x1x1024_0_2_0_0) shapeCasts_S8x1x1x1024_S8x1x1024)) (Host.dotGeneral dot_S8x4096x1024_S1024x1024_S8x4096x1024_2_0_01_1_n_n none (concatenate S8x4096x1024 2 [⟨S8x4096x512, (extf .f32 a0 bitsLt_bf16_f32)⟩, ⟨S8x4096x512, (mulf (mulf (extf .f32 a1 bitsLt_bf16_f32) (broadcastInDim S8x4096x512 ![0, 1, 2] bcast_S8x4096x1_S8x4096x512_0_1_2 (Host.rsqrt (addf (Host.divf (broadcastInDim S8x4096x1 ![0, 1] bcast_S8x4096_S8x4096x1_0_1 (Host.reduceAdd (mulf (extf .f32 a1 bitsLt_bf16_f32) (extf .f32 a1 bitsLt_bf16_f32)) (constant S_ .f32 0x00000000#32) reducesTo_S8x4096x512_S8x4096_d2 h_S_)) (broadcastInDim S8x4096x1 ![] bcast_S_S8x4096x1 (constant S_ .f32 0x44000000#32))) (broadcastInDim S8x4096x1 ![] bcast_S_S8x4096x1 (constant S_ .f32 0x358637BD#32)))))) (broadcastInDim S8x4096x512 ![0, 1, 2] bcast_S1x1x512_S8x4096x512_0_1_2 (broadcastInDim S1x1x512 ![2] bcast_S512_S1x1x512_2 (shapeCast _ a4 shapeCasts_S1x512_S512))))⟩] concatenates_S8x4096x512_S8x4096x512_S8x4096x1024_d2) (extf .f32 a7 bitsLt_bf16_f32)))

/-- The feed-forward's input: the first stream normalised, scaled and shifted by the modulation. -/
def rH (x1 : Fl S8x4096x1024) (a3 : Fl S8x6x1024) (a5 : Fl S1x1024) : Fl S8x4096x1024 :=
  addf (mulf (mulf (mulf x1 (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x1 x1) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ a5 shapeCasts_S1x1024_S1024)))) (broadcastInDim S8x4096x1024 ![0, 1, 2] bcast_S8x1x1024_S8x4096x1024_0_1_2 (addf (broadcastInDim S8x1x1024 ![] bcast_S_S8x1x1024 (constant S_ .f32 0x3F800000#32)) (shapeCast _ (extractStridedSlice S8x1x1x1024 ![0, 4, 0, 0] (broadcastInDim S8x6x1x1024 ![0, 1, 3] bcast_S8x6x1024_S8x6x1x1024_0_1_3 a3) slices_S8x6x1x1024_S8x1x1x1024_0_4_0_0) shapeCasts_S8x1x1x1024_S8x1x1024)))) (broadcastInDim S8x4096x1024 ![0, 1, 2] bcast_S8x1x1024_S8x4096x1024_0_1_2 (shapeCast _ (extractStridedSlice S8x1x1x1024 ![0, 3, 0, 0] (broadcastInDim S8x6x1x1024 ![0, 1, 3] bcast_S8x6x1024_S8x6x1x1024_0_1_3 a3) slices_S8x6x1x1024_S8x1x1x1024_0_3_0_0) shapeCasts_S8x1x1x1024_S8x1x1024))

/-- The gate and the up projection, side by side. -/
def rGU (h : Fl S8x4096x1024) (a8 : Bf S1024x5632) : Fl S8x4096x5632 :=
  Host.dotGeneral dot_S8x4096x1024_S1024x5632_S8x4096x5632_2_0_01_1_n_n none h (extf .f32 a8 bitsLt_bf16_f32)

/-- The gated unit's activation. -/
def rAct (gu : Fl S8x4096x5632) : Fl S8x4096x2816 :=
  mulf (mulf (extractStridedSlice S8x4096x2816 ![0, 0, 0] gu slices_S8x4096x5632_S8x4096x2816_0_0_0) (Host.divf (broadcastInDim S8x4096x2816 ![] bcast_S_S8x4096x2816 (constant S_ .f32 0x3F800000#32)) (addf (broadcastInDim S8x4096x2816 ![] bcast_S_S8x4096x2816 (constant S_ .f32 0x3F800000#32)) (Host.exp (Host.negf (extractStridedSlice S8x4096x2816 ![0, 0, 0] gu slices_S8x4096x5632_S8x4096x2816_0_0_0)))))) (extractStridedSlice S8x4096x2816 ![0, 0, 2816] gu slices_S8x4096x5632_S8x4096x2816_0_0_2816)

/-- The second residual stream. -/
def rX2 (x1 : Fl S8x4096x1024) (act : Fl S8x4096x2816) (a3 : Fl S8x6x1024) (a9 : Bf S2816x1024) : Fl S8x4096x1024 :=
  addf x1 (mulf (broadcastInDim S8x4096x1024 ![0, 1, 2] bcast_S8x1x1024_S8x4096x1024_0_1_2 (shapeCast _ (extractStridedSlice S8x1x1x1024 ![0, 5, 0, 0] (broadcastInDim S8x6x1x1024 ![0, 1, 3] bcast_S8x6x1024_S8x6x1x1024_0_1_3 a3) slices_S8x6x1x1024_S8x1x1x1024_0_5_0_0) shapeCasts_S8x1x1x1024_S8x1x1024)) (Host.dotGeneral dot_S8x4096x2816_S2816x1024_S8x4096x1024_2_0_01_1_n_n none act (extf .f32 a9 bitsLt_bf16_f32)))

/-- The final normalisation. -/
def rOut (x2 : Fl S8x4096x1024) (a6 : Fl S1024) : Fl S8x4096x1024 :=
  mulf (mulf x2 (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x2 x2) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 a6))

/-- The reference's first stream, row by row. -/
theorem rX1_at (a0 a1 : Bf S8x4096x512) (a2 : Fl S8x4096x1024) (a3 : Fl S8x6x1024) (a4 : Fl S1x512) (a7 : Bf S1024x1024) (b : Fin 8) (r : Fin 4096) (k : Fin 1024) :
    rX1 a0 a1 a2 a3 a4 a7 (ix3 b r k) = X1 (fun j => a0 (ix3 b r j)) (fun j => a1 (ix3 b r j)) (fun j => a4 (ix2 0 j))
      (fun j => a2 (ix3 b r j)) (fun j => a3 (ix3 b 2 j)) (fun i j => a7 (ix2 i j)) k := by
  pointwise [rX1]
  rfl

/-- The reference's feed-forward input, row by row. -/
theorem rH_at (x1 : Fl S8x4096x1024) (a3 : Fl S8x6x1024) (a5 : Fl S1x1024) (b : Fin 8) (r : Fin 4096) (k : Fin 1024) :
    rH x1 a3 a5 (ix3 b r k) = H (fun j => x1 (ix3 b r j)) (fun j => a5 (ix2 0 j)) (fun j => a3 (ix3 b 4 j)) (fun j => a3 (ix3 b 3 j)) k := by
  pointwise [rH]
  rfl

/-- The reference's gate and up projection, row by row. -/
theorem rGU_at (h : Fl S8x4096x1024) (a8 : Bf S1024x5632) (b : Fin 8) (r : Fin 4096) (k : Fin 5632) :
    rGU h a8 (ix3 b r k) = GU (fun j => h (ix3 b r j)) (fun i j => a8 (ix2 i j)) k := by
  pointwise [rGU]
  rfl

/-- The reference's activation, row by row. -/
theorem rAct_at (h : Fl S8x4096x1024) (a8 : Bf S1024x5632) (b : Fin 8) (r : Fin 4096) (k : Fin 2816) :
    rAct (rGU h a8) (ix3 b r k) = Act (fun j => h (ix3 b r j)) (fun i j => a8 (ix2 i j)) k := by
  pointwise [rAct]
  simp only [rGU_at]
  rfl

/-- The reference's second stream, row by row. -/
theorem rX2_at (x1 : Fl S8x4096x1024) (act : Fl S8x4096x2816) (a3 : Fl S8x6x1024) (a9 : Bf S2816x1024) (b : Fin 8) (r : Fin 4096) (k : Fin 1024) :
    rX2 x1 act a3 a9 (ix3 b r k) = X2 (fun j => x1 (ix3 b r j)) (fun j => a3 (ix3 b 5 j)) (Down (fun j => act (ix3 b r j)) (fun i j => a9 (ix2 i j))) k := by
  pointwise [rX2]
  rfl

/-- The reference's result, row by row, from the second stream. -/
theorem rOut_at (x2 : Fl S8x4096x1024) (a6 : Fl S1024) (b : Fin 8) (r : Fin 4096) (k : Fin 1024) :
    rOut x2 a6 (ix3 b r k) = Out (fun j => x2 (ix3 b r j)) (fun j => a6 (ix1 j)) k := by
  pointwise [rOut]
  rfl

/-- The row function of the arguments: the value of the result at each index. -/
def G (a0 a1 : Bf S8x4096x512) (a2 : Fl S8x4096x1024) (a3 : Fl S8x6x1024) (a4 : Fl S1x512) (a5 : Fl S1x1024) (a6 : Fl S1024)
    (a7 : Bf S1024x1024) (a8 : Bf S1024x5632) (a9 : Bf S2816x1024) : Fl S8x4096x1024 := fun i =>
  Row (fun j => a0 (ix3 (i 0) (i 1) j)) (fun j => a1 (ix3 (i 0) (i 1) j)) (fun j => a2 (ix3 (i 0) (i 1) j))
    (fun a j => a3 (ix3 (i 0) a j)) (fun j => a4 (ix2 0 j)) (fun j => a5 (ix2 0 j)) (fun j => a6 (ix1 j))
    (fun i j => a7 (ix2 i j)) (fun i j => a8 (ix2 i j)) (fun i j => a9 (ix2 i j)) (i 2)

/-- The stages one after another, row by row. -/
theorem stages_at (a0 a1 : Bf S8x4096x512) (a2 : Fl S8x4096x1024) (a3 : Fl S8x6x1024) (a4 : Fl S1x512) (a5 : Fl S1x1024) (a6 : Fl S1024)
    (a7 : Bf S1024x1024) (a8 : Bf S1024x5632) (a9 : Bf S2816x1024) (b : Fin 8) (r : Fin 4096) (k : Fin 1024) :
    rOut (rX2 (rX1 a0 a1 a2 a3 a4 a7) (rAct (rGU (rH (rX1 a0 a1 a2 a3 a4 a7) a3 a5) a8)) a3 a9) a6 (ix3 b r k)
      = G a0 a1 a2 a3 a4 a5 a6 a7 a8 a9 (ix3 b r k) := by
  simp only [rOut_at, rX2_at, rAct_at, rH_at, rX1_at]
  rfl

/-- The reference's result is the row function of its arguments. -/
theorem res_eq (m : (ℓ : Loc nD τ sig) → Buf (Elt Ideal) ℓ) (c : Dev nD) :
    res_main_v74 (F := Ideal) m c =
      G (m (c.tc.loc main_arg0)) (m (c.tc.loc main_arg1)) (m (c.tc.loc main_arg2)) (m (c.tc.loc main_arg3)) (m (c.tc.loc main_arg4))
        (m (c.tc.loc main_arg5)) (m (c.tc.loc main_arg6)) (m (c.tc.loc main_arg7)) (m (c.tc.loc main_arg8)) (m (c.tc.loc main_arg9)) := by
  funext i
  have hi : i = ix3 (i 0) (i 1) (i 2) := by
    funext a
    match a with
    | ⟨0, _⟩ => rfl
    | ⟨1, _⟩ => rfl
    | ⟨2, _⟩ => rfl
  rw [hi]
  exact stages_at (m (c.tc.loc main_arg0)) (m (c.tc.loc main_arg1)) (m (c.tc.loc main_arg2)) (m (c.tc.loc main_arg3)) (m (c.tc.loc main_arg4))
    (m (c.tc.loc main_arg5)) (m (c.tc.loc main_arg6)) (m (c.tc.loc main_arg7)) (m (c.tc.loc main_arg8)) (m (c.tc.loc main_arg9)) (i 0) (i 1) (i 2)

end Cert.FfnRef
end
-- ==== Proof.FfnValue.lean ====
module

public import proofs.«01_k».proof.Proof.FfnGroup
public import proofs.«01_k».proof.Proof.FfnRef
public import proofs.«01_k».proof.Defs

@[expose] public section

set_option maxRecDepth 16384

noncomputable section

/-! # The feed-forward kernel's result array, and its agreement with the reference -/

namespace Cert.FfnKernel

open Cert.Kernel2Ideal Cert.Kernel2Ideal.Gen Cert.Ffn Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The second norm's gain as the kernel's region finds it: the argument itself. -/
theorem V_main_v1 (c : Dev nD) (k : Fin 1024) :
    (V m c main_v1 : Fl S1x1024) (ix2 0 k) = (m ((c : Thread nD τ).loc main_arg5) : Fl S1x1024) (ix2 0 k) := by
  have h : (V m c main_v1 : Fl S1x1024) = broadcastInDim S1x1024 ![1] bcast_S1024_S1x1024_1 (shapeCast S1024 (m ((c : Thread nD τ).loc main_arg5) : Fl S1x1024) shapeCasts_S1x1024_S1024) := by
    show StableHlo.after hostOps0 _ (Proc.devRef .tc main_v1) = _
    after_results
    rfl
  rw [h]
  generalize (m ((c : Thread nD τ).loc main_arg5) : Fl S1x1024) = w
  pointwise

/-- The final norm's gain as the kernel's region finds it: the argument as one row. -/
theorem V_main_v2 (c : Dev nD) (k : Fin 1024) :
    (V m c main_v2 : Fl S1x1024) (ix2 0 k) = (m ((c : Thread nD τ).loc main_arg6) : Fl S1024) (ix1 k) := by
  have h : (V m c main_v2 : Fl S1x1024) = broadcastInDim S1x1024 ![1] bcast_S1024_S1x1024_1 (m ((c : Thread nD τ).loc main_arg6) : Fl S1024) := by
    show StableHlo.after hostOps0 _ (Proc.devRef .tc main_v2) = _
    after_results
    try rfl
  rw [h]
  generalize (m ((c : Thread nD τ).loc main_arg6) : Fl S1024) = w
  pointwise

/-- The block each window reads at a grid point: the batch element `t / 4`, and the row tile `t % 4`. -/
theorem index_rows : ∀ t : Fin cfg0.N, (win0_0.index t = ![t.val / 4, t.val % 4, 0] ∧ win0_1.index t = ![t.val / 4, t.val % 4, 0]
    ∧ win0_2.index t = ![t.val / 4, t.val % 4, 0] ∧ win0_10.index t = ![t.val / 4, t.val % 4, 0]) ∧ win0_3.index t = ![t.val / 4, 0, 0] :=
  (by decide +kernel : ∀ t : Fin grid0.N, (win0_0.index t = ![t.val / 4, t.val % 4, 0] ∧ win0_1.index t = ![t.val / 4, t.val % 4, 0]
    ∧ win0_2.index t = ![t.val / 4, t.val % 4, 0] ∧ win0_10.index t = ![t.val / 4, t.val % 4, 0]) ∧ win0_3.index t = ![t.val / 4, 0, 0])

/-- The weights and gains are read whole at every grid point. -/
theorem index_whole : ∀ t : Fin cfg0.N, win0_4.index t = ![0, 0] ∧ win0_5.index t = ![0, 0] ∧ win0_6.index t = ![0, 0]
    ∧ win0_7.index t = ![0, 0] ∧ win0_8.index t = ![0, 0] ∧ win0_9.index t = ![0, 0] :=
  (by decide +kernel : ∀ t : Fin grid0.N, win0_4.index t = ![0, 0] ∧ win0_5.index t = ![0, 0] ∧ win0_6.index t = ![0, 0]
    ∧ win0_7.index t = ![0, 0] ∧ win0_8.index t = ![0, 0] ∧ win0_9.index t = ![0, 0])

theorem t_lt (t : Fin cfg0.N) : t.val < 32 := lt_of_lt_of_eq t.isLt N_0

/-- The batch element and the row of the array that row `r` of point `t`'s block is. -/
def bt (t : Fin cfg0.N) : Fin 8 := ⟨t.val / 4, by have := t_lt t; omega⟩
@[inherit_doc bt] def rt (t : Fin cfg0.N) (r : Fin 1024) : Fin 4096 := ⟨t.val % 4 * 1024 + r.val, by omega⟩

theorem blk0 (c : Dev nD) (t : Fin cfg0.N) (r : Fin 1024) (j : Fin 512) :
    (iblk m c 0 t : Bf S1x1024x512) (ix3 0 r j) = (m ((c : Thread nD τ).loc main_arg0) : Bf S8x4096x512) (ix3 (bt t) (rt t r) j) := by
  unfold iblk
  rw [show V m c (Pipeline.arrRef spec0 0) = m ((c : Thread nD τ).loc main_arg0) from V_main_arg0 m c]
  show (m ((c : Thread nD τ).loc main_arg0) : Bf S8x4096x512) _ = _
  congr 1
  obtain ⟨⟨e, -, -, -⟩, -⟩ := index_rows t
  funext a
  apply Fin.ext
  match a with
  | ⟨0, _⟩ => show win0_0.index t 0 * 1 + 1 * 0 = t.val / 4; rw [e]; show t.val / 4 * 1 + 1 * 0 = _; omega
  | ⟨1, _⟩ => show win0_0.index t 1 * 1024 + 1 * r.val = t.val % 4 * 1024 + r.val; rw [e]; show t.val % 4 * 1024 + 1 * r.val = _; omega
  | ⟨2, _⟩ => show win0_0.index t 2 * 512 + 1 * j.val = j.val; rw [e]; show 0 * 512 + 1 * j.val = _; omega

theorem blk1 (c : Dev nD) (t : Fin cfg0.N) (r : Fin 1024) (j : Fin 512) :
    (iblk m c 1 t : Bf S1x1024x512) (ix3 0 r j) = (m ((c : Thread nD τ).loc main_arg1) : Bf S8x4096x512) (ix3 (bt t) (rt t r) j) := by
  unfold iblk
  rw [show V m c (Pipeline.arrRef spec0 1) = m ((c : Thread nD τ).loc main_arg1) from V_main_arg1 m c]
  show (m ((c : Thread nD τ).loc main_arg1) : Bf S8x4096x512) _ = _
  congr 1
  obtain ⟨⟨-, e, -, -⟩, -⟩ := index_rows t
  funext a
  apply Fin.ext
  match a with
  | ⟨0, _⟩ => show win0_1.index t 0 * 1 + 1 * 0 = t.val / 4; rw [e]; show t.val / 4 * 1 + 1 * 0 = _; omega
  | ⟨1, _⟩ => show win0_1.index t 1 * 1024 + 1 * r.val = t.val % 4 * 1024 + r.val; rw [e]; show t.val % 4 * 1024 + 1 * r.val = _; omega
  | ⟨2, _⟩ => show win0_1.index t 2 * 512 + 1 * j.val = j.val; rw [e]; show 0 * 512 + 1 * j.val = _; omega

theorem blk2 (c : Dev nD) (t : Fin cfg0.N) (r : Fin 1024) (j : Fin 1024) :
    (iblk m c 2 t : Fl S1x1024x1024) (ix3 0 r j) = (m ((c : Thread nD τ).loc main_arg2) : Fl S8x4096x1024) (ix3 (bt t) (rt t r) j) := by
  unfold iblk
  rw [show V m c (Pipeline.arrRef spec0 2) = m ((c : Thread nD τ).loc main_arg2) from V_main_arg2 m c]
  show (m ((c : Thread nD τ).loc main_arg2) : Fl S8x4096x1024) _ = _
  congr 1
  obtain ⟨⟨-, -, e, -⟩, -⟩ := index_rows t
  funext a
  apply Fin.ext
  match a with
  | ⟨0, _⟩ => show win0_2.index t 0 * 1 + 1 * 0 = t.val / 4; rw [e]; show t.val / 4 * 1 + 1 * 0 = _; omega
  | ⟨1, _⟩ => show win0_2.index t 1 * 1024 + 1 * r.val = t.val % 4 * 1024 + r.val; rw [e]; show t.val % 4 * 1024 + 1 * r.val = _; omega
  | ⟨2, _⟩ => show win0_2.index t 2 * 1024 + 1 * j.val = j.val; rw [e]; show 0 * 1024 + 1 * j.val = _; omega

theorem blk3 (c : Dev nD) (t : Fin cfg0.N) (a : Fin 6) (j : Fin 1024) :
    (iblk m c 3 t : Fl S1x6x1024) (ix3 0 a j) = (m ((c : Thread nD τ).loc main_arg3) : Fl S8x6x1024) (ix3 (bt t) a j) := by
  unfold iblk
  rw [show V m c (Pipeline.arrRef spec0 3) = m ((c : Thread nD τ).loc main_arg3) from V_main_arg3 m c]
  show (m ((c : Thread nD τ).loc main_arg3) : Fl S8x6x1024) _ = _
  congr 1
  obtain ⟨-, e⟩ := index_rows t
  funext x
  apply Fin.ext
  match x with
  | ⟨0, _⟩ => show win0_3.index t 0 * 1 + 1 * 0 = t.val / 4; rw [e]; show t.val / 4 * 1 + 1 * 0 = _; omega
  | ⟨1, _⟩ => show win0_3.index t 1 * 6 + 1 * a.val = a.val; rw [e]; show 0 * 6 + 1 * a.val = _; omega
  | ⟨2, _⟩ => show win0_3.index t 2 * 1024 + 1 * j.val = j.val; rw [e]; show 0 * 1024 + 1 * j.val = _; omega

/-- An index of a two-axis array inside a block whose offset is zero is itself. -/
theorem emb2 {A B : ℕ} (x : (⟨2, ![A, B]⟩ : Shape).Idx) (idx : Fin 2 → ℕ) (e : idx = ![0, 0]) (y : (⟨2, ![A, B]⟩ : Shape).Idx)
    (h0 : (x 0).val = idx 0 * A + 1 * (y 0).val) (h1 : (x 1).val = idx 1 * B + 1 * (y 1).val) : x = y := by
  subst e
  funext a
  apply Fin.ext
  match a with
  | ⟨0, _⟩ => rw [show (x ⟨0, _⟩).val = _ from h0]; show 0 * A + 1 * (y 0).val = (y 0).val; omega
  | ⟨1, _⟩ => rw [show (x ⟨1, _⟩).val = _ from h1]; show 0 * B + 1 * (y 1).val = (y 1).val; omega

theorem blk4 (c : Dev nD) (t : Fin cfg0.N) : (iblk m c 4 t : Fl S1x512) = (m ((c : Thread nD τ).loc main_arg4) : Fl S1x512) := by
  unfold iblk
  rw [show V m c (Pipeline.arrRef spec0 4) = m ((c : Thread nD τ).loc main_arg4) from V_main_arg4 m c]
  funext y
  show (m ((c : Thread nD τ).loc main_arg4) : Fl S1x512) _ = _
  congr 1
  exact emb2 _ (win0_4.index t) (index_whole t).1 y rfl rfl

theorem blk5 (c : Dev nD) (t : Fin cfg0.N) : (iblk m c 5 t : Fl S1x1024) = (V m c main_v1 : Fl S1x1024) := by
  unfold iblk
  rw [show V m c (Pipeline.arrRef spec0 5) = V m c main_v1 from rfl]
  generalize V m c main_v1 = w
  funext y
  show (w : Fl S1x1024) _ = _
  congr 1
  exact emb2 _ (win0_5.index t) (index_whole t).2.1 y rfl rfl

theorem blk6 (c : Dev nD) (t : Fin cfg0.N) : (iblk m c 6 t : Fl S1x1024) = (V m c main_v2 : Fl S1x1024) := by
  unfold iblk
  rw [show V m c (Pipeline.arrRef spec0 6) = V m c main_v2 from rfl]
  generalize V m c main_v2 = w
  funext y
  show (w : Fl S1x1024) _ = _
  congr 1
  exact emb2 _ (win0_6.index t) (index_whole t).2.2.1 y rfl rfl

theorem blk7 (c : Dev nD) (t : Fin cfg0.N) : (iblk m c 7 t : Bf S1024x1024) = (m ((c : Thread nD τ).loc main_arg7) : Bf S1024x1024) := by
  unfold iblk
  rw [show V m c (Pipeline.arrRef spec0 7) = m ((c : Thread nD τ).loc main_arg7) from V_main_arg7 m c]
  funext y
  show (m ((c : Thread nD τ).loc main_arg7) : Bf S1024x1024) _ = _
  congr 1
  exact emb2 _ (win0_7.index t) (index_whole t).2.2.2.1 y rfl rfl

theorem blk8 (c : Dev nD) (t : Fin cfg0.N) : (iblk m c 8 t : Bf S1024x5632) = (m ((c : Thread nD τ).loc main_arg8) : Bf S1024x5632) := by
  unfold iblk
  rw [show V m c (Pipeline.arrRef spec0 8) = m ((c : Thread nD τ).loc main_arg8) from V_main_arg8 m c]
  funext y
  show (m ((c : Thread nD τ).loc main_arg8) : Bf S1024x5632) _ = _
  congr 1
  exact emb2 _ (win0_8.index t) (index_whole t).2.2.2.2.1 y rfl rfl

theorem blk9 (c : Dev nD) (t : Fin cfg0.N) : (iblk m c 9 t : Bf S2816x1024) = (m ((c : Thread nD τ).loc main_arg9) : Bf S2816x1024) := by
  unfold iblk
  rw [show V m c (Pipeline.arrRef spec0 9) = m ((c : Thread nD τ).loc main_arg9) from V_main_arg9 m c]
  funext y
  show (m ((c : Thread nD τ).loc main_arg9) : Bf S2816x1024) _ = _
  congr 1
  exact emb2 _ (win0_9.index t) (index_whole t).2.2.2.2.2 y rfl rfl

/-- The kernel's result: the row function of the arguments. -/
def GK (c : Dev nD) : Fl S8x4096x1024 :=
  Cert.FfnRef.G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-- The block the body leaves at point `t` is the row function of the arguments on that block. -/
theorem rowOf_blk (c : Dev nD) (t : Fin cfg0.N) (r : Fin 1024) (k : Fin 1024) :
    rowOf (iblk m c 0 t) (iblk m c 1 t) (iblk m c 2 t) (iblk m c 3 t) (iblk m c 4 t) (iblk m c 5 t) (iblk m c 6 t) (iblk m c 7 t) (iblk m c 8 t) (iblk m c 9 t) (ix3 0 r k)
      = GK m c (ix3 (bt t) (rt t r) k) := by
  unfold GK Cert.FfnRef.G rowOf
  beta_reduce
  congr 1
  · funext j; exact blk0 m c t r j
  · funext j; exact blk1 m c t r j
  · funext j; exact blk2 m c t r j
  · funext a j; exact blk3 m c t a j
  · funext j; exact congrFun (blk4 m c t) _
  · funext j; exact (congrFun (blk5 m c t) _).trans (V_main_v1 m c j)
  · funext j; exact (congrFun (blk6 m c t) _).trans (V_main_v2 m c j)
  · funext i j; exact congrFun (blk7 m c t) _
  · funext i j; exact congrFun (blk8 m c t) _
  · funext i j; exact congrFun (blk9 m c t) _

/-- What point `t` writes back is the row function on its block. -/
theorem flushed_eq (c : Dev nD) (t : Fin cfg0.N) :
    (dats m 0 c).flushed 10 t = ((cfg0.win 10).blk t).view.read (Elt Ideal) (GK m c) := by
  rw [Cert.Kernel2Ideal.Value.flushed10, out_rows]
  funext y
  have hy : y = (ix3 0 (y 1) (y 2) : S1x1024x1024.Idx) := by
    funext a
    match a with
    | ⟨0, _⟩ => exact Subsingleton.elim (α := Fin 1) _ _
    | ⟨1, _⟩ => rfl
    | ⟨2, _⟩ => rfl
  rw [hy]
  refine (rowOf_blk m c t (y 1) (y 2)).trans ?_
  show GK m c _ = GK m c _
  congr 1
  obtain ⟨⟨-, -, -, e⟩, -⟩ := index_rows t
  funext a
  apply Fin.ext
  match a with
  | ⟨0, _⟩ => show t.val / 4 = win0_10.index t 0 * 1 + 1 * 0; rw [e]; show _ = t.val / 4 * 1 + 1 * 0; omega
  | ⟨1, _⟩ => show t.val % 4 * 1024 + (y 1).val = win0_10.index t 1 * 1024 + 1 * (y 1).val; rw [e]; show _ = t.val % 4 * 1024 + 1 * (y 1).val; omega
  | ⟨2, _⟩ => show (y 2).val = win0_10.index t 2 * 1024 + 1 * (y 2).val; rw [e]; show _ = 0 * 1024 + 1 * (y 2).val; omega

/-- An index of the array is in point `t`'s block when its batch element and its row are the block's. -/
theorem mem_blk (t : Fin cfg0.N) (i : S8x4096x1024.Idx) (h0 : (i 0).val = t.val / 4) (h1 : (i 1).val / 1024 = t.val % 4) :
    i ∈ ((cfg0.win 10).blk t).view.set := by
  show i ∈ ((View.whole main_v3).slice (win0_10.rect t)).set
  rw [View.set_slice_whole, Rect.mem_set_unit]
  obtain ⟨⟨-, -, -, e⟩, -⟩ := index_rows t
  have i2 : (i 2).val < 1024 := (i 2).isLt
  intro a
  match a with
  | ⟨0, _⟩ => show win0_10.index t 0 * 1 ≤ (i 0).val ∧ (i 0).val < win0_10.index t 0 * 1 + 1; rw [e]; show t.val / 4 * 1 ≤ (i 0).val ∧ (i 0).val < t.val / 4 * 1 + 1; omega
  | ⟨1, _⟩ => show win0_10.index t 1 * 1024 ≤ (i 1).val ∧ (i 1).val < win0_10.index t 1 * 1024 + 1024; rw [e]; show t.val % 4 * 1024 ≤ (i 1).val ∧ (i 1).val < t.val % 4 * 1024 + 1024; omega
  | ⟨2, _⟩ => show win0_10.index t 2 * 1024 ≤ (i 2).val ∧ (i 2).val < win0_10.index t 2 * 1024 + 1024; rw [e]; show 0 * 1024 ≤ (i 2).val ∧ (i 2).val < 0 * 1024 + 1024; omega

/-- Every grid point writes its block back. -/
theorem flushes : ∀ t : Fin cfg0.N, (cfg0.win 10).flush t = true :=
  (by decide +kernel : ∀ t : Fin grid0.N, win0_10.flush t = true)

/-- The array after the run is the row function of the arguments. -/
theorem final (c : Dev nD) : (dats m 0 c).arrAt 10 cfg0.N = GK m c :=
  (dats m 0 c).arrAt_eq_of_cover 10 _ (fun t _ => flushed_eq m c t) (fun i => by
    have i0 : (i 0).val < 8 := (i 0).isLt
    have i1 : (i 1).val < 4096 := (i 1).isLt
    have hN : (i 0).val * 4 + (i 1).val / 1024 < cfg0.N := by rw [show cfg0.N = 32 from N_0]; omega
    refine ⟨⟨(i 0).val * 4 + (i 1).val / 1024, hN⟩, flushes _, mem_blk _ i ?_ ?_⟩
    · show (i 0).val = ((i 0).val * 4 + (i 1).val / 1024) / 4; omega
    · show (i 1).val / 1024 = ((i 0).val * 4 + (i 1).val / 1024) % 4; omega)

end Cert.FfnKernel

namespace Cert.FfnClaim

open Idealize.ShloMosaic Idealize.ShloMosaic.TcCoe Idealize.SL.Sem

/-- The reference's frame: its arguments end unchanged and every semaphore counter is back at zero. -/
theorem frame_ref : Cert.quiescent_Reference2Ideal := fun m ρ _ =>
  (θ_run _ _ _).mono (fun r h => ⟨fun c => (h c).2, sem_eq_zero_of_no_sems (by decide) r.2⟩) (Cert.Reference2Ideal.Value.run m ρ)

/-- The kernel's and the reference's results are equal over the extended reals, for all arguments. -/
theorem algebraic : Cert.algebraic_Kernel2Ideal_Reference2Ideal := by
  intro m ρ m' ρ' _ hag
  refine ⟨fun c => Cert.FfnKernel.GK m c, ?_, ?_⟩
  · refine (θ_run _ _ _).mono (fun r h c => ?_) (Cert.Kernel2Ideal.Value.run_blocks m ρ)
    exact ⟨(h c).1.trans (Cert.FfnKernel.final m c), (h c).2⟩
  · refine (θ_run _ _ _).mono (fun r h c => ?_) (Cert.Reference2Ideal.Value.run m' ρ')
    obtain ⟨h0, h1, h2, h3, h4, h5, h6, h7, h8, h9⟩ := hag c
    refine ⟨(h c).1.trans ((Cert.FfnRef.res_eq m' c).trans ?_), (h c).2⟩
    rw [h0, h1, h2, h3, h4, h5, h6, h7, h8, h9]
    rfl

end Cert.FfnClaim
end
-- ==== Proof.InSpec.lean ====
module

public import proofs.«01_k».proof.Proof.FfnSpec

@[expose] public section

noncomputable section

/-! # One row of the input projection, over the extended reals

A row of the projection is a function `p` of its column. The functions below say what becomes of the columns: the
rotation of the queries and keys by the position's angles, the gate's `silu`, and the convolution of three rows. -/

namespace Cert.Inp

open Idealize.ShloMosaic Cert.Ffn

/-- Column `j` of the product of a normalised row with the weights. -/
def P (h : Fin 1024 → EReal) (w : Fin 1024 → Fin 3584 → EReal) (j : Fin 3584) : EReal := ∑ x, h x * w x j

/-- The place of column `c`, of the 1024 of queries and keys, in its head. -/
def lane (c : Fin 1024) : Fin 128 := ⟨c.val % 128, Nat.mod_lt _ (by decide)⟩

/-- The column half a head away from column `c`, in the same head. -/
def turn (c : Fin 1024) : Fin 3584 := ⟨c.val / 128 * 128 + (c.val % 128 + 64) % 128, by omega⟩

/-- The rotation, with a cosine and a signed sine for each lane: `a = p · cc + (p half a head away) · ss`. -/
def Turned (p : Fin 3584 → EReal) (cc ss : Fin 128 → EReal) (c : Fin 1024) : EReal :=
  p ⟨c.val, by omega⟩ * cc (lane c) + p (turn c) * ss (lane c)

/-- The place of a lane in its half of the head. -/
def half (n : Fin 128) : Fin 64 := ⟨n.val % 64, Nat.mod_lt _ (by decide)⟩

/-- The rotation with one cosine and one sine for a pair of lanes: `t₁ cos - t₂ sin` in the first half of a head,
`t₁ sin + t₂ cos` in the second. -/
def Rope (p : Fin 3584 → EReal) (co si : Fin 64 → EReal) (c : Fin 1024) : EReal :=
  if (lane c).val < 64 then p ⟨c.val, by omega⟩ * co (half (lane c)) - p (turn c) * si (half (lane c))
  else p (turn c) * si (half (lane c)) + p ⟨c.val, by omega⟩ * co (half (lane c))

/-- The `silu` of a number. -/
def Silu (y : EReal) : EReal := y * Ideal.div 1 (1 + Ideal.exp (-y))

/-- The factor of the keys. -/
def ks : EReal := Ideal.ofBits .f32 0x3DB504F3#32

/-- The part of the result that the retention takes: rotated queries, rotated and scaled keys, values, gates. -/
def Qkvg (p : Fin 3584 → EReal) (co si : Fin 64 → EReal) (c : Fin 2048) : EReal :=
  if h : c.val < 512 then Rope p co si ⟨c.val, by omega⟩
  else if h : c.val < 1024 then Rope p co si ⟨c.val, by omega⟩ * ks
  else if c.val < 1536 then p ⟨c.val, by omega⟩
  else Silu (p ⟨c.val, by omega⟩)

/-- The convolution of a row with the rows before and after it. -/
def Conv (before here after : Fin 3584 → EReal) (w : Fin 3 → Fin 1536 → EReal) (b : Fin 1536 → EReal) (j : Fin 1536) : EReal :=
  before ⟨2048 + j.val, by omega⟩ * w 0 j + here ⟨2048 + j.val, by omega⟩ * w 1 j + after ⟨2048 + j.val, by omega⟩ * w 2 j + b j

/-- The rotation with signs in its table is the rotation with a difference. -/
theorem turned_eq (p : Fin 3584 → EReal) (co si : Fin 64 → EReal) (c : Fin 1024) :
    Turned p (fun n => co (half n)) (fun n => if n.val < 64 then -si (half n) else si (half n)) c = Rope p co si c := by
  unfold Turned Rope
  by_cases h : (lane c).val < 64
  · simp only [if_pos h, mul_neg, sub_eq_add_neg]
  · simp only [if_neg h]
    exact add_comm _ _

/-- A real factor goes into the tables of a rotation. -/
theorem turned_mul (p : Fin 3584 → EReal) (cc ss : Fin 128 → EReal) (c : Fin 1024) (k : EReal) (hk : 0 ≤ k) (hk' : k ≠ ⊤) :
    Turned p (fun n => cc n * k) (fun n => ss n * k) c = Turned p cc ss c * k := by
  unfold Turned
  rw [EReal.right_distrib_of_nonneg_of_ne_top hk hk', mul_assoc, mul_assoc]

end Cert.Inp
end
-- ==== Proof.InKernel.lean ====
module

public import proofs.«01_k».proof.Proof.Gen.Kernel3Ideal.Value
public import proofs.«01_k».proof.Proof.InSpec

@[expose] public section

set_option maxRecDepth 16384

noncomputable section

/-! # The kernel's blocks of the input projection, piece by piece -/

namespace Cert.InKernel

open Cert.Kernel3Ideal Cert.Kernel3Ideal.Gen Cert.Ffn Cert.Inp Idealize.ShloMosaic Idealize.ShloMosaic.TcCoe

/-- A vector of half-precision numbers, and one of single-precision numbers. -/
abbrev Bf (S : Shape) := Vec Ideal S .bf16
@[inherit_doc Bf] abbrev Fl (S : Shape) := Vec Ideal S .f32

/-- The normalised and modulated rows of a group of 256. -/
def hG (x3 : Fl S1x6x1024) (x4 : Fl S1x1024) (x : Fl S1x256x1024) : Fl S256x1024 :=
  k0_pay7 (k0_pay3 x4 (View.ld x3 (Rect.unit ![0, 1, 0] ![1, 1, 1024] inb_S1x6x1024_S1x1x1024_0_1_0))) x
    (View.ld x3 (Rect.unit ![0, 0, 0] ![1, 1, 1024] inb_S1x6x1024_S1x1x1024_0_0_0))

/-- A head's 128 columns of a group, rotated. -/
def ropePiece (h : Fl S256x1024) (w : Bf S1024x512) (cc ss : Fl S256x128) (o : ℕ) (hs : S256x512.Slices ![0, o] S256x128) :
    Bf S1x256x128 :=
  let p : Fl S256x128 := extractStridedSlice S256x128 ![0, o] (k0_pay17 (k0_pay10 h) w) hs
  k0_pay40 (mulf p (k0_pay21 cc)) (mulf (dynamicRotate 1 64#32 none p rotates_S256x128_d1) (k0_pay22 ss))

theorem hG_at (x3 : Fl S1x6x1024) (x4 : Fl S1x1024) (x : Fl S1x256x1024) (r : Fin 256) (k : Fin 1024) :
    hG x3 x4 x (ix2 r k) = H (fun j => x (ix3 0 r j)) (fun j => x4 (ix2 0 j)) (fun j => x3 (ix3 0 1 j)) (fun j => x3 (ix3 0 0 j)) k := by
  pointwise [hG, k0_pay7, k0_pay3]
  rw [← mul_assoc]
  rfl

theorem rope_at (h : Fl S256x1024) (w : Bf S1024x512) (cc ss : Fl S256x128) (o : ℕ) (ho : o ≤ 384) (hs : S256x512.Slices ![0, o] S256x128)
    (r : Fin 256) (n : Fin 128) :
    ropePiece h w cc ss o hs (ix3 0 r n) =
      (∑ x : Fin 1024, h (ix2 r x) * w (ix2 x ⟨o + n.val, by omega⟩)) * cc (ix2 r n)
      + (∑ x : Fin 1024, h (ix2 r x) * w (ix2 x ⟨o + (n.val + 64) % 128, by omega⟩)) * ss (ix2 r n) := by
  pointwise [ropePiece, k0_pay40, k0_pay21, k0_pay22, k0_pay17, k0_pay10]
  simp only [show n.val + 128 - 64 = n.val + 64 by omega]

theorem gate_at (h : Fl S256x1024) (w : Bf S1024x512) (r : Fin 256) (n : Fin 512) :
    k0_pay100 (k0_pay10 h) w (ix3 0 r n) = Silu (∑ x : Fin 1024, h (ix2 r x) * w (ix2 x n)) := by
  pointwise [k0_pay100, k0_pay10]
  unfold Silu
  simp only [Ideal.mul_one_div (one_add_exp_ne_zero _), zero_sub]

theorem val_at (h : Fl S256x1024) (w : Bf S1024x512) (r : Fin 256) (n : Fin 512) :
    k0_pay116 (k0_pay10 h) w (ix3 0 r n) = ∑ x : Fin 1024, h (ix2 r x) * w (ix2 x n) := by
  pointwise [k0_pay116, k0_pay10]

/-- The first group's rows under the 16 rows before the tile. -/
def hFirst (x1 : Fl S1x16x1024) (x3 : Fl S1x6x1024) (x4 : Fl S1x1024) (x : Fl S1x256x1024) : Bf S272x1024 :=
  k0_pay14 (k0_pay3 x4 (View.ld x3 (Rect.unit ![0, 1, 0] ![1, 1, 1024] inb_S1x6x1024_S1x1x1024_0_1_0))) (hG x3 x4 x) x1
    (View.ld x3 (Rect.unit ![0, 0, 0] ![1, 1, 1024] inb_S1x6x1024_S1x1x1024_0_0_0))

/-- The last group's rows above the 16 rows after the tile. -/
def hLast (x2 : Fl S1x16x1024) (x3 : Fl S1x6x1024) (x4 : Fl S1x1024) (x : Fl S1x256x1024) : Bf S272x1024 :=
  k0_pay16 (hG x3 x4 x) (k0_pay15 (k0_pay3 x4 (View.ld x3 (Rect.unit ![0, 1, 0] ![1, 1, 1024] inb_S1x6x1024_S1x1x1024_0_1_0))) x2)
    (View.ld x3 (Rect.unit ![0, 0, 0] ![1, 1, 1024] inb_S1x6x1024_S1x1x1024_0_0_0))

theorem hFirst_at (x1 : Fl S1x16x1024) (x3 : Fl S1x6x1024) (x4 : Fl S1x1024) (x : Fl S1x256x1024) (r : Fin 272) (k : Fin 1024) :
    hFirst x1 x3 x4 x (ix2 r k) = if h : r.val < 16
      then H (fun j => x1 (ix3 0 ⟨r.val, h⟩ j)) (fun j => x4 (ix2 0 j)) (fun j => x3 (ix3 0 1 j)) (fun j => x3 (ix3 0 0 j)) k
      else hG x3 x4 x (ix2 ⟨r.val - 16, by omega⟩ k) := by
  generalize hq : hG x3 x4 x = q
  pointwise [hFirst, k0_pay14, k0_pay3, hq]
  simp only [← mul_assoc]
  rfl

theorem hLast_at (x2 : Fl S1x16x1024) (x3 : Fl S1x6x1024) (x4 : Fl S1x1024) (x : Fl S1x256x1024) (r : Fin 272) (k : Fin 1024) :
    hLast x2 x3 x4 x (ix2 r k) = if h : r.val < 256
      then hG x3 x4 x (ix2 ⟨r.val, h⟩ k)
      else H (fun j => x2 (ix3 0 ⟨r.val - 256, by omega⟩ j)) (fun j => x4 (ix2 0 j)) (fun j => x3 (ix3 0 1 j)) (fun j => x3 (ix3 0 0 j)) k := by
  generalize hq : hG x3 x4 x = q
  pointwise [hLast, k0_pay16, k0_pay15, k0_pay3, hq]
  simp only [← mul_assoc]
  rfl

/-- The projection of the tile's rows and of the 16 rows on each side, the sides made zero at the sequence's ends. -/
def slab (a : BitVec 32) (ha hb : Bf S272x1024) (h1 h2 : Fl S256x1024) (w : Bf S1024x256) : Fl S1056x256 :=
  let p : Fl S272x256 := k0_pay105 ha w
  let q : Fl S272x256 := k0_pay108 hb w
  let first : Fl S272x256 := concatenate S272x256 0 [⟨S16x256, k0_pay109 a ha w⟩,
    ⟨S256x256, extractStridedSlice S256x256 ![16, 0] p slices_S272x256_o16_0_S256x256⟩] concatenates_S16x256_S256x256_S272x256_d0
  let z : FVec Ideal S16x256 .f32 := broadcast S16x256 (Scalar.ofBits (F := Ideal) .f32 0x00000000#32)
  let side : Fl S16x256 := Scalar.select (Scalar.cmpi .eq a 3#32) z (extractStridedSlice S16x256 ![256, 0] q slices_S272x256_o256_0_S16x256)
  let last : Fl S272x256 := concatenate S272x256 0 [⟨S256x256, extractStridedSlice S256x256 ![0, 0] q slices_S272x256_o0_0_S256x256⟩,
    ⟨S16x256, side⟩] concatenates_S256x256_S16x256_S272x256_d0
  concatenate S1056x256 0 [⟨S272x256, first⟩, ⟨S256x256, k0_pay106 (k0_pay11 h1) w⟩, ⟨S256x256, k0_pay107 (k0_pay12 h2) w⟩, ⟨S272x256, last⟩]
    concatenates_S272x256_S256x256_S256x256_S272x256_S1056x256_d0

/-- The convolution of a slab's rows, on the tile's own rows. -/
def conv (s : Fl S1056x256) (w0 w1 w2 b : Fl S1x256) : Fl S1024x256 :=
  let c0 : Fl S1x256 := shapeCast S1x256 w0 shapeCasts_S1x256_S1x256
  let c1 : Fl S1x256 := shapeCast S1x256 w1 shapeCasts_S1x256_S1x256
  let c2 : Fl S1x256 := shapeCast S1x256 w2 shapeCasts_S1x256_S1x256
  let y : FVec Ideal S1056x256 .f32 :=
    addf (addf (addf (mulf (broadcastTo S1056x256 c0 broadcasts_S1x256_S1056x256) (dynamicRotate 0 1#32 none s rotates_S1056x256_d0))
      (mulf (broadcastTo S1056x256 c1 broadcasts_S1x256_S1056x256) s))
      (mulf (broadcastTo S1056x256 c2 broadcasts_S1x256_S1056x256) (dynamicRotate 0 1055#32 none s rotates_S1056x256_d0)))
      (broadcastTo S1056x256 b broadcasts_S1x256_S1056x256)
  extractStridedSlice S1024x256 ![16, 0] y slices_S1056x256_o16_0_S1024x256

theorem conv_at (s : Fl S1056x256) (w0 w1 w2 b : Fl S1x256) (r : Fin 1024) (n : Fin 256) :
    conv s w0 w1 w2 b (ix2 r n) = s (ix2 ⟨r.val + 15, by omega⟩ n) * w0 (ix2 0 n) + s (ix2 ⟨r.val + 16, by omega⟩ n) * w1 (ix2 0 n)
      + s (ix2 ⟨r.val + 17, by omega⟩ n) * w2 (ix2 0 n) + b (ix2 0 n) := by
  pointwise [conv]
  simp only [show 16 + r.val = r.val + 16 by omega, show (r.val + 16 + 1056 - 1) % 1056 = r.val + 15 by omega,
    show (r.val + 16 + 1056 - 1055) % 1056 = r.val + 17 by omega]
  rw [mul_comm (w0 _), mul_comm (w1 _), mul_comm (w2 _)]

/-- A number made zero where the tile `a` is the tile `n`. -/
def zeroAt (a n : BitVec 32) (y : EReal) : EReal := Scalar.select (Scalar.cmpi .eq a n) 0 y

/-- A row of the slab from the row of the normalised input: zero beyond the sequence's ends. -/
def Slab (a : BitVec 32) (R : Fin 1056 → Fin 1024 → EReal) (w : Fin 1024 → Fin 3584 → EReal) (r : Fin 1056) (j : Fin 3584) : EReal :=
  if r.val < 16 then zeroAt a 0#32 (P (R r) w j) else if r.val < 1040 then P (R r) w j else zeroAt a 3#32 (P (R r) w j)

theorem slab_at (a : BitVec 32) (ha hb : Bf S272x1024) (h1 h2 : Fl S256x1024) (w : Bf S1024x256) (W : Fin 1024 → Fin 3584 → EReal) (j : Fin 3584)
    (R : Fin 1056 → Fin 1024 → EReal)
    (Ha : ∀ (r : Fin 272) (x : Fin 1024), ha (ix2 r x) = R ⟨r.val, by omega⟩ x) (H1 : ∀ (r : Fin 256) (x : Fin 1024), h1 (ix2 r x) = R ⟨272 + r.val, by omega⟩ x)
    (H2 : ∀ (r : Fin 256) (x : Fin 1024), h2 (ix2 r x) = R ⟨528 + r.val, by omega⟩ x) (Hb : ∀ (r : Fin 272) (x : Fin 1024), hb (ix2 r x) = R ⟨784 + r.val, by omega⟩ x)
    (r : Fin 1056) (n : Fin 256) (hW : ∀ x, w (ix2 x n) = W x j) :
    slab a ha hb h1 h2 w (ix2 r n) = Slab a R W r j := by
  pointwise [slab, k0_pay105, k0_pay106, k0_pay107, k0_pay108, k0_pay109, k0_pay11, k0_pay12]
  simp only [Ha, H1, H2, Hb, hW]
  have key : ∀ (m : ℕ) (hm : m < 1056), m = r.val → R ⟨m, hm⟩ = R r := by rintro m hm rfl; rfl
  unfold Slab zeroAt P
  by_cases d0 : r.val < 16
  · simp only [d0, show r.val < 272 by omega, ↓reduceDIte, ↓reduceIte]
  by_cases d1 : r.val < 272
  · simp only [d0, d1, show r.val < 1040 by omega, ↓reduceDIte, ↓reduceIte]
    rw [key _ _ (by omega)]
  by_cases d2 : r.val - 272 < 256
  · simp only [d0, d1, d2, show r.val < 1040 by omega, ↓reduceDIte, ↓reduceIte]
    rw [key _ _ (by omega)]
  by_cases d3 : r.val - 272 - 256 < 256
  · simp only [d0, d1, d2, d3, show r.val < 1040 by omega, ↓reduceDIte, ↓reduceIte]
    rw [key _ _ (by omega)]
  by_cases d4 : r.val - 272 - 256 - 256 < 256
  · simp only [d0, d1, d2, d3, d4, show r.val < 1040 by omega, ↓reduceDIte, ↓reduceIte]
    rw [key _ _ (by omega)]
  · simp only [d0, d1, d2, d3, d4, show ¬r.val < 1040 by omega, ↓reduceDIte, ↓reduceIte]
    rw [key _ _ (by omega)]

/-- The row of the input that row `r` of the slab projects. -/
def rowK (x0 : Fl S1x1024x1024) (x1 x2 : Fl S1x16x1024) (r : Fin 1056) (k : Fin 1024) : EReal :=
  if h : r.val < 16 then x1 (ix3 0 ⟨r.val, h⟩ k) else if h' : r.val < 1040 then x0 (ix3 0 ⟨r.val - 16, by omega⟩ k)
  else x2 (ix3 0 ⟨r.val - 1040, by omega⟩ k)

/-- A row normalised and modulated with the tile's own parameters. -/
def hK (x3 : Fl S1x6x1024) (x4 : Fl S1x1024) (x : Fin 1024 → EReal) : Fin 1024 → EReal :=
  H x (fun j => x4 (ix2 0 j)) (fun j => x3 (ix3 0 1 j)) (fun j => x3 (ix3 0 0 j))

/-- 256 rows of the tile from row `o` on. -/
abbrev rowsAt (x0 : Fl S1x1024x1024) (o : ℕ) (inb : ∀ a, (![0, o, 0] : Fin 3 → ℕ) a + (![1, 256, 1024] : Fin 3 → ℕ) a ≤ S1x1024x1024.size a) :
    Fl S1x256x1024 := View.ld x0 (Rect.unit (s := S1x1024x1024) ![0, o, 0] ![1, 256, 1024] inb)

theorem rowsAt_at (x0 : Fl S1x1024x1024) (o : ℕ) (ho : o ≤ 768) (inb) (r : Fin 256) (k : Fin 1024) :
    rowsAt x0 o inb (ix3 0 r k) = x0 (ix3 0 ⟨o + r.val, by omega⟩ k) := by
  show x0 _ = x0 _
  congr 1
  funext a
  apply Fin.ext
  match a with
  | ⟨0, _⟩ => rfl
  | ⟨1, _⟩ => show o + 1 * r.val = o + r.val; omega
  | ⟨2, _⟩ => show 0 + 1 * k.val = k.val; omega

/-- A rectangle of a matrix read at an index. -/
theorem ld2 {e : EltTy} {A B a b : ℕ} (o p : ℕ) (v : Vec Ideal ⟨2, ![A, B]⟩ e) (inb) (r : Fin a) (k : Fin b)
    (hr : o + r.val < A) (hk : p + k.val < B) :
    View.ld v (Rect.unit (s := (⟨2, ![A, B]⟩ : Shape)) ![o, p] ![a, b] inb) (ix2 r k) = v (ix2 ⟨o + r.val, hr⟩ ⟨p + k.val, hk⟩) := by
  show v _ = v _
  congr 1
  funext q
  apply Fin.ext
  match q with
  | ⟨0, _⟩ => show o + 1 * r.val = o + r.val; omega
  | ⟨1, _⟩ => show p + 1 * k.val = p + k.val; omega

/-- A group's rows are the tile's, normalised. -/
theorem hG_row (x0 : Fl S1x1024x1024) (x3 : Fl S1x6x1024) (x4 : Fl S1x1024) (o : ℕ) (ho : o ≤ 768) (inb) (r : Fin 256) (k : Fin 1024) :
    hG x3 x4 (rowsAt x0 o inb) (ix2 r k) = hK x3 x4 (fun j => x0 (ix3 0 ⟨o + r.val, by omega⟩ j)) k := by
  rw [hG_at]
  simp only [rowsAt_at x0 o ho]
  rfl

end Cert.InKernel
end
-- ==== Proof.InBlocks.lean ====
module

public import proofs.«01_k».proof.Proof.InKernel

@[expose] public section

set_option maxRecDepth 16384

noncomputable section

/-! # The blocks that the input projection's windows hold at a grid point, as parts of the arguments -/

namespace Cert.InKernel

open Cert.Kernel3Ideal Cert.Kernel3Ideal.Gen Cert.Ffn Cert.Inp Idealize.ShloMosaic Idealize.ShloMosaic.TcCoe Idealize.SL.Sem
open Idealize.ShloMosaic.Pipeline (Dat)

/-- An array of a host computation. -/
abbrev Fh (S : Shape) := FVec Ideal S .f32

/-- Two copies of a table side by side, read at a lane. -/
theorem twice_at (a : Fh S4096x64) (r : Fin 4096) (n : Fin 128) :
    (concatenate S4096x128 1 [⟨S4096x64, a⟩, ⟨S4096x64, a⟩] concatenates_S4096x64_S4096x64_S4096x128_d1 : Fh S4096x128) (ix2 r n) = a (ix2 r (half n)) := by
  pointwise []
  have e : half n = ⟨n.val % 64, Nat.mod_lt _ (by decide)⟩ := rfl
  by_cases h : n.val < 64
  · rw [dif_pos h]
    exact congrArg (fun j => a (ix2 r j)) (Fin.ext (by rw [e]; simp only; omega))
  · rw [dif_neg h]
    exact congrArg (fun j => a (ix2 r j)) (Fin.ext (by rw [e]; simp only; omega))

/-- A table's negative and the table side by side, read at a lane. -/
theorem signed_at (a : Fh S4096x64) (r : Fin 4096) (n : Fin 128) :
    (concatenate S4096x128 1 [⟨S4096x64, (Host.negf a : Fh S4096x64)⟩, ⟨S4096x64, a⟩] concatenates_S4096x64_S4096x64_S4096x128_d1 : Fh S4096x128) (ix2 r n)
      = (if n.val < 64 then -(a (ix2 r (half n))) else a (ix2 r (half n)) : EReal) := by
  pointwise []
  have e : half n = ⟨n.val % 64, Nat.mod_lt _ (by decide)⟩ := rfl
  by_cases h : n.val < 64
  · rw [dif_pos h, if_pos h]
    exact congrArg (fun j => -(a (ix2 r j) : EReal)) (Fin.ext (by rw [e]; simp only; omega))
  · rw [dif_neg h, if_neg h]
    exact congrArg (fun j => a (ix2 r j)) (Fin.ext (by rw [e]; simp only; omega))

/-- A table times the keys' factor, read at a lane. -/
theorem scaled_at (a : Fh S4096x128) (r : Fin 4096) (n : Fin 128) :
    (mulf a (broadcastInDim S4096x128 ![] bcast_S_S4096x128 (constant S_ .f32 0x3DB504F3#32 : Fh S_) : Fh S4096x128) : Fh S4096x128) (ix2 r n)
      = (a (ix2 r n) * ks : EReal) := by
  pointwise []
  rfl

/-- The weights of the short convolution without their leading axis of length one. -/
theorem taps_at (a : Fh S1x3x1536) (i : Fin 3) (j : Fin 1536) :
    (shapeCast S3x1536 a shapeCasts_S1x3x1536_S3x1536 : Fh S3x1536) (ix2 i j) = a (ix3 0 i j) := by
  pointwise

/-- A row that loses and regains its axis of length one. -/
theorem gain_at (a : Fh S1x1024) (k : Fin 1024) :
    (broadcastInDim S1x1024 ![1] bcast_S1024_S1x1024_1 (shapeCast S1024 a shapeCasts_S1x1024_S1024 : Fh S1024) : Fh S1x1024) (ix2 0 k) = a (ix2 0 k) := by
  pointwise

variable (m : (ℓ : Loc nD τ sig) → Buf (Elt Ideal) ℓ) (c : Dev nD)

/-- The cosines' table of the region. -/
theorem V_cc (a : Fh S4096x64) (ha : m ((c : Thread nD τ).loc main_arg4) = a) :
    (V m c main_v0 : Fh S4096x128) = concatenate S4096x128 1 [⟨S4096x64, a⟩, ⟨S4096x64, a⟩] concatenates_S4096x64_S4096x64_S4096x128_d1 := by
  subst ha
  show StableHlo.after hostOps0 _ (Proc.devRef .tc main_v0) = _
  after_results
  try rfl

/-- The sines' table of the region. -/
theorem V_ss (a : Fh S4096x64) (ha : m ((c : Thread nD τ).loc main_arg5) = a) :
    (V m c main_v2 : Fh S4096x128) = concatenate S4096x128 1 [⟨S4096x64, (Host.negf a : Fh S4096x64)⟩, ⟨S4096x64, a⟩] concatenates_S4096x64_S4096x64_S4096x128_d1 := by
  subst ha
  show StableHlo.after hostOps0 _ (Proc.devRef .tc main_v2) = _
  after_results
  try rfl

/-- The keys' tables of the region are the queries' times the keys' factor. -/
theorem V_ck (a : Fh S4096x64) (ha : m ((c : Thread nD τ).loc main_arg4) = a) :
    (V m c main_v4 : Fh S4096x128) = mulf (concatenate S4096x128 1 [⟨S4096x64, a⟩, ⟨S4096x64, a⟩] concatenates_S4096x64_S4096x64_S4096x128_d1 : Fh S4096x128)
      (broadcastInDim S4096x128 ![] bcast_S_S4096x128 (constant S_ .f32 0x3DB504F3#32 : Fh S_) : Fh S4096x128) := by
  subst ha
  show StableHlo.after hostOps0 _ (Proc.devRef .tc main_v4) = _
  after_results
  try rfl

@[inherit_doc V_ck] theorem V_sk (a : Fh S4096x64) (ha : m ((c : Thread nD τ).loc main_arg5) = a) :
    (V m c main_v6 : Fh S4096x128) = mulf (concatenate S4096x128 1 [⟨S4096x64, (Host.negf a : Fh S4096x64)⟩, ⟨S4096x64, a⟩] concatenates_S4096x64_S4096x64_S4096x128_d1 : Fh S4096x128)
      (broadcastInDim S4096x128 ![] bcast_S_S4096x128 (constant S_ .f32 0x3DB504F3#32 : Fh S_) : Fh S4096x128) := by
  subst ha
  show StableHlo.after hostOps0 _ (Proc.devRef .tc main_v6) = _
  after_results
  try rfl

/-- The first norm's gain as the region finds it. -/
theorem V_gain (a : Fh S1x1024) (ha : m ((c : Thread nD τ).loc main_arg2) = a) :
    (V m c main_v8 : Fh S1x1024) = broadcastInDim S1x1024 ![1] bcast_S1024_S1x1024_1 (shapeCast S1024 a shapeCasts_S1x1024_S1024 : Fh S1024) := by
  subst ha
  show StableHlo.after hostOps0 _ (Proc.devRef .tc main_v8) = _
  after_results
  try rfl

/-- The short convolution's weights as the region finds them. -/
theorem V_taps (a : Fh S1x3x1536) (ha : m ((c : Thread nD τ).loc main_arg6) = a) :
    (V m c main_v9 : Fh S3x1536) = shapeCast S3x1536 a shapeCasts_S1x3x1536_S3x1536 := by
  subst ha
  show StableHlo.after hostOps0 _ (Proc.devRef .tc main_v9) = _
  after_results
  try rfl

/-- The blocks of rows at a grid point: batch element `t / 4`, row tile `t % 4`; the two blocks of 16 rows lie before and
after the tile, or at the sequence's ends. -/
theorem index_rows : ∀ t : Fin cfg0.N, (win0_0.index t = ![t.val / 4, t.val % 4, 0] ∧ win0_1.index t = ![t.val / 4, t.val % 4 * 64 - 1, 0]
    ∧ win0_2.index t = ![t.val / 4, min ((t.val % 4 + 1) * 64) 255, 0]) ∧ win0_3.index t = ![t.val / 4, 0, 0] :=
  (by decide +kernel : ∀ t : Fin grid0.N, (win0_0.index t = ![t.val / 4, t.val % 4, 0] ∧ win0_1.index t = ![t.val / 4, t.val % 4 * 64 - 1, 0]
    ∧ win0_2.index t = ![t.val / 4, min ((t.val % 4 + 1) * 64) 255, 0]) ∧ win0_3.index t = ![t.val / 4, 0, 0])

/-- The tables' blocks follow the row tile. -/
theorem index_tables : ∀ t : Fin cfg0.N, win0_6.index t = ![t.val % 4, 0] ∧ win0_7.index t = ![t.val % 4, 0] ∧ win0_8.index t = ![t.val % 4, 0] ∧ win0_9.index t = ![t.val % 4, 0] :=
  (by decide +kernel : ∀ t : Fin grid0.N, win0_6.index t = ![t.val % 4, 0] ∧ win0_7.index t = ![t.val % 4, 0] ∧ win0_8.index t = ![t.val % 4, 0] ∧ win0_9.index t = ![t.val % 4, 0])

/-- The gain and the weights are read whole at every grid point. -/
theorem index_whole : ∀ t : Fin cfg0.N, win0_4.index t = ![0, 0] ∧ win0_5.index t = ![0, 0] ∧ win0_10.index t = ![0, 0] ∧ win0_11.index t = ![0, 0] :=
  (by decide +kernel : ∀ t : Fin grid0.N, win0_4.index t = ![0, 0] ∧ win0_5.index t = ![0, 0] ∧ win0_10.index t = ![0, 0] ∧ win0_11.index t = ![0, 0])

/-- The results' blocks: batch element and row tile. -/
theorem index_out : ∀ t : Fin cfg0.N, win0_12.index t = ![t.val / 4, t.val % 4, 0] ∧ win0_13.index t = ![t.val / 4, t.val % 4, 0] ∧ win0_14.index t = ![t.val / 4, t.val % 4, 0] :=
  (by decide +kernel : ∀ t : Fin grid0.N, win0_12.index t = ![t.val / 4, t.val % 4, 0] ∧ win0_13.index t = ![t.val / 4, t.val % 4, 0] ∧ win0_14.index t = ![t.val / 4, t.val % 4, 0])

/-- The second grid coordinate is the row tile. -/
theorem coord : ∀ t : Fin cfg0.N, (grid0.coords t 1).val = t.val % 4 := (by decide +kernel : ∀ t : Fin grid0.N, (grid0.coords t 1).val = t.val % 4)

theorem t_lt (t : Fin cfg0.N) : t.val < 32 := lt_of_lt_of_eq t.isLt N_0

/-- The batch element and the row of the array that row `r` of point `t`'s block is. -/
def bt (t : Fin cfg0.N) : Fin 8 := ⟨t.val / 4, by have := t_lt t; omega⟩
@[inherit_doc bt] def rt (t : Fin cfg0.N) (r : Fin 1024) : Fin 4096 := ⟨t.val % 4 * 1024 + r.val, by omega⟩

/-- An index of a three-axis array, in a block of full width: the block's offset plus the index in the block. -/
theorem emb3 {n₀ n₁ n₂ B : ℕ} (x : (⟨3, ![n₀, n₁, n₂]⟩ : Shape).Idx) (idx : Fin 3 → ℕ) (p q : ℕ) (e : idx = ![p, q, 0]) (a : Fin n₀) (l : Fin n₁) (k : Fin n₂) (s r : ℕ)
    (h0 : (x 0).val = idx 0 * s + 1 * 0) (h1 : (x 1).val = idx 1 * B + 1 * r) (h2 : (x 2).val = idx 2 * n₂ + 1 * k.val)
    (ha : a.val = p * s) (hl : l.val = q * B + r) : x = ix3 a l k := by
  subst e
  funext y
  apply Fin.ext
  match y with
  | ⟨0, _⟩ => rw [show (x ⟨0, _⟩).val = _ from h0]; show p * s + 1 * 0 = a.val; omega
  | ⟨1, _⟩ => rw [show (x ⟨1, _⟩).val = _ from h1]; show q * B + 1 * r = l.val; omega
  | ⟨2, _⟩ => rw [show (x ⟨2, _⟩).val = _ from h2]; show 0 * n₂ + 1 * k.val = k.val; omega

/-- An index of a two-axis array, in a block of full width. -/
theorem emb2 {n₀ n₁ B : ℕ} (x : (⟨2, ![n₀, n₁]⟩ : Shape).Idx) (idx : Fin 2 → ℕ) (q : ℕ) (e : idx = ![q, 0]) (l : Fin n₀) (k : Fin n₁) (r : ℕ)
    (h0 : (x 0).val = idx 0 * B + 1 * r) (h1 : (x 1).val = idx 1 * n₁ + 1 * k.val) (hl : l.val = q * B + r) : x = ix2 l k := by
  subst e
  funext y
  apply Fin.ext
  match y with
  | ⟨0, _⟩ => rw [show (x ⟨0, _⟩).val = _ from h0]; show q * B + 1 * r = l.val; omega
  | ⟨1, _⟩ => rw [show (x ⟨1, _⟩).val = _ from h1]; show 0 * n₁ + 1 * k.val = k.val; omega

theorem blk0 (t : Fin cfg0.N) (r : Fin 1024) (j : Fin 1024) :
    (iblk m c 0 t : Fl S1x1024x1024) (ix3 0 r j) = (m ((c : Thread nD τ).loc main_arg0) : Fl S8x4096x1024) (ix3 (bt t) (rt t r) j) := by
  unfold iblk
  rw [show V m c (Pipeline.arrRef spec0 0) = m ((c : Thread nD τ).loc main_arg0) from V_main_arg0 m c]
  show (m ((c : Thread nD τ).loc main_arg0) : Fl S8x4096x1024) _ = _
  congr 1
  exact emb3 (B := 1024) _ (win0_0.index t) _ _ (index_rows t).1.1 (bt t) (rt t r) j 1 r.val rfl rfl rfl (Nat.mul_one _).symm rfl

theorem blk1 (t : Fin cfg0.N) (r : Fin 16) (j : Fin 1024) (l : Fin 4096) (hl : l.val = (t.val % 4 * 64 - 1) * 16 + r.val) :
    (iblk m c 1 t : Fl S1x16x1024) (ix3 0 r j) = (m ((c : Thread nD τ).loc main_arg0) : Fl S8x4096x1024) (ix3 (bt t) l j) := by
  unfold iblk
  rw [show V m c (Pipeline.arrRef spec0 1) = m ((c : Thread nD τ).loc main_arg0) from V_main_arg0 m c]
  show (m ((c : Thread nD τ).loc main_arg0) : Fl S8x4096x1024) _ = _
  congr 1
  exact emb3 (B := 16) _ (win0_1.index t) _ _ (index_rows t).1.2.1 (bt t) l j 1 r.val rfl rfl rfl (Nat.mul_one _).symm hl

theorem blk2 (t : Fin cfg0.N) (r : Fin 16) (j : Fin 1024) (l : Fin 4096) (hl : l.val = min ((t.val % 4 + 1) * 64) 255 * 16 + r.val) :
    (iblk m c 2 t : Fl S1x16x1024) (ix3 0 r j) = (m ((c : Thread nD τ).loc main_arg0) : Fl S8x4096x1024) (ix3 (bt t) l j) := by
  unfold iblk
  rw [show V m c (Pipeline.arrRef spec0 2) = m ((c : Thread nD τ).loc main_arg0) from V_main_arg0 m c]
  show (m ((c : Thread nD τ).loc main_arg0) : Fl S8x4096x1024) _ = _
  congr 1
  exact emb3 (B := 16) _ (win0_2.index t) _ _ (index_rows t).1.2.2 (bt t) l j 1 r.val rfl rfl rfl (Nat.mul_one _).symm hl

theorem blk3 (t : Fin cfg0.N) (a : Fin 6) (j : Fin 1024) :
    (iblk m c 3 t : Fl S1x6x1024) (ix3 0 a j) = (m ((c : Thread nD τ).loc main_arg1) : Fl S8x6x1024) (ix3 (bt t) a j) := by
  unfold iblk
  rw [show V m c (Pipeline.arrRef spec0 3) = m ((c : Thread nD τ).loc main_arg1) from V_main_arg1 m c]
  show (m ((c : Thread nD τ).loc main_arg1) : Fl S8x6x1024) _ = _
  congr 1
  exact emb3 (B := 6) _ (win0_3.index t) _ _ (index_rows t).2 (bt t) a j 1 a.val rfl rfl rfl (Nat.mul_one _).symm (by omega)

theorem blk4 (t : Fin cfg0.N) (j : Fin 1024) :
    (iblk m c 4 t : Fl S1x1024) (ix2 0 j) = (m ((c : Thread nD τ).loc main_arg2) : Fl S1x1024) (ix2 0 j) := by
  refine Eq.trans ?_ ((congrFun (V_gain m c _ rfl) (ix2 0 j)).trans (gain_at _ j))
  unfold iblk
  rw [show V m c (Pipeline.arrRef spec0 4) = V m c main_v8 from rfl]
  generalize V m c main_v8 = w
  show (w : Fl S1x1024) _ = _
  congr 1
  exact emb2 (B := 1) _ (win0_4.index t) _ (index_whole t).1 0 j 0 rfl rfl rfl

theorem blk5 (t : Fin cfg0.N) (x : Fin 1024) (j : Fin 3584) :
    (iblk m c 5 t : Bf S1024x3584) (ix2 x j) = (m ((c : Thread nD τ).loc main_arg3) : Bf S1024x3584) (ix2 x j) := by
  unfold iblk
  rw [show V m c (Pipeline.arrRef spec0 5) = m ((c : Thread nD τ).loc main_arg3) from V_main_arg3 m c]
  show (m ((c : Thread nD τ).loc main_arg3) : Bf S1024x3584) _ = _
  congr 1
  exact emb2 (B := 1024) _ (win0_5.index t) _ (index_whole t).2.1 x j x.val rfl rfl (by omega)

theorem blk6 (t : Fin cfg0.N) (r : Fin 1024) (n : Fin 128) (a : Fh S4096x64) (ha : m ((c : Thread nD τ).loc main_arg4) = a) :
    (iblk m c 6 t : Fl S1024x128) (ix2 r n) = a (ix2 (rt t r) (half n)) := by
  refine Eq.trans ?_ ((congrFun (V_cc m c a ha) (ix2 (rt t r) n)).trans (twice_at a _ n))
  unfold iblk
  rw [show V m c (Pipeline.arrRef spec0 6) = V m c main_v0 from rfl]
  generalize V m c main_v0 = w
  show (w : Fl S4096x128) _ = _
  congr 1
  exact emb2 (B := 1024) _ (win0_6.index t) _ (index_tables t).1 (rt t r) n r.val rfl rfl rfl

theorem blk7 (t : Fin cfg0.N) (r : Fin 1024) (n : Fin 128) (a : Fh S4096x64) (ha : m ((c : Thread nD τ).loc main_arg5) = a) :
    (iblk m c 7 t : Fl S1024x128) (ix2 r n) = (if n.val < 64 then -(a (ix2 (rt t r) (half n))) else a (ix2 (rt t r) (half n)) : EReal) := by
  refine Eq.trans ?_ ((congrFun (V_ss m c a ha) (ix2 (rt t r) n)).trans (signed_at a _ n))
  unfold iblk
  rw [show V m c (Pipeline.arrRef spec0 7) = V m c main_v2 from rfl]
  generalize V m c main_v2 = w
  show (w : Fl S4096x128) _ = _
  congr 1
  exact emb2 (B := 1024) _ (win0_7.index t) _ (index_tables t).2.1 (rt t r) n r.val rfl rfl rfl

theorem blk8 (t : Fin cfg0.N) (r : Fin 1024) (n : Fin 128) (a : Fh S4096x64) (ha : m ((c : Thread nD τ).loc main_arg4) = a) :
    (iblk m c 8 t : Fl S1024x128) (ix2 r n) = (a (ix2 (rt t r) (half n)) * ks : EReal) := by
  refine Eq.trans ?_ ((congrFun (V_ck m c a ha) (ix2 (rt t r) n)).trans ((scaled_at _ _ n).trans (congrArg (fun y : EReal => y * ks) (twice_at a _ n))))
  unfold iblk
  rw [show V m c (Pipeline.arrRef spec0 8) = V m c main_v4 from rfl]
  generalize V m c main_v4 = w
  show (w : Fl S4096x128) _ = _
  congr 1
  exact emb2 (B := 1024) _ (win0_8.index t) _ (index_tables t).2.2.1 (rt t r) n r.val rfl rfl rfl

theorem blk9 (t : Fin cfg0.N) (r : Fin 1024) (n : Fin 128) (a : Fh S4096x64) (ha : m ((c : Thread nD τ).loc main_arg5) = a) :
    (iblk m c 9 t : Fl S1024x128) (ix2 r n) = ((if n.val < 64 then -(a (ix2 (rt t r) (half n))) else a (ix2 (rt t r) (half n)) : EReal) * ks : EReal) := by
  refine Eq.trans ?_ ((congrFun (V_sk m c a ha) (ix2 (rt t r) n)).trans ((scaled_at _ _ n).trans (congrArg (fun y : EReal => y * ks) (signed_at a _ n))))
  unfold iblk
  rw [show V m c (Pipeline.arrRef spec0 9) = V m c main_v6 from rfl]
  generalize V m c main_v6 = w
  show (w : Fl S4096x128) _ = _
  congr 1
  exact emb2 (B := 1024) _ (win0_9.index t) _ (index_tables t).2.2.2 (rt t r) n r.val rfl rfl rfl

theorem blk10 (t : Fin cfg0.N) (i : Fin 3) (j : Fin 1536) :
    (iblk m c 10 t : Fl S3x1536) (ix2 i j) = (m ((c : Thread nD τ).loc main_arg6) : Fl S1x3x1536) (ix3 0 i j) := by
  refine Eq.trans ?_ ((congrFun (V_taps m c _ rfl) (ix2 i j)).trans (taps_at _ i j))
  unfold iblk
  rw [show V m c (Pipeline.arrRef spec0 10) = V m c main_v9 from rfl]
  generalize V m c main_v9 = w
  show (w : Fl S3x1536) _ = _
  congr 1
  exact emb2 (B := 3) _ (win0_10.index t) _ (index_whole t).2.2.1 i j i.val rfl rfl (by omega)

theorem blk11 (t : Fin cfg0.N) (j : Fin 1536) :
    (iblk m c 11 t : Fl S1x1536) (ix2 0 j) = (m ((c : Thread nD τ).loc main_arg7) : Fl S1x1536) (ix2 0 j) := by
  unfold iblk
  rw [show V m c (Pipeline.arrRef spec0 11) = m ((c : Thread nD τ).loc main_arg7) from V_main_arg7 m c]
  show (m ((c : Thread nD τ).loc main_arg7) : Fl S1x1536) _ = _
  congr 1
  exact emb2 (B := 1) _ (win0_11.index t) _ (index_whole t).2.2.2 0 j 0 rfl rfl rfl

end Cert.InKernel
end
-- ==== Proof.InPieces.lean ====
module

public import proofs.«01_k».proof.Proof.InKernel

@[expose] public section

set_option maxRecDepth 16384

noncomputable section

/-! # The blocks the kernel's body leaves -/

namespace Cert.InKernel

open Cert.Kernel3Ideal Cert.Kernel3Ideal.Gen Cert.Ffn Cert.Inp Idealize.ShloMosaic Idealize.ShloMosaic.TcCoe

/-- The projection of row `l` of a tile. -/
def pK (x0 : Fl S1x1024x1024) (x3 : Fl S1x6x1024) (x4 : Fl S1x1024) (x5 : Bf S1024x3584) (l : Fin 1024) : Fin 3584 → EReal :=
  P (hK x3 x4 (fun j => x0 (ix3 0 l j))) (fun x j => x5 (ix2 x j))

/-- The tile's part for the retention. -/
def blockA (x0 : Fl S1x1024x1024) (x3 : Fl S1x6x1024) (x4 : Fl S1x1024) (x5 : Bf S1024x3584) (x6 x7 x8 x9 : Fl S1024x128) :
    Bf S1x1024x2048 := fun i =>
  if h : (i 2).val < 512 then Turned (pK x0 x3 x4 x5 (i 1)) (fun n => x6 (ix2 (i 1) n)) (fun n => x7 (ix2 (i 1) n)) ⟨(i 2).val, by omega⟩
  else if h : (i 2).val < 1024 then Turned (pK x0 x3 x4 x5 (i 1)) (fun n => x8 (ix2 (i 1) n)) (fun n => x9 (ix2 (i 1) n)) ⟨(i 2).val, h⟩
  else if (i 2).val < 1536 then pK x0 x3 x4 x5 (i 1) ⟨(i 2).val, by have : (i 2).val < 2048 := (i 2).isLt; omega⟩
  else Silu (pK x0 x3 x4 x5 (i 1) ⟨(i 2).val, by have : (i 2).val < 2048 := (i 2).isLt; omega⟩)

theorem blockA_q (x0 : Fl S1x1024x1024) (x3 : Fl S1x6x1024) (x4 : Fl S1x1024) (x5 : Bf S1024x3584) (x6 x7 x8 x9 : Fl S1024x128)
    (l : Fin 1024) (c : ℕ) (h : c < 512) (i : S1x1024x2048.Idx) (h1 : i 1 = l) (h2 : (i 2).val = c) :
    blockA x0 x3 x4 x5 x6 x7 x8 x9 i = Turned (pK x0 x3 x4 x5 l) (fun n => x6 (ix2 l n)) (fun n => x7 (ix2 l n)) ⟨c, by omega⟩ := by
  subst h1 h2
  unfold blockA
  rw [dif_pos h]

theorem blockA_k (x0 : Fl S1x1024x1024) (x3 : Fl S1x6x1024) (x4 : Fl S1x1024) (x5 : Bf S1024x3584) (x6 x7 x8 x9 : Fl S1024x128)
    (l : Fin 1024) (c : ℕ) (h : ¬c < 512) (h' : c < 1024) (i : S1x1024x2048.Idx) (h1 : i 1 = l) (h2 : (i 2).val = c) :
    blockA x0 x3 x4 x5 x6 x7 x8 x9 i = Turned (pK x0 x3 x4 x5 l) (fun n => x8 (ix2 l n)) (fun n => x9 (ix2 l n)) ⟨c, h'⟩ := by
  subst h1 h2
  unfold blockA
  rw [dif_neg h, dif_pos h']

theorem blockA_v (x0 : Fl S1x1024x1024) (x3 : Fl S1x6x1024) (x4 : Fl S1x1024) (x5 : Bf S1024x3584) (x6 x7 x8 x9 : Fl S1024x128)
    (l : Fin 1024) (c : ℕ) (h : ¬c < 1024) (h' : c < 1536) (i : S1x1024x2048.Idx) (h1 : i 1 = l) (h2 : (i 2).val = c) :
    blockA x0 x3 x4 x5 x6 x7 x8 x9 i = pK x0 x3 x4 x5 l ⟨c, by omega⟩ := by
  subst h1 h2
  unfold blockA
  rw [dif_neg (by omega), dif_neg h, if_pos h']

theorem blockA_g (x0 : Fl S1x1024x1024) (x3 : Fl S1x6x1024) (x4 : Fl S1x1024) (x5 : Bf S1024x3584) (x6 x7 x8 x9 : Fl S1024x128)
    (l : Fin 1024) (c : ℕ) (h : ¬c < 1536) (h' : c < 2048) (i : S1x1024x2048.Idx) (h1 : i 1 = l) (h2 : (i 2).val = c) :
    blockA x0 x3 x4 x5 x6 x7 x8 x9 i = Silu (pK x0 x3 x4 x5 l ⟨c, by omega⟩) := by
  subst h1 h2
  unfold blockA
  rw [dif_neg (by omega), dif_neg (by omega), if_neg h]

theorem rows_fit (o : ℕ) (ho : o ≤ 768) : ∀ a, (![0, o, 0] : Fin 3 → ℕ) a + (![1, 256, 1024] : Fin 3 → ℕ) a ≤ S1x1024x1024.size a
  | ⟨0, _⟩ => le_refl 1
  | ⟨1, _⟩ => by show o + 256 ≤ 1024; omega
  | ⟨2, _⟩ => le_refl 1024

theorem cols_fit (c : ℕ) (hc : c ≤ 3072) : ∀ a, (![0, c] : Fin 2 → ℕ) a + (![1024, 512] : Fin 2 → ℕ) a ≤ S1024x3584.size a
  | ⟨0, _⟩ => le_refl 1024
  | ⟨1, _⟩ => by show c + 512 ≤ 3584; omega

theorem table_fit (o : ℕ) (ho : o ≤ 768) : ∀ a, (![o, 0] : Fin 2 → ℕ) a + (![256, 128] : Fin 2 → ℕ) a ≤ S1024x128.size a
  | ⟨0, _⟩ => by show o + 256 ≤ 1024; omega
  | ⟨1, _⟩ => le_refl 128

/-- Columns of the weights, and rows of a table. -/
def colsAt (x5 : Bf S1024x3584) (c : ℕ) (hc : c ≤ 3072) : Bf S1024x512 := View.ld x5 (Rect.unit (s := S1024x3584) ![0, c] ![1024, 512] (cols_fit c hc))
@[inherit_doc colsAt] def tableAt (t : Fl S1024x128) (o : ℕ) (ho : o ≤ 768) : Fl S256x128 :=
  View.ld t (Rect.unit (s := S1024x128) ![o, 0] ![256, 128] (table_fit o ho))

theorem colsAt_at (x5 : Bf S1024x3584) (c : ℕ) (hc : c ≤ 3072) (x : Fin 1024) (n : Fin 512) :
    colsAt x5 c hc (ix2 x n) = x5 (ix2 x ⟨c + n.val, by omega⟩) := by
  refine (ld2 0 c x5 _ x n (by omega) (by omega)).trans ?_
  congr 2
  exact Fin.ext (Nat.zero_add _)

theorem tableAt_at (t : Fl S1024x128) (o : ℕ) (ho : o ≤ 768) (r : Fin 256) (n : Fin 128) :
    tableAt t o ho (ix2 r n) = t (ix2 ⟨o + r.val, by omega⟩ n) := by
  refine (ld2 o 0 t _ r n (by omega) (by omega)).trans ?_
  congr 2
  exact Fin.ext (Nat.zero_add _)

/-- A head's rotated columns are the tile's rows' rotation. -/
theorem rope_row (x0 : Fl S1x1024x1024) (x3 : Fl S1x6x1024) (x4 : Fl S1x1024) (x5 : Bf S1024x3584) (cc ss : Fl S1024x128)
    (o : ℕ) (ho : o ≤ 768) (b : ℕ) (hb : b ≤ 512) (hb' : b % 128 = 0) (q : ℕ) (hq : q ≤ 384) (hq' : q % 128 = 0)
    (hs : S256x512.Slices ![0, q] S256x128) (r : Fin 256) (n : Fin 128) :
    ropePiece (hG x3 x4 (rowsAt x0 o (rows_fit o ho))) (colsAt x5 b (by omega)) (tableAt cc o ho) (tableAt ss o ho) q hs (ix3 0 r n) =
      Turned (pK x0 x3 x4 x5 ⟨o + r.val, by omega⟩) (fun n => cc (ix2 ⟨o + r.val, by omega⟩ n)) (fun n => ss (ix2 ⟨o + r.val, by omega⟩ n))
        ⟨b + q + n.val, by omega⟩ := by
  rw [rope_at _ _ _ _ q hq]
  simp only [hG_row x0 x3 x4 o ho, colsAt_at, tableAt_at]
  have e1 : lane ⟨b + q + n.val, by omega⟩ = n := Fin.ext (by show (b + q + n.val) % 128 = n.val; omega)
  have e2 : turn ⟨b + q + n.val, by omega⟩ = ⟨b + (q + (n.val + 64) % 128), by omega⟩ :=
    Fin.ext (by show (b + q + n.val) / 128 * 128 + ((b + q + n.val) % 128 + 64) % 128 = b + (q + (n.val + 64) % 128); omega)
  unfold Turned
  rw [e1, e2]
  simp only [← add_assoc]
  rfl

theorem q_fit (o : ℕ) (ho : o ≤ 768) (c w : ℕ) (hc : c + w ≤ 2048) : ∀ a, (![0, o, c] : Fin 3 → ℕ) a + (![1, 256, w] : Fin 3 → ℕ) a ≤ S1x1024x2048.size a
  | ⟨0, _⟩ => le_refl 1
  | ⟨1, _⟩ => by show o + 256 ≤ 1024; omega
  | ⟨2, _⟩ => hc

/-- An index of a piece by its coordinates. -/
theorem idx3 {a b : ℕ} (x : (⟨3, ![1, a, b]⟩ : Shape).Idx) : x = ix3 0 (x 1) (x 2) := by
  funext q
  match q with
  | ⟨0, _⟩ => exact Subsingleton.elim (α := Fin 1) _ _
  | ⟨1, _⟩ => rfl
  | ⟨2, _⟩ => rfl

theorem q_piece (x0 : Fl S1x1024x1024) (x3 : Fl S1x6x1024) (x4 : Fl S1x1024) (x5 : Bf S1024x3584) (x6 x7 x8 x9 : Fl S1024x128)
    (o : ℕ) (ho : o ≤ 768) (q : ℕ) (hq : q ≤ 384) (hq' : q % 128 = 0) (hs : S256x512.Slices ![0, q] S256x128) (x : S1x256x128.Idx) :
    blockA x0 x3 x4 x5 x6 x7 x8 x9 ((Rect.unit (s := S1x1024x2048) ![0, o, q] ![1, 256, 128] (q_fit o ho q 128 (by omega))).emb x) =
      ropePiece (hG x3 x4 (rowsAt x0 o (rows_fit o ho))) (colsAt x5 0 (by omega)) (tableAt x6 o ho) (tableAt x7 o ho) q hs x := by
  have h1 : (x 1).val < 256 := (x 1).isLt
  have h2 : (x 2).val < 128 := (x 2).isLt
  refine Eq.trans ?_ ((congrArg _ (idx3 x)).trans (rope_row x0 x3 x4 x5 x6 x7 o ho 0 (by omega) rfl q hq hq' hs (x 1) (x 2))).symm
  exact blockA_q x0 x3 x4 x5 x6 x7 x8 x9 ⟨o + (x 1).val, by omega⟩ (0 + q + (x 2).val) (by omega) _
    (Fin.ext (by show o + 1 * (x 1).val = o + (x 1).val; omega)) (by show q + 1 * (x 2).val = 0 + q + (x 2).val; omega)

theorem k_piece (x0 : Fl S1x1024x1024) (x3 : Fl S1x6x1024) (x4 : Fl S1x1024) (x5 : Bf S1024x3584) (x6 x7 x8 x9 : Fl S1024x128)
    (o : ℕ) (ho : o ≤ 768) (c : ℕ) (hc : 512 ≤ c) (hc' : c ≤ 896) (hq' : c % 128 = 0) (hs : S256x512.Slices ![0, c - 512] S256x128) (x : S1x256x128.Idx) :
    blockA x0 x3 x4 x5 x6 x7 x8 x9 ((Rect.unit (s := S1x1024x2048) ![0, o, c] ![1, 256, 128] (q_fit o ho c 128 (by omega))).emb x) =
      ropePiece (hG x3 x4 (rowsAt x0 o (rows_fit o ho))) (colsAt x5 512 (by omega)) (tableAt x8 o ho) (tableAt x9 o ho) (c - 512) hs x := by
  have h1 : (x 1).val < 256 := (x 1).isLt
  have h2 : (x 2).val < 128 := (x 2).isLt
  refine Eq.trans ?_ ((congrArg _ (idx3 x)).trans (rope_row x0 x3 x4 x5 x8 x9 o ho 512 (by omega) rfl (c - 512) (by omega) (by omega) hs (x 1) (x 2))).symm
  exact blockA_k x0 x3 x4 x5 x6 x7 x8 x9 ⟨o + (x 1).val, by omega⟩ (512 + (c - 512) + (x 2).val) (by omega) (by omega) _
    (Fin.ext (by show o + 1 * (x 1).val = o + (x 1).val; omega)) (by show c + 1 * (x 2).val = 512 + (c - 512) + (x 2).val; omega)

theorem v_row (x0 : Fl S1x1024x1024) (x3 : Fl S1x6x1024) (x4 : Fl S1x1024) (x5 : Bf S1024x3584) (o : ℕ) (ho : o ≤ 768) (r : Fin 256) (n : Fin 512) :
    k0_pay116 (k0_pay10 (hG x3 x4 (rowsAt x0 o (rows_fit o ho)))) (colsAt x5 1024 (by omega)) (ix3 0 r n) =
      pK x0 x3 x4 x5 ⟨o + r.val, by omega⟩ ⟨1024 + n.val, by omega⟩ := by
  rw [val_at]
  simp only [hG_row x0 x3 x4 o ho, colsAt_at]
  rfl

theorem v_piece (x0 : Fl S1x1024x1024) (x3 : Fl S1x6x1024) (x4 : Fl S1x1024) (x5 : Bf S1024x3584) (x6 x7 x8 x9 : Fl S1024x128)
    (o : ℕ) (ho : o ≤ 768) (x : S1x256x512.Idx) :
    blockA x0 x3 x4 x5 x6 x7 x8 x9 ((Rect.unit (s := S1x1024x2048) ![0, o, 1024] ![1, 256, 512] (q_fit o ho 1024 512 (by omega))).emb x) =
      k0_pay116 (k0_pay10 (hG x3 x4 (rowsAt x0 o (rows_fit o ho)))) (colsAt x5 1024 (by omega)) x := by
  have h1 : (x 1).val < 256 := (x 1).isLt
  have h2 : (x 2).val < 512 := (x 2).isLt
  refine Eq.trans ?_ ((congrArg _ (idx3 x)).trans (v_row x0 x3 x4 x5 o ho (x 1) (x 2))).symm
  exact blockA_v x0 x3 x4 x5 x6 x7 x8 x9 ⟨o + (x 1).val, by omega⟩ (1024 + (x 2).val) (by omega) (by omega) _
    (Fin.ext (by show o + 1 * (x 1).val = o + (x 1).val; omega)) (by show 1024 + 1 * (x 2).val = 1024 + (x 2).val; omega)

theorem g_row (x0 : Fl S1x1024x1024) (x3 : Fl S1x6x1024) (x4 : Fl S1x1024) (x5 : Bf S1024x3584) (o : ℕ) (ho : o ≤ 768) (r : Fin 256) (n : Fin 512) :
    k0_pay100 (k0_pay10 (hG x3 x4 (rowsAt x0 o (rows_fit o ho)))) (colsAt x5 1536 (by omega)) (ix3 0 r n) =
      Silu (pK x0 x3 x4 x5 ⟨o + r.val, by omega⟩ ⟨1536 + n.val, by omega⟩) := by
  rw [gate_at]
  simp only [hG_row x0 x3 x4 o ho, colsAt_at]
  rfl

theorem g_piece (x0 : Fl S1x1024x1024) (x3 : Fl S1x6x1024) (x4 : Fl S1x1024) (x5 : Bf S1024x3584) (x6 x7 x8 x9 : Fl S1024x128)
    (o : ℕ) (ho : o ≤ 768) (x : S1x256x512.Idx) :
    blockA x0 x3 x4 x5 x6 x7 x8 x9 ((Rect.unit (s := S1x1024x2048) ![0, o, 1536] ![1, 256, 512] (q_fit o ho 1536 512 (by omega))).emb x) =
      k0_pay100 (k0_pay10 (hG x3 x4 (rowsAt x0 o (rows_fit o ho)))) (colsAt x5 1536 (by omega)) x := by
  have h1 : (x 1).val < 256 := (x 1).isLt
  have h2 : (x 2).val < 512 := (x 2).isLt
  refine Eq.trans ?_ ((congrArg _ (idx3 x)).trans (g_row x0 x3 x4 x5 o ho (x 1) (x 2))).symm
  exact blockA_g x0 x3 x4 x5 x6 x7 x8 x9 ⟨o + (x 1).val, by omega⟩ (1536 + (x 2).val) (by omega) (by omega) _
    (Fin.ext (by show o + 1 * (x 1).val = o + (x 1).val; omega)) (by show 1536 + 1 * (x 2).val = 1536 + (x 2).val; omega)

/-- A row of the slab that the convolution reads, from the blocks. -/
def slabK (a : BitVec 32) (x0 : Fl S1x1024x1024) (x1 x2 : Fl S1x16x1024) (x3 : Fl S1x6x1024) (x4 : Fl S1x1024) (x5 : Bf S1024x3584) (r : Fin 1056) :
    Fin 3584 → EReal := Slab a (fun r => hK x3 x4 (rowK x0 x1 x2 r)) (fun x j => x5 (ix2 x j)) r

/-- The convolution of row `l` of the tile. -/
def convK (a : BitVec 32) (x0 : Fl S1x1024x1024) (x1 x2 : Fl S1x16x1024) (x3 : Fl S1x6x1024) (x4 : Fl S1x1024) (x5 : Bf S1024x3584)
    (x10 : Fl S3x1536) (x11 : Fl S1x1536) (l : Fin 1024) : Fin 1536 → EReal :=
  Conv (slabK a x0 x1 x2 x3 x4 x5 ⟨l.val + 15, by omega⟩) (slabK a x0 x1 x2 x3 x4 x5 ⟨l.val + 16, by omega⟩)
    (slabK a x0 x1 x2 x3 x4 x5 ⟨l.val + 17, by omega⟩) (fun k j => x10 (ix2 k j)) (fun j => x11 (ix2 0 j))

theorem wcols_fit (c : ℕ) (hc : c ≤ 1280) : ∀ a, (![0, 2048 + c] : Fin 2 → ℕ) a + (![1024, 256] : Fin 2 → ℕ) a ≤ S1024x3584.size a
  | ⟨0, _⟩ => le_refl 1024
  | ⟨1, _⟩ => by show 2048 + c + 256 ≤ 3584; omega

theorem scols_fit (k c : ℕ) (hk : k ≤ 2) (hc : c ≤ 1280) : ∀ a, (![k, c] : Fin 2 → ℕ) a + (![1, 256] : Fin 2 → ℕ) a ≤ S3x1536.size a
  | ⟨0, _⟩ => by show k + 1 ≤ 3; omega
  | ⟨1, _⟩ => by show c + 256 ≤ 1536; omega

theorem bcols_fit (c : ℕ) (hc : c ≤ 1280) : ∀ a, (![0, c] : Fin 2 → ℕ) a + (![1, 256] : Fin 2 → ℕ) a ≤ S1x1536.size a
  | ⟨0, _⟩ => le_refl 1
  | ⟨1, _⟩ => by show c + 256 ≤ 1536; omega

/-- The slab of 256 columns from column `c` of the convolution's. -/
def slabP (a : BitVec 32) (x0 : Fl S1x1024x1024) (x1 x2 : Fl S1x16x1024) (x3 : Fl S1x6x1024) (x4 : Fl S1x1024) (x5 : Bf S1024x3584)
    (c : ℕ) (hc : c ≤ 1280) : Fl S1056x256 :=
  slab a (hFirst x1 x3 x4 (rowsAt x0 0 (rows_fit 0 (by omega)))) (hLast x2 x3 x4 (rowsAt x0 768 (rows_fit 768 (by omega))))
    (hG x3 x4 (rowsAt x0 256 (rows_fit 256 (by omega)))) (hG x3 x4 (rowsAt x0 512 (rows_fit 512 (by omega))))
    (View.ld x5 (Rect.unit (s := S1024x3584) ![0, 2048 + c] ![1024, 256] (wcols_fit c hc)))

/-- The convolution's 256 columns from column `c`. -/
def convP (a : BitVec 32) (x0 : Fl S1x1024x1024) (x1 x2 : Fl S1x16x1024) (x3 : Fl S1x6x1024) (x4 : Fl S1x1024) (x5 : Bf S1024x3584)
    (x10 : Fl S3x1536) (x11 : Fl S1x1536) (c : ℕ) (hc : c ≤ 1280) : Fl S1024x256 :=
  conv (slabP a x0 x1 x2 x3 x4 x5 c hc) (View.ld x10 (Rect.unit (s := S3x1536) ![0, c] ![1, 256] (scols_fit 0 c (by omega) hc)))
    (View.ld x10 (Rect.unit (s := S3x1536) ![1, c] ![1, 256] (scols_fit 1 c (by omega) hc)))
    (View.ld x10 (Rect.unit (s := S3x1536) ![2, c] ![1, 256] (scols_fit 2 c (by omega) hc)))
    (View.ld x11 (Rect.unit (s := S1x1536) ![0, c] ![1, 256] (bcols_fit c hc)))

theorem slabP_at (a : BitVec 32) (x0 : Fl S1x1024x1024) (x1 x2 : Fl S1x16x1024) (x3 : Fl S1x6x1024) (x4 : Fl S1x1024) (x5 : Bf S1024x3584)
    (c : ℕ) (hc : c ≤ 1280) (r : Fin 1056) (n : Fin 256) :
    slabP a x0 x1 x2 x3 x4 x5 c hc (ix2 r n) = slabK a x0 x1 x2 x3 x4 x5 r ⟨2048 + (c + n.val), by omega⟩ := by
  refine slab_at a _ _ _ _ _ (fun x j => x5 (ix2 x j)) ⟨2048 + (c + n.val), by omega⟩ (fun r => hK x3 x4 (rowK x0 x1 x2 r)) ?_ ?_ ?_ ?_ r n ?_
  · intro r x
    rw [hFirst_at]
    by_cases h : r.val < 16
    · rw [dif_pos h]
      unfold hK rowK
      simp only [dif_pos h]
    · rw [dif_neg h, hG_row x0 x3 x4 0 (by omega)]
      unfold rowK
      simp only [dif_neg h, dif_pos (show r.val < 1040 by omega), Nat.zero_add]
  · intro r x
    rw [hG_row x0 x3 x4 256 (by omega)]
    unfold rowK
    simp only [dif_neg (show ¬272 + r.val < 16 by omega), dif_pos (show 272 + r.val < 1040 by omega), show 272 + r.val - 16 = 256 + r.val by omega]
  · intro r x
    rw [hG_row x0 x3 x4 512 (by omega)]
    unfold rowK
    simp only [dif_neg (show ¬528 + r.val < 16 by omega), dif_pos (show 528 + r.val < 1040 by omega), show 528 + r.val - 16 = 512 + r.val by omega]
  · intro r x
    rw [hLast_at]
    by_cases h : r.val < 256
    · rw [dif_pos h, hG_row x0 x3 x4 768 (by omega)]
      unfold rowK
      simp only [dif_neg (show ¬784 + r.val < 16 by omega), dif_pos (show 784 + r.val < 1040 by omega), show 784 + r.val - 16 = 768 + r.val by omega]
    · rw [dif_neg h]
      unfold hK rowK
      simp only [dif_neg (show ¬784 + r.val < 16 by omega), dif_neg (show ¬784 + r.val < 1040 by omega), show 784 + r.val - 1040 = r.val - 256 by omega]
  · intro x
    refine (ld2 0 (2048 + c) x5 _ x n (by omega) (by omega)).trans ?_
    simp only [Nat.zero_add, Nat.add_assoc]

theorem convP_at (a : BitVec 32) (x0 : Fl S1x1024x1024) (x1 x2 : Fl S1x16x1024) (x3 : Fl S1x6x1024) (x4 : Fl S1x1024) (x5 : Bf S1024x3584)
    (x10 : Fl S3x1536) (x11 : Fl S1x1536) (c : ℕ) (hc : c ≤ 1280) (l : Fin 1024) (n : Fin 256) :
    convP a x0 x1 x2 x3 x4 x5 x10 x11 c hc (ix2 l n) = convK a x0 x1 x2 x3 x4 x5 x10 x11 l ⟨c + n.val, by omega⟩ := by
  have e0 := ld2 0 c x10 (scols_fit 0 c (by omega) hc) (0 : Fin 1) n (by decide) (by omega)
  have e1 := ld2 1 c x10 (scols_fit 1 c (by omega) hc) (0 : Fin 1) n (by decide) (by omega)
  have e2 := ld2 2 c x10 (scols_fit 2 c (by omega) hc) (0 : Fin 1) n (by decide) (by omega)
  have e3 := ld2 0 c x11 (bcols_fit c hc) (0 : Fin 1) n (by decide) (by omega)
  unfold convP
  refine (conv_at _ _ _ _ _ l n).trans ?_
  rw [slabP_at, slabP_at, slabP_at]
  unfold convK Conv
  exact congrArg₂ (· + ·) (congrArg₂ (· + ·) (congrArg₂ (· + ·) (congrArg _ e0) (congrArg _ e1)) (congrArg _ e2)) e3

/-- The tile's first factor of the convolution branch. -/
def blockB (a : BitVec 32) (x0 : Fl S1x1024x1024) (x1 x2 : Fl S1x16x1024) (x3 : Fl S1x6x1024) (x4 : Fl S1x1024) (x5 : Bf S1024x3584)
    (x10 : Fl S3x1536) (x11 : Fl S1x1536) : Bf S1x1024x512 := fun i =>
  convK a x0 x1 x2 x3 x4 x5 x10 x11 (i 1) ⟨(i 2).val, by have : (i 2).val < 512 := (i 2).isLt; omega⟩

/-- The tile's input of the long convolution: the product of the other two factors. -/
def blockC (a : BitVec 32) (x0 : Fl S1x1024x1024) (x1 x2 : Fl S1x16x1024) (x3 : Fl S1x6x1024) (x4 : Fl S1x1024) (x5 : Bf S1024x3584)
    (x10 : Fl S3x1536) (x11 : Fl S1x1536) : Bf S1x1024x512 := fun i =>
  convK a x0 x1 x2 x3 x4 x5 x10 x11 (i 1) ⟨512 + (i 2).val, by have : (i 2).val < 512 := (i 2).isLt; omega⟩
    * convK a x0 x1 x2 x3 x4 x5 x10 x11 (i 1) ⟨1024 + (i 2).val, by have : (i 2).val < 512 := (i 2).isLt; omega⟩

/-- A vector of a tile's rows, rounded and given its unit axis. -/
def asBlock (y : FVec Ideal S1024x256 .f32) : Bf S1x1024x256 :=
  shapeCast S1x1024x256 (truncf .bf16 y bitsLt_bf16_f32) shapeCasts_S1024x256_S1x1024x256

theorem asBlock_at (y : FVec Ideal S1024x256 .f32) (r : Fin 1024) (n : Fin 256) : asBlock y (ix3 0 r n) = y (ix2 r n) := by
  pointwise [asBlock]

/-- The product of two vectors of a tile's rows, rounded and given its unit axis. -/
def asProd (y z : FVec Ideal S1024x256 .f32) : Bf S1x1024x256 := asBlock (mulf y z)

theorem asProd_at (y z : FVec Ideal S1024x256 .f32) (r : Fin 1024) (n : Fin 256) :
    asProd y z (ix3 0 r n) = (y (ix2 r n) * z (ix2 r n) : EReal) := by
  pointwise [asProd, asBlock]

theorem b_fit (c : ℕ) (hc : c ≤ 256) : ∀ a, (![0, 0, c] : Fin 3 → ℕ) a + (![1, 1024, 256] : Fin 3 → ℕ) a ≤ S1x1024x512.size a
  | ⟨0, _⟩ => le_refl 1
  | ⟨1, _⟩ => le_refl 1024
  | ⟨2, _⟩ => by show c + 256 ≤ 512; omega

theorem b_piece (a : BitVec 32) (x0 : Fl S1x1024x1024) (x1 x2 : Fl S1x16x1024) (x3 : Fl S1x6x1024) (x4 : Fl S1x1024) (x5 : Bf S1024x3584)
    (x10 : Fl S3x1536) (x11 : Fl S1x1536) (c : ℕ) (hc : c ≤ 256) (x : S1x1024x256.Idx) :
    blockB a x0 x1 x2 x3 x4 x5 x10 x11 ((Rect.unit (s := S1x1024x512) ![0, 0, c] ![1, 1024, 256] (b_fit c hc)).emb x) =
      asBlock (convP a x0 x1 x2 x3 x4 x5 x10 x11 c (by omega)) x := by
  refine Eq.trans ?_ ((congrArg _ (idx3 x)).trans ((asBlock_at _ (x 1) (x 2)).trans (convP_at a x0 x1 x2 x3 x4 x5 x10 x11 c (by omega) (x 1) (x 2)))).symm
  unfold blockB
  congr 1
  · congr 1
    exact Fin.ext (by show 0 + 1 * (x 1).val = (x 1).val; omega)
  · exact Fin.ext (by show c + 1 * (x 2).val = c + (x 2).val; omega)

theorem c_row (a : BitVec 32) (x0 : Fl S1x1024x1024) (x1 x2 : Fl S1x16x1024) (x3 : Fl S1x6x1024) (x4 : Fl S1x1024) (x5 : Bf S1024x3584)
    (x10 : Fl S3x1536) (x11 : Fl S1x1536) (c : ℕ) (hc : c ≤ 256) (l : Fin 1024) (n : Fin 256) :
    asProd (convP a x0 x1 x2 x3 x4 x5 x10 x11 (512 + c) (by omega)) (convP a x0 x1 x2 x3 x4 x5 x10 x11 (1024 + c) (by omega)) (ix3 0 l n) =
      convK a x0 x1 x2 x3 x4 x5 x10 x11 l ⟨512 + c + n.val, by omega⟩ * convK a x0 x1 x2 x3 x4 x5 x10 x11 l ⟨1024 + c + n.val, by omega⟩ := by
  rw [asProd_at, convP_at, convP_at]

theorem c_piece (a : BitVec 32) (x0 : Fl S1x1024x1024) (x1 x2 : Fl S1x16x1024) (x3 : Fl S1x6x1024) (x4 : Fl S1x1024) (x5 : Bf S1024x3584)
    (x10 : Fl S3x1536) (x11 : Fl S1x1536) (c : ℕ) (hc : c ≤ 256) (x : S1x1024x256.Idx) :
    blockC a x0 x1 x2 x3 x4 x5 x10 x11 ((Rect.unit (s := S1x1024x512) ![0, 0, c] ![1, 1024, 256] (b_fit c hc)).emb x) =
      asProd (convP a x0 x1 x2 x3 x4 x5 x10 x11 (512 + c) (by omega)) (convP a x0 x1 x2 x3 x4 x5 x10 x11 (1024 + c) (by omega)) x := by
  have h2 : (x 2).val < 256 := (x 2).isLt
  refine Eq.trans ?_ ((congrArg _ (idx3 x)).trans (c_row a x0 x1 x2 x3 x4 x5 x10 x11 c hc (x 1) (x 2))).symm
  have e1 : (Rect.unit (s := S1x1024x512) ![0, 0, c] ![1, 1024, 256] (b_fit c hc)).emb x 1 = (x 1 : Fin 1024) :=
    Fin.ext (show 0 + 1 * (x 1).val = (x 1).val by omega)
  have e2 : ((Rect.unit (s := S1x1024x512) ![0, 0, c] ![1, 1024, 256] (b_fit c hc)).emb x 2).val = c + (x 2).val := by
    show c + 1 * (x 2).val = c + (x 2).val; omega
  unfold blockC
  rw [e1]
  simp only [e2, Nat.add_assoc]

theorem hz2 : (![0, 0] : Fin 2 → Nat) = fun _ => 0 := funext fun a => by fin_cases a <;> rfl
theorem hz3 : (![0, 0, 0] : Fin 3 → Nat) = fun _ => 0 := funext fun a => by fin_cases a <;> rfl

end Cert.InKernel
end
-- ==== Proof.InChains.lean ====
module

public import proofs.«01_k».proof.Proof.InPieces

@[expose] public section

set_option maxRecDepth 16384

noncomputable section

/-! # The body's payloads by their pieces -/

namespace Cert.InKernel

open Cert.Kernel3Ideal Cert.Kernel3Ideal.Gen Cert.Ffn Cert.Inp Idealize.ShloMosaic Idealize.ShloMosaic.TcCoe

section rows
variable (x0 : Fl S1x256x1024) (x1 x2 : Fl S1x16x1024) (x3 : Fl S1x6x1024) (x4 : Fl S1x1024)

/-- The four groups' normalised rows are one function of the group. -/
theorem group0 : k0_pay4 x4 (View.ld x3 (Rect.unit ![0, 1, 0] ![1, 1, 1024] inb_S1x6x1024_S1x1x1024_0_1_0)) x0
    (View.ld x3 (Rect.unit ![0, 0, 0] ![1, 1, 1024] inb_S1x6x1024_S1x1x1024_0_0_0)) = hG x3 x4 x0 := rfl

@[inherit_doc group0] theorem group1 : k0_pay6 (k0_pay3 x4 (View.ld x3 (Rect.unit ![0, 1, 0] ![1, 1, 1024] inb_S1x6x1024_S1x1x1024_0_1_0))) (k0_pay5 x0)
    (View.ld x3 (Rect.unit ![0, 0, 0] ![1, 1, 1024] inb_S1x6x1024_S1x1x1024_0_0_0)) = hG x3 x4 x0 := rfl

@[inherit_doc group0] theorem group2 : k0_pay7 (k0_pay3 x4 (View.ld x3 (Rect.unit ![0, 1, 0] ![1, 1, 1024] inb_S1x6x1024_S1x1x1024_0_1_0))) x0
    (View.ld x3 (Rect.unit ![0, 0, 0] ![1, 1, 1024] inb_S1x6x1024_S1x1x1024_0_0_0)) = hG x3 x4 x0 := rfl

@[inherit_doc group0] theorem group3 : k0_pay9 (k0_pay8 (k0_pay3 x4 (View.ld x3 (Rect.unit ![0, 1, 0] ![1, 1, 1024] inb_S1x6x1024_S1x1x1024_0_1_0))) x0)
    (View.ld x3 (Rect.unit ![0, 0, 0] ![1, 1, 1024] inb_S1x6x1024_S1x1x1024_0_0_0)) = hG x3 x4 x0 := rfl

/-- The last group's rows, rounded. -/
theorem round3 : k0_pay13 (k0_pay8 (k0_pay3 x4 (View.ld x3 (Rect.unit ![0, 1, 0] ![1, 1, 1024] inb_S1x6x1024_S1x1x1024_0_1_0))) x0)
    (View.ld x3 (Rect.unit ![0, 0, 0] ![1, 1, 1024] inb_S1x6x1024_S1x1x1024_0_0_0)) = k0_pay10 (hG x3 x4 x0) := rfl

/-- The first and the last group with the rows beyond them. -/
theorem first_eq : k0_pay14 (k0_pay3 x4 (View.ld x3 (Rect.unit ![0, 1, 0] ![1, 1, 1024] inb_S1x6x1024_S1x1x1024_0_1_0))) (hG x3 x4 x0) x1
    (View.ld x3 (Rect.unit ![0, 0, 0] ![1, 1, 1024] inb_S1x6x1024_S1x1x1024_0_0_0)) = hFirst x1 x3 x4 x0 := rfl

@[inherit_doc first_eq] theorem last_eq : k0_pay16 (hG x3 x4 x0) (k0_pay15 (k0_pay3 x4 (View.ld x3 (Rect.unit ![0, 1, 0] ![1, 1, 1024] inb_S1x6x1024_S1x1x1024_0_1_0))) x2)
    (View.ld x3 (Rect.unit ![0, 0, 0] ![1, 1, 1024] inb_S1x6x1024_S1x1x1024_0_0_0)) = hLast x2 x3 x4 x0 := rfl

end rows

section columns
variable (a : BitVec 32) (ha hb : Bf S272x1024) (h1 h2 : Fl S256x1024) (w : Bf S1024x256) (w0 w1 w2 b : Fl S1x256) (y : Fl S1024x256)

/-- The convolution of 256 columns, in the forms in which the body writes it. -/
theorem conv0 : k0_pay53 a hb (k0_pay50 ha w) (k0_pay51 (k0_pay11 h1) w) (k0_pay52 (k0_pay12 h2) w) w (constant S272x256 .f32 0x00000000#32) w0 w1 w2 b
    = asBlock (conv (slab a ha hb h1 h2 w) w0 w1 w2 b) := rfl

@[inherit_doc conv0] theorem conv1 : k0_pay91 a (k0_pay87 (k0_pay11 h1) w) (k0_pay88 (k0_pay12 h2) w) (k0_pay89 hb w) (k0_pay90 a ha w) w0 w1 w2 b
    = asBlock (conv (slab a ha hb h1 h2 w) w0 w1 w2 b) := rfl

@[inherit_doc conv0] theorem conv2 : k0_pay94 a (k0_pay12 h2) hb (k0_pay92 ha w) (k0_pay93 (k0_pay11 h1) w) w w w0 w1 w2 b
    = conv (slab a ha hb h1 h2 w) w0 w1 w2 b := rfl

@[inherit_doc conv0] theorem conv3 : k0_pay97 y (k0_pay96 a (k0_pay11 h1) (k0_pay12 h2) hb (k0_pay95 ha w) w w w w0 w1 w2 b)
    = asProd y (conv (slab a ha hb h1 h2 w) w0 w1 w2 b) := rfl

@[inherit_doc conv0] theorem conv4 : k0_pay110 a (k0_pay105 ha w) (k0_pay106 (k0_pay11 h1) w) (k0_pay107 (k0_pay12 h2) w) (k0_pay108 hb w) (k0_pay109 a ha w) w0 w1 w2 b
    = conv (slab a ha hb h1 h2 w) w0 w1 w2 b := rfl

@[inherit_doc conv0] theorem conv5 : k0_pay114 a hb y (k0_pay111 ha w) (k0_pay112 (k0_pay11 h1) w) (k0_pay113 (k0_pay12 h2) w) w (constant S272x256 .f32 0x00000000#32) w0 w1 w2 b
    = asProd y (conv (slab a ha hb h1 h2 w) w0 w1 w2 b) := rfl

end columns

section heads
variable (h : Fl S256x1024) (w : Bf S1024x512) (cc ss : Fl S256x128)

theorem head_fit (q : ℕ) (hq : q ≤ 384) : S256x512.Slices ![0, q] S256x128 := by
  refine ⟨rfl, fun a => ?_⟩
  match a with
  | ⟨0, _⟩ => exact le_refl 256
  | ⟨1, _⟩ => show q + 128 ≤ 512; omega

/-- A head's rotation, in the forms in which the body writes it: the queries' four heads in each group of rows, then the keys'. -/
theorem q0_0 : k0_pay23 (k0_pay10 h) w cc ss = ropePiece h w cc ss 0 (head_fit 0 (by decide)) := rfl

@[inherit_doc q0_0] theorem q0_128 : k0_pay24 (k0_pay10 h) w cc ss = ropePiece h w cc ss 128 (head_fit 128 (by decide)) := rfl

@[inherit_doc q0_0] theorem q0_256 : k0_pay25 (k0_pay17 (k0_pay10 h) w) (k0_pay21 cc) (k0_pay22 ss) = ropePiece h w cc ss 256 (head_fit 256 (by decide)) := rfl

@[inherit_doc q0_0] theorem q0_384 : k0_pay26 (k0_pay17 (k0_pay10 h) w) (k0_pay21 cc) (k0_pay22 ss) = ropePiece h w cc ss 384 (head_fit 384 (by decide)) := rfl

@[inherit_doc q0_0] theorem q256_0 : k0_pay29 (k0_pay18 (k0_pay11 h) w) cc ss = ropePiece h w cc ss 0 (head_fit 0 (by decide)) := rfl

@[inherit_doc q0_0] theorem q256_128 : k0_pay31 (k0_pay30 (k0_pay18 (k0_pay11 h) w) cc ss) = ropePiece h w cc ss 128 (head_fit 128 (by decide)) := rfl

@[inherit_doc q0_0] theorem q256_256 : k0_pay32 (k0_pay18 (k0_pay11 h) w) (k0_pay27 cc) (k0_pay28 ss) = ropePiece h w cc ss 256 (head_fit 256 (by decide)) := rfl

@[inherit_doc q0_0] theorem q256_384 : k0_pay33 (k0_pay18 (k0_pay11 h) w) (k0_pay27 cc) (k0_pay28 ss) = ropePiece h w cc ss 384 (head_fit 384 (by decide)) := rfl

@[inherit_doc q0_0] theorem q512_0 : k0_pay36 (k0_pay19 (k0_pay12 h) w) cc ss = ropePiece h w cc ss 0 (head_fit 0 (by decide)) := rfl

@[inherit_doc q0_0] theorem q512_128 : k0_pay40 (k0_pay38 (k0_pay19 (k0_pay12 h) w) cc) (k0_pay39 (k0_pay19 (k0_pay12 h) w) ss) = ropePiece h w cc ss 128 (head_fit 128 (by decide)) := rfl

@[inherit_doc q0_0] theorem q512_256 : k0_pay41 (k0_pay19 (k0_pay12 h) w) (k0_pay34 cc) (k0_pay35 ss) = ropePiece h w cc ss 256 (head_fit 256 (by decide)) := rfl

@[inherit_doc q0_0] theorem q512_384 : k0_pay42 (k0_pay19 (k0_pay12 h) w) (k0_pay34 cc) (k0_pay35 ss) = ropePiece h w cc ss 384 (head_fit 384 (by decide)) := rfl

@[inherit_doc q0_0] theorem q768_0 : k0_pay45 (k0_pay20 (k0_pay10 h) w) cc ss = ropePiece h w cc ss 0 (head_fit 0 (by decide)) := rfl

@[inherit_doc q0_0] theorem q768_128 : k0_pay47 (k0_pay43 cc) (k0_pay44 ss) (k0_pay46 (k0_pay20 (k0_pay10 h) w)) = ropePiece h w cc ss 128 (head_fit 128 (by decide)) := rfl

@[inherit_doc q0_0] theorem q768_256 : k0_pay48 (k0_pay20 (k0_pay10 h) w) (k0_pay43 cc) (k0_pay44 ss) = ropePiece h w cc ss 256 (head_fit 256 (by decide)) := rfl

@[inherit_doc q0_0] theorem q768_384 : k0_pay49 (k0_pay20 (k0_pay10 h) w) (k0_pay43 cc) (k0_pay44 ss) = ropePiece h w cc ss 384 (head_fit 384 (by decide)) := rfl

@[inherit_doc q0_0] theorem k0_0 : k0_pay60 (k0_pay10 h) w (constant S256x512 .f32 0x00000000#32) cc ss = ropePiece h w cc ss 0 (head_fit 0 (by decide)) := rfl

@[inherit_doc q0_0] theorem k0_128 : k0_pay61 (k0_pay10 h) w (constant S256x512 .f32 0x00000000#32) cc ss = ropePiece h w cc ss 128 (head_fit 128 (by decide)) := rfl

@[inherit_doc q0_0] theorem k0_256 : k0_pay63 (k0_pay62 (k0_pay10 h) w (constant S256x512 .f32 0x00000000#32) cc ss) = ropePiece h w cc ss 256 (head_fit 256 (by decide)) := rfl

@[inherit_doc q0_0] theorem k0_384 : k0_pay64 (k0_pay54 (k0_pay10 h) w (constant S256x512 .f32 0x00000000#32)) (k0_pay58 cc) (k0_pay59 ss) = ropePiece h w cc ss 384 (head_fit 384 (by decide)) := rfl

@[inherit_doc q0_0] theorem k256_0 : k0_pay67 (k0_pay55 (k0_pay11 h) w) cc ss = ropePiece h w cc ss 0 (head_fit 0 (by decide)) := rfl

@[inherit_doc q0_0] theorem k256_128 : k0_pay68 (k0_pay55 (k0_pay11 h) w) cc ss = ropePiece h w cc ss 128 (head_fit 128 (by decide)) := rfl

@[inherit_doc q0_0] theorem k256_256 : k0_pay72 (k0_pay66 ss) (k0_pay70 (k0_pay55 (k0_pay11 h) w) cc) (k0_pay71 (k0_pay55 (k0_pay11 h) w)) = ropePiece h w cc ss 256 (head_fit 256 (by decide)) := rfl

@[inherit_doc q0_0] theorem k256_384 : k0_pay73 (k0_pay55 (k0_pay11 h) w) (k0_pay65 cc) (k0_pay66 ss) = ropePiece h w cc ss 384 (head_fit 384 (by decide)) := rfl

@[inherit_doc q0_0] theorem k512_0 : k0_pay76 (k0_pay56 (k0_pay12 h) w) cc ss = ropePiece h w cc ss 0 (head_fit 0 (by decide)) := rfl

@[inherit_doc q0_0] theorem k512_128 : k0_pay77 (k0_pay56 (k0_pay12 h) w) cc ss = ropePiece h w cc ss 128 (head_fit 128 (by decide)) := rfl

@[inherit_doc q0_0] theorem k512_256 : k0_pay78 (k0_pay56 (k0_pay12 h) w) (k0_pay74 cc) (k0_pay75 ss) = ropePiece h w cc ss 256 (head_fit 256 (by decide)) := rfl

@[inherit_doc q0_0] theorem k512_384 : k0_pay79 (k0_pay56 (k0_pay12 h) w) (k0_pay74 cc) (k0_pay75 ss) = ropePiece h w cc ss 384 (head_fit 384 (by decide)) := rfl

@[inherit_doc q0_0] theorem k768_0 : k0_pay82 (k0_pay57 (k0_pay10 h) w) cc ss = ropePiece h w cc ss 0 (head_fit 0 (by decide)) := rfl

@[inherit_doc q0_0] theorem k768_128 : k0_pay84 (k0_pay83 (k0_pay57 (k0_pay10 h) w) cc ss) = ropePiece h w cc ss 128 (head_fit 128 (by decide)) := rfl

@[inherit_doc q0_0] theorem k768_256 : k0_pay85 (k0_pay57 (k0_pay10 h) w) (k0_pay80 cc) (k0_pay81 ss) = ropePiece h w cc ss 256 (head_fit 256 (by decide)) := rfl

@[inherit_doc q0_0] theorem k768_384 : k0_pay86 (k0_pay57 (k0_pay10 h) w) (k0_pay80 cc) (k0_pay81 ss) = ropePiece h w cc ss 384 (head_fit 384 (by decide)) := rfl

end heads

end Cert.InKernel
end
-- ==== Proof.InOutA.lean ====
module

public import proofs.«01_k».proof.Proof.InChains

@[expose] public section

set_option maxRecDepth 16384

noncomputable section

/-! # What the kernel's body leaves -/

namespace Cert.InKernel

open Cert.Kernel3Ideal Cert.Kernel3Ideal.Gen Cert.Ffn Cert.Inp Idealize.ShloMosaic Idealize.ShloMosaic.TcCoe

section cases
variable (c : Dev nD) (i : grid0.Coords) (a0 : Memref sig .tc .vmem S1x1024x1024 .f32) (h0 : a0.IsWhole) (a1 : Memref sig .tc .vmem S1x16x1024 .f32) (h1 : a1.IsWhole) (a2 : Memref sig .tc .vmem S1x16x1024 .f32) (h2 : a2.IsWhole)
  (a3 : Memref sig .tc .vmem S1x6x1024 .f32) (h3 : a3.IsWhole) (a4 : Memref sig .tc .vmem S1x1024 .f32) (h4 : a4.IsWhole) (a5 : Memref sig .tc .vmem S1024x3584 .bf16) (h5 : a5.IsWhole)
  (a6 : Memref sig .tc .vmem S1024x128 .f32) (h6 : a6.IsWhole) (a7 : Memref sig .tc .vmem S1024x128 .f32) (h7 : a7.IsWhole) (a8 : Memref sig .tc .vmem S1024x128 .f32) (h8 : a8.IsWhole)
  (a9 : Memref sig .tc .vmem S1024x128 .f32) (h9 : a9.IsWhole) (a10 : Memref sig .tc .vmem S3x1536 .f32) (h10 : a10.IsWhole) (a11 : Memref sig .tc .vmem S1x1536 .f32) (h11 : a11.IsWhole)
  (a12 : Memref sig .tc .vmem S1x1024x2048 .bf16) (h12 : a12.IsWhole) (a13 : Memref sig .tc .vmem S1x1024x512 .bf16) (h13 : a13.IsWhole) (a14 : Memref sig .tc .vmem S1x1024x512 .bf16) (h14 : a14.IsWhole)
  (x0 : Fl S1x1024x1024) (x1 x2 : Fl S1x16x1024) (x3 : Fl S1x6x1024) (x4 : Fl S1x1024) (x5 : Bf S1024x3584)
  (x6 x7 x8 x9 : Fl S1024x128) (x10 : Fl S3x1536) (x11 : Fl S1x1536)

set_option maxHeartbeats 4000000 in
/-- The body leaves the tile's part for the retention. -/
theorem out_12 : out0_A_12 c i a0 h0 a1 h1 a2 h2 a3 h3 a4 h4 a5 h5 a6 h6 a7 h7 a8 h8 a9 h9 a10 h10 a11 h11 a12 h12 a13 h13 a14 h14 x0 x1 x2 x3 x4 x5 x6 x7 x8 x9 x10 x11
    = blockA x0 x3 x4 x5 x6 x7 x8 x9 := by
  funext y
  unfold out0_A_12
  refine View.read_writes_apply_of_pieces _ _ (blockA x0 x3 x4 x5 x6 x7 x8 x9) _ ?_ y (cover0_A_12 c i a0 h0 a1 h1 a2 h2 a3 h3 a4 h4 a5 h5 a6 h6 a7 h7 a8 h8 a9 h9 a10 h10 a11 h11 a12 h12 a13 h13 a14 h14 x0 x1 x2 x3 x4 x5 x6 x7 x8 x9 x10 x11 y)
  unfold kernelRun0_A
  dsimp only
  sl_unfold_words
  simp only [View.readAt_eq_ld, h0.read_unread, h1.read_unread, h2.read_unread, h3.read_unread, h4.read_unread, h5.read_unread, h6.read_unread, h7.read_unread, h8.read_unread, h9.read_unread, h10.read_unread, h11.read_unread, View.ld_unit_zero (S := S1x1024) hz2, View.ld_unit_zero (S := S1x16x1024) hz3]
  simp only [group0, group1, group2, group3, round3, q0_0, q0_128, q0_256, q0_384, q256_0, q256_128, q256_256, q256_384, q512_0, q512_128, q512_256, q512_384, q768_0, q768_128, q768_256, q768_384, k0_0, k0_128, k0_256, k0_384, k256_0, k256_128, k256_256, k256_384, k512_0, k512_128, k512_256, k512_384, k768_0, k768_128, k768_256, k768_384]
  simp only [List.forall_mem_cons]
  iterate 4 refine ⟨fun x => (v_piece x0 x3 x4 x5 x6 x7 x8 x9 _ (by decide) x).symm, ?_⟩
  iterate 4 refine ⟨fun x => (g_piece x0 x3 x4 x5 x6 x7 x8 x9 _ (by decide) x).symm, ?_⟩
  refine ⟨fun x => (k_piece x0 x3 x4 x5 x6 x7 x8 x9 768 (by decide) 896 (by decide) (by decide) (by decide) (head_fit 384 (by decide)) x).symm, ?_⟩
  refine ⟨fun x => (k_piece x0 x3 x4 x5 x6 x7 x8 x9 768 (by decide) 768 (by decide) (by decide) (by decide) (head_fit 256 (by decide)) x).symm, ?_⟩
  refine ⟨fun x => (k_piece x0 x3 x4 x5 x6 x7 x8 x9 768 (by decide) 640 (by decide) (by decide) (by decide) (head_fit 128 (by decide)) x).symm, ?_⟩
  refine ⟨fun x => (k_piece x0 x3 x4 x5 x6 x7 x8 x9 768 (by decide) 512 (by decide) (by decide) (by decide) (head_fit 0 (by decide)) x).symm, ?_⟩
  refine ⟨fun x => (k_piece x0 x3 x4 x5 x6 x7 x8 x9 512 (by decide) 896 (by decide) (by decide) (by decide) (head_fit 384 (by decide)) x).symm, ?_⟩
  refine ⟨fun x => (k_piece x0 x3 x4 x5 x6 x7 x8 x9 512 (by decide) 768 (by decide) (by decide) (by decide) (head_fit 256 (by decide)) x).symm, ?_⟩
  refine ⟨fun x => (k_piece x0 x3 x4 x5 x6 x7 x8 x9 512 (by decide) 640 (by decide) (by decide) (by decide) (head_fit 128 (by decide)) x).symm, ?_⟩
  refine ⟨fun x => (k_piece x0 x3 x4 x5 x6 x7 x8 x9 512 (by decide) 512 (by decide) (by decide) (by decide) (head_fit 0 (by decide)) x).symm, ?_⟩
  refine ⟨fun x => (k_piece x0 x3 x4 x5 x6 x7 x8 x9 256 (by decide) 896 (by decide) (by decide) (by decide) (head_fit 384 (by decide)) x).symm, ?_⟩
  refine ⟨fun x => (k_piece x0 x3 x4 x5 x6 x7 x8 x9 256 (by decide) 768 (by decide) (by decide) (by decide) (head_fit 256 (by decide)) x).symm, ?_⟩
  refine ⟨fun x => (k_piece x0 x3 x4 x5 x6 x7 x8 x9 256 (by decide) 640 (by decide) (by decide) (by decide) (head_fit 128 (by decide)) x).symm, ?_⟩
  refine ⟨fun x => (k_piece x0 x3 x4 x5 x6 x7 x8 x9 256 (by decide) 512 (by decide) (by decide) (by decide) (head_fit 0 (by decide)) x).symm, ?_⟩
  refine ⟨fun x => (k_piece x0 x3 x4 x5 x6 x7 x8 x9 0 (by decide) 896 (by decide) (by decide) (by decide) (head_fit 384 (by decide)) x).symm, ?_⟩
  refine ⟨fun x => (k_piece x0 x3 x4 x5 x6 x7 x8 x9 0 (by decide) 768 (by decide) (by decide) (by decide) (head_fit 256 (by decide)) x).symm, ?_⟩
  refine ⟨fun x => (k_piece x0 x3 x4 x5 x6 x7 x8 x9 0 (by decide) 640 (by decide) (by decide) (by decide) (head_fit 128 (by decide)) x).symm, ?_⟩
  refine ⟨fun x => (k_piece x0 x3 x4 x5 x6 x7 x8 x9 0 (by decide) 512 (by decide) (by decide) (by decide) (head_fit 0 (by decide)) x).symm, ?_⟩
  refine ⟨fun x => (q_piece x0 x3 x4 x5 x6 x7 x8 x9 768 (by decide) 384 (by decide) (by decide) (head_fit 384 (by decide)) x).symm, ?_⟩
  refine ⟨fun x => (q_piece x0 x3 x4 x5 x6 x7 x8 x9 768 (by decide) 256 (by decide) (by decide) (head_fit 256 (by decide)) x).symm, ?_⟩
  refine ⟨fun x => (q_piece x0 x3 x4 x5 x6 x7 x8 x9 768 (by decide) 128 (by decide) (by decide) (head_fit 128 (by decide)) x).symm, ?_⟩
  refine ⟨fun x => (q_piece x0 x3 x4 x5 x6 x7 x8 x9 768 (by decide) 0 (by decide) (by decide) (head_fit 0 (by decide)) x).symm, ?_⟩
  refine ⟨fun x => (q_piece x0 x3 x4 x5 x6 x7 x8 x9 512 (by decide) 384 (by decide) (by decide) (head_fit 384 (by decide)) x).symm, ?_⟩
  refine ⟨fun x => (q_piece x0 x3 x4 x5 x6 x7 x8 x9 512 (by decide) 256 (by decide) (by decide) (head_fit 256 (by decide)) x).symm, ?_⟩
  refine ⟨fun x => (q_piece x0 x3 x4 x5 x6 x7 x8 x9 512 (by decide) 128 (by decide) (by decide) (head_fit 128 (by decide)) x).symm, ?_⟩
  refine ⟨fun x => (q_piece x0 x3 x4 x5 x6 x7 x8 x9 512 (by decide) 0 (by decide) (by decide) (head_fit 0 (by decide)) x).symm, ?_⟩
  refine ⟨fun x => (q_piece x0 x3 x4 x5 x6 x7 x8 x9 256 (by decide) 384 (by decide) (by decide) (head_fit 384 (by decide)) x).symm, ?_⟩
  refine ⟨fun x => (q_piece x0 x3 x4 x5 x6 x7 x8 x9 256 (by decide) 256 (by decide) (by decide) (head_fit 256 (by decide)) x).symm, ?_⟩
  refine ⟨fun x => (q_piece x0 x3 x4 x5 x6 x7 x8 x9 256 (by decide) 128 (by decide) (by decide) (head_fit 128 (by decide)) x).symm, ?_⟩
  refine ⟨fun x => (q_piece x0 x3 x4 x5 x6 x7 x8 x9 256 (by decide) 0 (by decide) (by decide) (head_fit 0 (by decide)) x).symm, ?_⟩
  refine ⟨fun x => (q_piece x0 x3 x4 x5 x6 x7 x8 x9 0 (by decide) 384 (by decide) (by decide) (head_fit 384 (by decide)) x).symm, ?_⟩
  refine ⟨fun x => (q_piece x0 x3 x4 x5 x6 x7 x8 x9 0 (by decide) 256 (by decide) (by decide) (head_fit 256 (by decide)) x).symm, ?_⟩
  refine ⟨fun x => (q_piece x0 x3 x4 x5 x6 x7 x8 x9 0 (by decide) 128 (by decide) (by decide) (head_fit 128 (by decide)) x).symm, ?_⟩
  refine ⟨fun x => (q_piece x0 x3 x4 x5 x6 x7 x8 x9 0 (by decide) 0 (by decide) (by decide) (head_fit 0 (by decide)) x).symm, ?_⟩
  exact fun x hx => absurd hx List.not_mem_nil

end cases
end Cert.InKernel
end
-- ==== Proof.InOutB.lean ====
module

public import proofs.«01_k».proof.Proof.InChains

@[expose] public section

set_option maxRecDepth 16384

noncomputable section

/-! # What the kernel's body leaves -/

namespace Cert.InKernel

open Cert.Kernel3Ideal Cert.Kernel3Ideal.Gen Cert.Ffn Cert.Inp Idealize.ShloMosaic Idealize.ShloMosaic.TcCoe

section cases
variable (c : Dev nD) (i : grid0.Coords) (a0 : Memref sig .tc .vmem S1x1024x1024 .f32) (h0 : a0.IsWhole) (a1 : Memref sig .tc .vmem S1x16x1024 .f32) (h1 : a1.IsWhole) (a2 : Memref sig .tc .vmem S1x16x1024 .f32) (h2 : a2.IsWhole)
  (a3 : Memref sig .tc .vmem S1x6x1024 .f32) (h3 : a3.IsWhole) (a4 : Memref sig .tc .vmem S1x1024 .f32) (h4 : a4.IsWhole) (a5 : Memref sig .tc .vmem S1024x3584 .bf16) (h5 : a5.IsWhole)
  (a6 : Memref sig .tc .vmem S1024x128 .f32) (h6 : a6.IsWhole) (a7 : Memref sig .tc .vmem S1024x128 .f32) (h7 : a7.IsWhole) (a8 : Memref sig .tc .vmem S1024x128 .f32) (h8 : a8.IsWhole)
  (a9 : Memref sig .tc .vmem S1024x128 .f32) (h9 : a9.IsWhole) (a10 : Memref sig .tc .vmem S3x1536 .f32) (h10 : a10.IsWhole) (a11 : Memref sig .tc .vmem S1x1536 .f32) (h11 : a11.IsWhole)
  (a12 : Memref sig .tc .vmem S1x1024x2048 .bf16) (h12 : a12.IsWhole) (a13 : Memref sig .tc .vmem S1x1024x512 .bf16) (h13 : a13.IsWhole) (a14 : Memref sig .tc .vmem S1x1024x512 .bf16) (h14 : a14.IsWhole)
  (x0 : Fl S1x1024x1024) (x1 x2 : Fl S1x16x1024) (x3 : Fl S1x6x1024) (x4 : Fl S1x1024) (x5 : Bf S1024x3584)
  (x6 x7 x8 x9 : Fl S1024x128) (x10 : Fl S3x1536) (x11 : Fl S1x1536)

set_option maxHeartbeats 4000000 in
/-- The body leaves the tile's part for the convolution branch. -/
theorem out_13 : out0_A_13 c i a0 h0 a1 h1 a2 h2 a3 h3 a4 h4 a5 h5 a6 h6 a7 h7 a8 h8 a9 h9 a10 h10 a11 h11 a12 h12 a13 h13 a14 h14 x0 x1 x2 x3 x4 x5 x6 x7 x8 x9 x10 x11
    = blockB (BitVec.ofNat 32 (i 1).val) x0 x1 x2 x3 x4 x5 x10 x11 := by
  funext y
  unfold out0_A_13
  refine View.read_writes_apply_of_pieces _ _ (blockB (BitVec.ofNat 32 (i 1).val) x0 x1 x2 x3 x4 x5 x10 x11) _ ?_ y (cover0_A_13 c i a0 h0 a1 h1 a2 h2 a3 h3 a4 h4 a5 h5 a6 h6 a7 h7 a8 h8 a9 h9 a10 h10 a11 h11 a12 h12 a13 h13 a14 h14 x0 x1 x2 x3 x4 x5 x6 x7 x8 x9 x10 x11 y)
  unfold kernelRun0_A
  dsimp only
  sl_unfold_words
  simp only [View.readAt_eq_ld, h0.read_unread, h1.read_unread, h2.read_unread, h3.read_unread, h4.read_unread, h5.read_unread, h6.read_unread, h7.read_unread, h8.read_unread, h9.read_unread, h10.read_unread, h11.read_unread, View.ld_unit_zero (S := S1x1024) hz2, View.ld_unit_zero (S := S1x16x1024) hz3]
  simp only [group0, group1, group2, group3, first_eq, last_eq, conv0, conv1, conv2, conv3, conv4, conv5]
  simp only [List.forall_mem_cons]
  refine ⟨fun x => (b_piece (BitVec.ofNat 32 (i 1).val) x0 x1 x2 x3 x4 x5 x10 x11 256 (by decide) x).symm, ?_⟩
  refine ⟨fun x => (b_piece (BitVec.ofNat 32 (i 1).val) x0 x1 x2 x3 x4 x5 x10 x11 0 (by decide) x).symm, ?_⟩
  exact fun x hx => absurd hx List.not_mem_nil

end cases
end Cert.InKernel
end
-- ==== Proof.InOutC.lean ====
module

public import proofs.«01_k».proof.Proof.InChains

@[expose] public section

set_option maxRecDepth 16384

noncomputable section

/-! # What the kernel's body leaves -/

namespace Cert.InKernel

open Cert.Kernel3Ideal Cert.Kernel3Ideal.Gen Cert.Ffn Cert.Inp Idealize.ShloMosaic Idealize.ShloMosaic.TcCoe

section cases
variable (c : Dev nD) (i : grid0.Coords) (a0 : Memref sig .tc .vmem S1x1024x1024 .f32) (h0 : a0.IsWhole) (a1 : Memref sig .tc .vmem S1x16x1024 .f32) (h1 : a1.IsWhole) (a2 : Memref sig .tc .vmem S1x16x1024 .f32) (h2 : a2.IsWhole)
  (a3 : Memref sig .tc .vmem S1x6x1024 .f32) (h3 : a3.IsWhole) (a4 : Memref sig .tc .vmem S1x1024 .f32) (h4 : a4.IsWhole) (a5 : Memref sig .tc .vmem S1024x3584 .bf16) (h5 : a5.IsWhole)
  (a6 : Memref sig .tc .vmem S1024x128 .f32) (h6 : a6.IsWhole) (a7 : Memref sig .tc .vmem S1024x128 .f32) (h7 : a7.IsWhole) (a8 : Memref sig .tc .vmem S1024x128 .f32) (h8 : a8.IsWhole)
  (a9 : Memref sig .tc .vmem S1024x128 .f32) (h9 : a9.IsWhole) (a10 : Memref sig .tc .vmem S3x1536 .f32) (h10 : a10.IsWhole) (a11 : Memref sig .tc .vmem S1x1536 .f32) (h11 : a11.IsWhole)
  (a12 : Memref sig .tc .vmem S1x1024x2048 .bf16) (h12 : a12.IsWhole) (a13 : Memref sig .tc .vmem S1x1024x512 .bf16) (h13 : a13.IsWhole) (a14 : Memref sig .tc .vmem S1x1024x512 .bf16) (h14 : a14.IsWhole)
  (x0 : Fl S1x1024x1024) (x1 x2 : Fl S1x16x1024) (x3 : Fl S1x6x1024) (x4 : Fl S1x1024) (x5 : Bf S1024x3584)
  (x6 x7 x8 x9 : Fl S1024x128) (x10 : Fl S3x1536) (x11 : Fl S1x1536)

set_option maxHeartbeats 4000000 in
/-- The body leaves the tile's part for the convolution branch. -/
theorem out_14 : out0_A_14 c i a0 h0 a1 h1 a2 h2 a3 h3 a4 h4 a5 h5 a6 h6 a7 h7 a8 h8 a9 h9 a10 h10 a11 h11 a12 h12 a13 h13 a14 h14 x0 x1 x2 x3 x4 x5 x6 x7 x8 x9 x10 x11
    = blockC (BitVec.ofNat 32 (i 1).val) x0 x1 x2 x3 x4 x5 x10 x11 := by
  funext y
  unfold out0_A_14
  refine View.read_writes_apply_of_pieces _ _ (blockC (BitVec.ofNat 32 (i 1).val) x0 x1 x2 x3 x4 x5 x10 x11) _ ?_ y (cover0_A_14 c i a0 h0 a1 h1 a2 h2 a3 h3 a4 h4 a5 h5 a6 h6 a7 h7 a8 h8 a9 h9 a10 h10 a11 h11 a12 h12 a13 h13 a14 h14 x0 x1 x2 x3 x4 x5 x6 x7 x8 x9 x10 x11 y)
  unfold kernelRun0_A
  dsimp only
  sl_unfold_words
  simp only [View.readAt_eq_ld, h0.read_unread, h1.read_unread, h2.read_unread, h3.read_unread, h4.read_unread, h5.read_unread, h6.read_unread, h7.read_unread, h8.read_unread, h9.read_unread, h10.read_unread, h11.read_unread, View.ld_unit_zero (S := S1x1024) hz2, View.ld_unit_zero (S := S1x16x1024) hz3]
  simp only [group0, group1, group2, group3, first_eq, last_eq, conv0, conv1, conv2, conv3, conv4, conv5]
  simp only [List.forall_mem_cons]
  refine ⟨fun x => (c_piece (BitVec.ofNat 32 (i 1).val) x0 x1 x2 x3 x4 x5 x10 x11 256 (by decide) x).symm, ?_⟩
  refine ⟨fun x => (c_piece (BitVec.ofNat 32 (i 1).val) x0 x1 x2 x3 x4 x5 x10 x11 0 (by decide) x).symm, ?_⟩
  exact fun x hx => absurd hx List.not_mem_nil

end cases
end Cert.InKernel
end
-- ==== Proof.InRef.lean ====
module

public import proofs.«01_k».proof.Proof.Gen.Reference3Ideal.Run
public import proofs.«01_k».proof.Proof.InSpec

@[expose] public section

set_option maxRecDepth 16384

noncomputable section

/-! # The reference's input projection, read row by row -/

namespace Cert.InRef

open Cert.Reference3Ideal Cert.Reference3Ideal.Gen Cert.Reference3Ideal.Value Cert.Ffn Cert.Inp Idealize.ShloMosaic Idealize.ShloMosaic.TcCoe

/-- An array of the program, of half-precision and of single-precision numbers. -/
abbrev Bf (S : Shape) := FVec Ideal S .bf16
@[inherit_doc Bf] abbrev Fl (S : Shape) := FVec Ideal S .f32

/-- The input normalised, scaled and shifted by the modulation. -/
def rH (a0 : Fl S8x4096x1024) (a1 : Fl S8x6x1024) (a2 : Fl S1x1024) : Fl S8x4096x1024 :=
  addf (mulf (mulf (mulf a0 (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf a0 a0) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ a2 shapeCasts_S1x1024_S1024)))) (broadcastInDim S8x4096x1024 ![0, 1, 2] bcast_S8x1x1024_S8x4096x1024_0_1_2 (addf (broadcastInDim S8x1x1024 ![] bcast_S_S8x1x1024 (constant S_ .f32 0x3F800000#32)) (shapeCast _ (extractStridedSlice S8x1x1x1024 ![0, 1, 0, 0] (broadcastInDim S8x6x1x1024 ![0, 1, 3] bcast_S8x6x1024_S8x6x1x1024_0_1_3 a1) slices_S8x6x1x1024_S8x1x1x1024_0_1_0_0) shapeCasts_S8x1x1x1024_S8x1x1024)))) (broadcastInDim S8x4096x1024 ![0, 1, 2] bcast_S8x1x1024_S8x4096x1024_0_1_2 (shapeCast _ (extractStridedSlice S8x1x1x1024 ![0, 0, 0, 0] (broadcastInDim S8x6x1x1024 ![0, 1, 3] bcast_S8x6x1024_S8x6x1x1024_0_1_3 a1) slices_S8x6x1x1024_S8x1x1x1024_0_0_0_0) shapeCasts_S8x1x1x1024_S8x1x1024))

/-- The projection of the normalised rows. -/
def rP (h : Fl S8x4096x1024) (a3 : Bf S1024x3584) : Fl S8x4096x3584 :=
  Host.dotGeneral dot_S8x4096x1024_S1024x3584_S8x4096x3584_2_0_01_1_n_n none h (extf .f32 a3 bitsLt_bf16_f32)

/-- A slice of the projection, by heads. -/
def heads (s : Fl S8x4096x512) : Fl S8x4x4096x128 :=
  transpose S8x4x4096x128 [0, 2, 1, 3] (shapeCast _ s shapeCasts_S8x4096x512_S8x4096x4x128) transposes_S8x4096x4x128_S8x4x4096x128_0_2_1_3

/-- The heads side by side again. -/
def flat (y : Fl S8x4x4096x128) : Fl S8x4096x512 :=
  shapeCast _ (transpose S8x4096x4x128 [0, 2, 1, 3] y transposes_S8x4x4096x128_S8x4096x4x128_0_2_1_3) shapeCasts_S8x4096x4x128_S8x4096x512

/-- The rotation of each head by the position's angles. -/
def rope (x : Fl S8x4x4096x128) (a4 a5 : Fl S4096x64) : Fl S8x4x4096x128 :=
  concatenate S8x4x4096x128 3 [⟨S8x4x4096x64, (subf (mulf (extractStridedSlice S8x4x4096x64 ![0, 0, 0, 0] x slices_S8x4x4096x128_S8x4x4096x64_0_0_0_0) (broadcastInDim S8x4x4096x64 ![0, 1, 2, 3] bcast_S1x1x4096x64_S8x4x4096x64_0_1_2_3 (broadcastInDim S1x1x4096x64 ![2, 3] bcast_S4096x64_S1x1x4096x64_2_3 a4))) (mulf (extractStridedSlice S8x4x4096x64 ![0, 0, 0, 64] x slices_S8x4x4096x128_S8x4x4096x64_0_0_0_64) (broadcastInDim S8x4x4096x64 ![0, 1, 2, 3] bcast_S1x1x4096x64_S8x4x4096x64_0_1_2_3 (broadcastInDim S1x1x4096x64 ![2, 3] bcast_S4096x64_S1x1x4096x64_2_3 a5))))⟩, ⟨S8x4x4096x64, (addf (mulf (extractStridedSlice S8x4x4096x64 ![0, 0, 0, 0] x slices_S8x4x4096x128_S8x4x4096x64_0_0_0_0) (broadcastInDim S8x4x4096x64 ![0, 1, 2, 3] bcast_S1x1x4096x64_S8x4x4096x64_0_1_2_3 (broadcastInDim S1x1x4096x64 ![2, 3] bcast_S4096x64_S1x1x4096x64_2_3 a5))) (mulf (extractStridedSlice S8x4x4096x64 ![0, 0, 0, 64] x slices_S8x4x4096x128_S8x4x4096x64_0_0_0_64) (broadcastInDim S8x4x4096x64 ![0, 1, 2, 3] bcast_S1x1x4096x64_S8x4x4096x64_0_1_2_3 (broadcastInDim S1x1x4096x64 ![2, 3] bcast_S4096x64_S1x1x4096x64_2_3 a4))))⟩] concatenates_S8x4x4096x64_S8x4x4096x64_S8x4x4096x128_d3

/-- The queries, rotated. -/
def rQ (p : Fl S8x4096x3584) (a4 a5 : Fl S4096x64) : Fl S8x4096x512 :=
  flat (rope (heads (extractStridedSlice S8x4096x512 ![0, 0, 0] p slices_S8x4096x3584_S8x4096x512_0_0_0)) a4 a5)

/-- The keys, rotated and scaled. -/
def rK (p : Fl S8x4096x3584) (a4 a5 : Fl S4096x64) : Fl S8x4096x512 :=
  flat (mulf (rope (heads (extractStridedSlice S8x4096x512 ![0, 0, 512] p slices_S8x4096x3584_S8x4096x512_0_0_512)) a4 a5) (broadcastInDim S8x4x4096x128 ![] bcast_S_S8x4x4096x128 (constant S_ .f32 0x3DB504F3#32)))

/-- The gate. -/
def rG (p : Fl S8x4096x3584) : Fl S8x4096x512 :=
  mulf (extractStridedSlice S8x4096x512 ![0, 0, 1536] p slices_S8x4096x3584_S8x4096x512_0_0_1536) (Host.divf (broadcastInDim S8x4096x512 ![] bcast_S_S8x4096x512 (constant S_ .f32 0x3F800000#32)) (addf (broadcastInDim S8x4096x512 ![] bcast_S_S8x4096x512 (constant S_ .f32 0x3F800000#32)) (Host.exp (Host.negf (extractStridedSlice S8x4096x512 ![0, 0, 1536] p slices_S8x4096x3584_S8x4096x512_0_0_1536)))))

/-- Queries, keys, values and gates side by side. -/
def rQkvg (q k g : Fl S8x4096x512) (p : Fl S8x4096x3584) : Bf S8x4096x2048 :=
  truncf .bf16 (concatenate S8x4096x2048 2 [⟨S8x4096x512, q⟩, ⟨S8x4096x512, k⟩, ⟨S8x4096x512, extractStridedSlice S8x4096x512 ![0, 0, 1024] p slices_S8x4096x3584_S8x4096x512_0_0_1024⟩, ⟨S8x4096x512, g⟩] concatenates_S8x4096x512_S8x4096x512_S8x4096x512_S8x4096x512_S8x4096x2048_d2) bitsLt_bf16_f32

/-- The columns of the convolution, with a row of zeros before and after. -/
def rPad (p : Fl S8x4096x3584) : Fl S8x4098x1536 :=
  pad S8x4098x1536 ![0, 1, 0] ![0, 1, 0] ![0, 0, 0] (extractStridedSlice S8x4096x1536 ![0, 0, 2048] p slices_S8x4096x3584_S8x4096x1536_0_0_2048) (sitofp .f32 (constantI S_ 32 0#32)) pads_S8x4096x1536_S8x4098x1536_000_110_000 h_S_

/-- The convolution of three rows. -/
def rConv (z : Fl S8x4098x1536) (a6 : Fl S1x3x1536) (a7 : Fl S1x1536) : Fl S8x4096x1536 :=
  addf (addf (addf (mulf (extractStridedSlice S8x4096x1536 ![0, 0, 0] z slices_S8x4098x1536_S8x4096x1536_0_0_0) (broadcastInDim S8x4096x1536 ![0, 1, 2] bcast_S1x1x1536_S8x4096x1536_0_1_2 (broadcastInDim S1x1x1536 ![2] bcast_S1536_S1x1x1536_2 (shapeCast _ (extractStridedSlice S1x1536 ![0, 0] (shapeCast _ a6 shapeCasts_S1x3x1536_S3x1536) slices_S3x1536_S1x1536_0_0) shapeCasts_S1x1536_S1536)))) (mulf (extractStridedSlice S8x4096x1536 ![0, 1, 0] z slices_S8x4098x1536_S8x4096x1536_0_1_0) (broadcastInDim S8x4096x1536 ![0, 1, 2] bcast_S1x1x1536_S8x4096x1536_0_1_2 (broadcastInDim S1x1x1536 ![2] bcast_S1536_S1x1x1536_2 (shapeCast _ (extractStridedSlice S1x1536 ![1, 0] (shapeCast _ a6 shapeCasts_S1x3x1536_S3x1536) slices_S3x1536_S1x1536_1_0) shapeCasts_S1x1536_S1536))))) (mulf (extractStridedSlice S8x4096x1536 ![0, 2, 0] z slices_S8x4098x1536_S8x4096x1536_0_2_0) (broadcastInDim S8x4096x1536 ![0, 1, 2] bcast_S1x1x1536_S8x4096x1536_0_1_2 (broadcastInDim S1x1x1536 ![2] bcast_S1536_S1x1x1536_2 (shapeCast _ (extractStridedSlice S1x1536 ![2, 0] (shapeCast _ a6 shapeCasts_S1x3x1536_S3x1536) slices_S3x1536_S1x1536_2_0) shapeCasts_S1x1536_S1536))))) (broadcastInDim S8x4096x1536 ![0, 1, 2] bcast_S1x1x1536_S8x4096x1536_0_1_2 (broadcastInDim S1x1x1536 ![2] bcast_S1536_S1x1x1536_2 (shapeCast _ a7 shapeCasts_S1x1536_S1536)))

/-- The first third of the convolution. -/
def rX (y : Fl S8x4096x1536) : Bf S8x4096x512 :=
  truncf .bf16 (extractStridedSlice S8x4096x512 ![0, 0, 0] y slices_S8x4096x1536_S8x4096x512_0_0_0) bitsLt_bf16_f32

/-- The product of the other two thirds. -/
def rU (y : Fl S8x4096x1536) : Bf S8x4096x512 :=
  truncf .bf16 (mulf (extractStridedSlice S8x4096x512 ![0, 0, 1024] y slices_S8x4096x1536_S8x4096x512_0_0_1024) (extractStridedSlice S8x4096x512 ![0, 0, 512] y slices_S8x4096x1536_S8x4096x512_0_0_512)) bitsLt_bf16_f32

/-- The normalised input at an index. -/
theorem rH_at (a0 : Fl S8x4096x1024) (a1 : Fl S8x6x1024) (a2 : Fl S1x1024) (b : Fin 8) (r : Fin 4096) (k : Fin 1024) :
    rH a0 a1 a2 (ix3 b r k) = H (fun j => a0 (ix3 b r j)) (fun j => a2 (ix2 0 j)) (fun j => a1 (ix3 b 1 j)) (fun j => a1 (ix3 b 0 j)) k := by
  pointwise [rH]
  rfl

/-- The projection at an index. -/
theorem rP_at (h : Fl S8x4096x1024) (a3 : Bf S1024x3584) (b : Fin 8) (r : Fin 4096) (j : Fin 3584) :
    rP h a3 (ix3 b r j) = P (fun x => h (ix3 b r x)) (fun x j => a3 (ix2 x j)) j := by
  pointwise [rP]
  rfl

/-- A head's entry is the slice's. -/
theorem heads_at (s : Fl S8x4096x512) (b : Fin 8) (h : Fin 4) (r : Fin 4096) (d : Fin 128) :
    heads s (ix4 b h r d) = s (ix3 b r ⟨h.val * 128 + d.val, by omega⟩) := by
  pointwise [heads]

/-- An entry of the heads side by side is a head's. -/
theorem flat_at (y : Fl S8x4x4096x128) (b : Fin 8) (r : Fin 4096) (c : Fin 512) :
    flat y (ix3 b r c) = y (ix4 b ⟨c.val / 128, by omega⟩ r ⟨c.val % 128, by omega⟩) := by
  pointwise [flat]

/-- The rotation at an index. -/
theorem rope_at (x : Fl S8x4x4096x128) (a4 a5 : Fl S4096x64) (b : Fin 8) (h : Fin 4) (r : Fin 4096) (d : Fin 128) :
    rope x a4 a5 (ix4 b h r d) = if hd : d.val < 64
      then x (ix4 b h r d) * a4 (ix2 r (half d)) - x (ix4 b h r ⟨64 + d.val, by omega⟩) * a5 (ix2 r (half d))
      else x (ix4 b h r ⟨d.val - 64, by omega⟩) * a5 (ix2 r (half d)) + x (ix4 b h r d) * a4 (ix2 r (half d)) := by
  pointwise [rope]
  have e : half d = ⟨d.val % 64, Nat.mod_lt _ (by decide)⟩ := rfl
  by_cases hd : d.val < 64
  · simp only [dif_pos hd]
    simp only [e, show (⟨d.val, hd⟩ : Fin 64) = ⟨d.val % 64, Nat.mod_lt _ (by decide)⟩ from Fin.ext (by simp only; omega)]
  · simp only [dif_neg hd]
    have e1 : (⟨d.val - 64, by omega⟩ : Fin 64) = half d := Fin.ext (by simp only [e]; omega)
    have e2 : (⟨64 + (d.val - 64), by omega⟩ : Fin 128) = d := Fin.ext (by simp only; omega)
    exact congrArg₂ (fun (y z : EReal) => y + z) (congrArg (fun j => x (ix4 b h r ⟨d.val - 64, by omega⟩) * a5 (ix2 r j)) e1)
      (congrArg₂ (fun i j => x (ix4 b h r i) * a4 (ix2 r j)) e2 e1)

/-- The gate at an index. -/
theorem rG_at (p : Fl S8x4096x3584) (b : Fin 8) (r : Fin 4096) (c : Fin 512) :
    rG p (ix3 b r c) = Silu (p (ix3 b r ⟨1536 + c.val, by omega⟩)) := by
  pointwise [rG]
  rfl

/-- The four parts at an index. -/
theorem rQkvg_at (q k g : Fl S8x4096x512) (p : Fl S8x4096x3584) (b : Fin 8) (r : Fin 4096) (c : Fin 2048) :
    rQkvg q k g p (ix3 b r c) = if h : c.val < 512 then q (ix3 b r ⟨c.val, h⟩)
      else if h : c.val < 1024 then k (ix3 b r ⟨c.val - 512, by omega⟩)
      else if c.val < 1536 then p (ix3 b r ⟨c.val, by omega⟩)
      else g (ix3 b r ⟨c.val - 1536, by omega⟩) := by
  pointwise [rQkvg]
  by_cases h1 : c.val < 512
  · simp only [dif_pos h1]
  · by_cases h2 : c.val < 1024
    · simp only [dif_neg h1, dif_pos h2, dif_pos (show c.val - 512 < 512 by omega)]
    · by_cases h3 : c.val < 1536
      · simp only [dif_neg h1, dif_neg h2, if_pos h3, dif_neg (show ¬c.val - 512 < 512 by omega), dif_pos (show c.val - 512 - 512 < 512 by omega)]
        exact congrArg (fun j => p (ix3 b r j)) (Fin.ext (by simp only; omega))
      · simp only [dif_neg h1, dif_neg h2, if_neg h3, dif_neg (show ¬c.val - 512 < 512 by omega), dif_neg (show ¬c.val - 512 - 512 < 512 by omega)]
        exact congrArg (fun j => g (ix3 b r j)) (Fin.ext (by simp only; omega))

/-- A padded entry. -/
theorem rPad_at (p : Fl S8x4096x3584) (b : Fin 8) (r : Fin 4098) (j : Fin 1536) :
    rPad p (ix3 b r j) = if h : 1 ≤ r.val ∧ r.val < 4097 then p (ix3 b ⟨r.val - 1, by omega⟩ ⟨2048 + j.val, by omega⟩) else 0 := by
  pointwise [rPad]
  by_cases h : 1 ≤ r.val ∧ r.val < 4097
  · rw [dif_pos h, dif_pos ⟨h.1, by omega⟩]
  · rw [dif_neg h, dif_neg (fun h' => h ⟨h'.1, by omega⟩)]
    simp [FloatOps.sitofp]

/-- The convolution at an index. -/
theorem rConv_at (z : Fl S8x4098x1536) (a6 : Fl S1x3x1536) (a7 : Fl S1x1536) (b : Fin 8) (r : Fin 4096) (j : Fin 1536) :
    rConv z a6 a7 (ix3 b r j) = z (ix3 b ⟨r.val, by omega⟩ j) * a6 (ix3 0 0 j) + z (ix3 b ⟨1 + r.val, by omega⟩ j) * a6 (ix3 0 1 j)
      + z (ix3 b ⟨2 + r.val, by omega⟩ j) * a6 (ix3 0 2 j) + a7 (ix2 0 j) := by
  pointwise [rConv]

/-- The first third at an index. -/
theorem rX_at (y : Fl S8x4096x1536) (b : Fin 8) (r : Fin 4096) (j : Fin 512) :
    rX y (ix3 b r j) = y (ix3 b r ⟨j.val, by omega⟩) := by
  pointwise [rX]

/-- The product at an index. -/
theorem rU_at (y : Fl S8x4096x1536) (b : Fin 8) (r : Fin 4096) (j : Fin 512) :
    rU y (ix3 b r j) = y (ix3 b r ⟨1024 + j.val, by omega⟩) * y (ix3 b r ⟨512 + j.val, by omega⟩) := by
  pointwise [rU]

/-- A row of the rotation, over the heads side by side. -/
theorem rope_row (p : Fl S8x4096x3584) (a4 a5 : Fl S4096x64) (s : Fl S8x4096x512) (o : Nat) (ho : o = 0 ∨ o = 512)
    (b : Fin 8) (r : Fin 4096) (hs : ∀ c : Fin 512, s (ix3 b r c) = p (ix3 b r ⟨o + c.val, by omega⟩)) (c : Fin 512) :
    rope (heads s) a4 a5 (ix4 b ⟨c.val / 128, by omega⟩ r ⟨c.val % 128, by omega⟩)
      = Rope (fun j => p (ix3 b r j)) (fun j => a4 (ix2 r j)) (fun j => a5 (ix2 r j)) ⟨o + c.val, by omega⟩ := by
  have hl : lane ⟨o + c.val, by omega⟩ = ⟨c.val % 128, by omega⟩ := Fin.ext (by simp only [lane]; omega)
  have ht : (turn ⟨o + c.val, by omega⟩).val = (o + c.val) / 128 * 128 + ((o + c.val) % 128 + 64) % 128 := rfl
  rw [rope_at]
  simp only [heads_at, hs]
  unfold Rope
  rw [hl]
  have e0 : (⟨o + (c.val / 128 * 128 + c.val % 128), by omega⟩ : Fin 3584) = ⟨o + c.val, by omega⟩ := Fin.ext (by simp only; omega)
  by_cases hd : c.val % 128 < 64
  · have e1 : (⟨o + (c.val / 128 * 128 + (64 + c.val % 128)), by omega⟩ : Fin 3584) = turn ⟨o + c.val, by omega⟩ :=
      Fin.ext (by rw [ht]; simp only; omega)
    simp only [dif_pos hd, if_pos hd, e0, e1]
  · have e1 : (⟨o + (c.val / 128 * 128 + (c.val % 128 - 64)), by omega⟩ : Fin 3584) = turn ⟨o + c.val, by omega⟩ :=
      Fin.ext (by rw [ht]; simp only; omega)
    simp only [dif_neg hd, if_neg hd, e0, e1]

/-- The rotated queries at an index. -/
theorem rQ_at (p : Fl S8x4096x3584) (a4 a5 : Fl S4096x64) (b : Fin 8) (r : Fin 4096) (c : Fin 512) :
    rQ p a4 a5 (ix3 b r c) = Rope (fun j => p (ix3 b r j)) (fun j => a4 (ix2 r j)) (fun j => a5 (ix2 r j)) ⟨0 + c.val, by omega⟩ := by
  unfold rQ
  rw [flat_at]
  refine rope_row p a4 a5 _ 0 (Or.inl rfl) b r (fun c => ?_) c
  pointwise []

/-- The rotated and scaled keys at an index. -/
theorem rK_at (p : Fl S8x4096x3584) (a4 a5 : Fl S4096x64) (b : Fin 8) (r : Fin 4096) (c : Fin 512) :
    rK p a4 a5 (ix3 b r c) = Rope (fun j => p (ix3 b r j)) (fun j => a4 (ix2 r j)) (fun j => a5 (ix2 r j)) ⟨512 + c.val, by omega⟩ * ks := by
  unfold rK
  rw [flat_at]
  refine congrArg (· * ks) (rope_row p a4 a5 _ 512 (Or.inr rfl) b r (fun c => ?_) c)
  pointwise []

/-- The projection's rows, as functions of a column. -/
def PR (a0 : Fl S8x4096x1024) (a1 : Fl S8x6x1024) (a2 : Fl S1x1024) (a3 : Bf S1024x3584) (b : Fin 8) (r : Fin 4096) : Fin 3584 → EReal :=
  P (H (fun j => a0 (ix3 b r j)) (fun j => a2 (ix2 0 j)) (fun j => a1 (ix3 b 1 j)) (fun j => a1 (ix3 b 0 j))) (fun x j => a3 (ix2 x j))

/-- The stages' projection has these rows. -/
theorem rows_at (a0 : Fl S8x4096x1024) (a1 : Fl S8x6x1024) (a2 : Fl S1x1024) (a3 : Bf S1024x3584) (b : Fin 8) (r : Fin 4096) (j : Fin 3584) :
    rP (rH a0 a1 a2) a3 (ix3 b r j) = PR a0 a1 a2 a3 b r j := by
  simp only [rP_at, rH_at]
  rfl

/-- Row `n - 1`, for `n` from 1 to 4096, and a row of zeros outside. -/
def At (p : Fin 4096 → Fin 3584 → EReal) (n : Nat) : Fin 3584 → EReal := fun j => if h : 1 ≤ n ∧ n < 4097 then p ⟨n - 1, by omega⟩ j else 0

/-- Column `j` of the convolution at row `r`. -/
def CV (p : Fin 4096 → Fin 3584 → EReal) (a6 : Fl S1x3x1536) (a7 : Fl S1x1536) (r : Fin 4096) (j : Fin 1536) : EReal :=
  Conv (At p r.val) (At p (1 + r.val)) (At p (2 + r.val)) (fun i j => a6 (ix3 0 i j)) (fun j => a7 (ix2 0 j)) j

/-- The result for the retention. -/
def GA (a0 : Fl S8x4096x1024) (a1 : Fl S8x6x1024) (a2 : Fl S1x1024) (a3 : Bf S1024x3584) (a4 a5 : Fl S4096x64) : Bf S8x4096x2048 := fun i =>
  Qkvg (PR a0 a1 a2 a3 (i 0) (i 1)) (fun j => a4 (ix2 (i 1) j)) (fun j => a5 (ix2 (i 1) j)) (i 2)

/-- The first third of the convolution. -/
def GB (a0 : Fl S8x4096x1024) (a1 : Fl S8x6x1024) (a2 : Fl S1x1024) (a3 : Bf S1024x3584) (a6 : Fl S1x3x1536) (a7 : Fl S1x1536) : Bf S8x4096x512 := fun i =>
  CV (PR a0 a1 a2 a3 (i 0)) a6 a7 (i 1) ⟨(i 2).val, Nat.lt_of_lt_of_le (i 2).isLt (by decide)⟩

/-- The product of the other two thirds. -/
def GC (a0 : Fl S8x4096x1024) (a1 : Fl S8x6x1024) (a2 : Fl S1x1024) (a3 : Bf S1024x3584) (a6 : Fl S1x3x1536) (a7 : Fl S1x1536) : Bf S8x4096x512 := fun i =>
  CV (PR a0 a1 a2 a3 (i 0)) a6 a7 (i 1) ⟨1024 + (i 2).val, Nat.add_lt_add_left (show (i 2).val < 512 from (i 2).isLt) 1024⟩
    * CV (PR a0 a1 a2 a3 (i 0)) a6 a7 (i 1) ⟨512 + (i 2).val, Nat.lt_trans (Nat.add_lt_add_left (show (i 2).val < 512 from (i 2).isLt) 512) (by decide)⟩

/-- The convolution of the stages. -/
theorem conv_at (a0 : Fl S8x4096x1024) (a1 : Fl S8x6x1024) (a2 : Fl S1x1024) (a3 : Bf S1024x3584) (a6 : Fl S1x3x1536) (a7 : Fl S1x1536)
    (b : Fin 8) (r : Fin 4096) (j : Fin 1536) :
    rConv (rPad (rP (rH a0 a1 a2) a3)) a6 a7 (ix3 b r j) = CV (PR a0 a1 a2 a3 b) a6 a7 r j := by
  rw [rConv_at]
  simp only [rPad_at, rows_at]
  rfl

/-- Queries, keys, values and gates of the stages. -/
theorem qkvg_at (a0 : Fl S8x4096x1024) (a1 : Fl S8x6x1024) (a2 : Fl S1x1024) (a3 : Bf S1024x3584) (a4 a5 : Fl S4096x64)
    (b : Fin 8) (r : Fin 4096) (c : Fin 2048) :
    rQkvg (rQ (rP (rH a0 a1 a2) a3) a4 a5) (rK (rP (rH a0 a1 a2) a3) a4 a5) (rG (rP (rH a0 a1 a2) a3)) (rP (rH a0 a1 a2) a3) (ix3 b r c)
      = GA a0 a1 a2 a3 a4 a5 (ix3 b r c) := by
  rw [rQkvg_at]
  show _ = Qkvg (PR a0 a1 a2 a3 b r) (fun j => a4 (ix2 r j)) (fun j => a5 (ix2 r j)) c
  unfold Qkvg
  simp only [rQ_at, rK_at, rG_at, rows_at]
  by_cases h1 : c.val < 512
  · simp only [dif_pos h1]
    exact congrArg (Rope (PR a0 a1 a2 a3 b r) (fun j => a4 (ix2 r j)) (fun j => a5 (ix2 r j))) (Fin.ext (by simp only; omega))
  · by_cases h2 : c.val < 1024
    · simp only [dif_neg h1, dif_pos h2]
      exact congrArg (Rope (PR a0 a1 a2 a3 b r) (fun j => a4 (ix2 r j)) (fun j => a5 (ix2 r j)) · * ks) (Fin.ext (by simp only; omega))
    · by_cases h3 : c.val < 1536
      · simp only [dif_neg h1, dif_neg h2, if_pos h3]
      · simp only [dif_neg h1, dif_neg h2, if_neg h3]
        exact congrArg (fun j => Silu (PR a0 a1 a2 a3 b r j)) (Fin.ext (by simp only; omega))

/-- An index is its three coordinates. -/
theorem split {n₀ n₁ n₂ : Nat} (i : (⟨3, ![n₀, n₁, n₂]⟩ : Shape).Idx) : i = ix3 (i 0) (i 1) (i 2) := by
  funext a
  match a with
  | ⟨0, _⟩ => rfl
  | ⟨1, _⟩ => rfl
  | ⟨2, _⟩ => rfl

variable (m : (ℓ : Loc nD τ sig) → Buf (Elt Ideal) ℓ) (c : Dev nD)

/-- The reference's first result is the row function of its arguments. -/
theorem resA : res_main_v107 (F := Ideal) m c =
    GA (m (c.tc.loc main_arg0)) (m (c.tc.loc main_arg1)) (m (c.tc.loc main_arg2)) (m (c.tc.loc main_arg3)) (m (c.tc.loc main_arg4)) (m (c.tc.loc main_arg5)) := by
  funext i
  rw [split i]
  exact qkvg_at (m (c.tc.loc main_arg0)) (m (c.tc.loc main_arg1)) (m (c.tc.loc main_arg2)) (m (c.tc.loc main_arg3)) (m (c.tc.loc main_arg4)) (m (c.tc.loc main_arg5)) (i 0) (i 1) (i 2)

/-- The reference's second result is the row function of its arguments. -/
theorem resB : res_main_v108 (F := Ideal) m c =
    GB (m (c.tc.loc main_arg0)) (m (c.tc.loc main_arg1)) (m (c.tc.loc main_arg2)) (m (c.tc.loc main_arg3)) (m (c.tc.loc main_arg6)) (m (c.tc.loc main_arg7)) := by
  funext i
  rw [split i]
  refine (rX_at (rConv (rPad (rP (rH (m (c.tc.loc main_arg0)) (m (c.tc.loc main_arg1)) (m (c.tc.loc main_arg2))) (m (c.tc.loc main_arg3)))) (m (c.tc.loc main_arg6)) (m (c.tc.loc main_arg7))) (i 0) (i 1) (i 2)).trans ?_
  exact conv_at _ _ _ _ _ _ (i 0) (i 1) _

/-- The reference's third result is the row function of its arguments. -/
theorem resC : res_main_v110 (F := Ideal) m c =
    GC (m (c.tc.loc main_arg0)) (m (c.tc.loc main_arg1)) (m (c.tc.loc main_arg2)) (m (c.tc.loc main_arg3)) (m (c.tc.loc main_arg6)) (m (c.tc.loc main_arg7)) := by
  funext i
  rw [split i]
  refine (rU_at (rConv (rPad (rP (rH (m (c.tc.loc main_arg0)) (m (c.tc.loc main_arg1)) (m (c.tc.loc main_arg2))) (m (c.tc.loc main_arg3)))) (m (c.tc.loc main_arg6)) (m (c.tc.loc main_arg7))) (i 0) (i 1) (i 2)).trans ?_
  exact congrArg₂ (fun (y z : EReal) => y * z) (conv_at _ _ _ _ _ _ (i 0) (i 1) _) (conv_at _ _ _ _ _ _ (i 0) (i 1) _)

end Cert.InRef
end
-- ==== Proof.InValue.lean ====
module

public import proofs.«01_k».proof.Proof.InBlocks
public import proofs.«01_k».proof.Proof.InOutA
public import proofs.«01_k».proof.Proof.InOutB
public import proofs.«01_k».proof.Proof.InOutC
public import proofs.«01_k».proof.Proof.InRef
public import proofs.«01_k».proof.Proof.Gen.Kernel3Ideal.Value
public import proofs.«01_k».proof.Defs

@[expose] public section

set_option maxRecDepth 16384

noncomputable section

/-! # The input projection's results as functions of its arguments -/

namespace Cert.InKernel

open Cert.Kernel3Ideal Cert.Kernel3Ideal.Gen Cert.Ffn Cert.Inp Idealize.ShloMosaic Idealize.ShloMosaic.TcCoe Idealize.SL.Sem
open Cert.InRef (PR At CV GA GB GC)
open Idealize.ShloMosaic.Pipeline (Dat)

/-- The mask by the tile's number is a choice by the number. -/
theorem zeroAt_eq (k n : ℕ) (hk : k < 4) (hn : n < 4) (y : EReal) : zeroAt (BitVec.ofNat 32 k) (BitVec.ofNat 32 n) y = if k = n then 0 else y := by
  unfold zeroAt
  interval_cases k <;> interval_cases n <;> rfl

/-- The keys' factor is a nonnegative real number. -/
theorem ks_real : 0 ≤ ks ∧ ks ≠ ⊤ := by
  have e : ks = ((11863283 / 134217728 : ℝ) : EReal) := by
    unfold ks
    simp [Ideal.ofBits, Ideal.ieee, -EReal.coe_mul]
    norm_num
  rw [e]
  exact ⟨by exact_mod_cast (by norm_num : (0 : ℝ) ≤ 11863283 / 134217728), EReal.coe_ne_top _⟩

variable (m : (ℓ : Loc nD τ sig) → Buf (Elt Ideal) ℓ) (c : Dev nD)

/-- The arguments. -/
abbrev A0 : Fh S8x4096x1024 := m ((c : Thread nD τ).loc main_arg0)
@[inherit_doc A0] abbrev A1 : Fh S8x6x1024 := m ((c : Thread nD τ).loc main_arg1)
@[inherit_doc A0] abbrev A2 : Fh S1x1024 := m ((c : Thread nD τ).loc main_arg2)
@[inherit_doc A0] abbrev A3 : FVec Ideal S1024x3584 .bf16 := m ((c : Thread nD τ).loc main_arg3)
@[inherit_doc A0] abbrev A4 : Fh S4096x64 := m ((c : Thread nD τ).loc main_arg4)
@[inherit_doc A0] abbrev A5 : Fh S4096x64 := m ((c : Thread nD τ).loc main_arg5)
@[inherit_doc A0] abbrev A6 : Fh S1x3x1536 := m ((c : Thread nD τ).loc main_arg6)
@[inherit_doc A0] abbrev A7 : Fh S1x1536 := m ((c : Thread nD τ).loc main_arg7)

/-- The projection's rows. -/
abbrev R (b : Fin 8) (r : Fin 4096) : Fin 3584 → EReal := PR (A0 m c) (A1 m c) (A2 m c) (A3 m c) b r

/-- A row of the input, projected with a point's blocks, is the projection's row. -/
theorem row_eq (t : Fin cfg0.N) (x : Fin 1024 → EReal) (l : Fin 4096) (hx : ∀ j, x j = A0 m c (ix3 (bt t) l j)) :
    P (hK (iblk m c 3 t) (iblk m c 4 t) x) (fun x j => (iblk m c 5 t : Bf S1024x3584) (ix2 x j)) = R m c (bt t) l := by
  have e0 : x = fun j => A0 m c (ix3 (bt t) l j) := funext hx
  have e1 : (fun j => (iblk m c 4 t : Fl S1x1024) (ix2 0 j)) = fun j => A2 m c (ix2 0 j) := funext (blk4 m c t)
  have e2 : (fun j => (iblk m c 3 t : Fl S1x6x1024) (ix3 0 1 j)) = fun j => A1 m c (ix3 (bt t) 1 j) := funext (blk3 m c t 1)
  have e3 : (fun j => (iblk m c 3 t : Fl S1x6x1024) (ix3 0 0 j)) = fun j => A1 m c (ix3 (bt t) 0 j) := funext (blk3 m c t 0)
  have e4 : (fun x j => (iblk m c 5 t : Bf S1024x3584) (ix2 x j)) = fun x j => A3 m c (ix2 x j) := funext fun x => funext (blk5 m c t x)
  unfold hK
  rw [e0, e1, e2, e3, e4]
  rfl

/-- The tile's own row. -/
theorem p_eq (t : Fin cfg0.N) (l : Fin 1024) :
    pK (iblk m c 0 t) (iblk m c 3 t) (iblk m c 4 t) (iblk m c 5 t) l = R m c (bt t) (rt t l) :=
  row_eq m c t _ (rt t l) (fun j => blk0 m c t l j)

/-- The rotation of a tile's row with the queries' tables. -/
theorem rope_q (t : Fin cfg0.N) (l : Fin 1024) (n : Fin 1024) :
    Turned (R m c (bt t) (rt t l)) (fun n => (iblk m c 6 t : Fl S1024x128) (ix2 l n)) (fun n => (iblk m c 7 t : Fl S1024x128) (ix2 l n)) n
      = Rope (R m c (bt t) (rt t l)) (fun j => A4 m c (ix2 (rt t l) j)) (fun j => A5 m c (ix2 (rt t l) j)) n := by
  rw [← turned_eq]
  exact congrArg₂ (fun y z => Turned (R m c (bt t) (rt t l)) y z n) (funext fun n => blk6 m c t l n _ rfl) (funext fun n => blk7 m c t l n _ rfl)

/-- The rotation of a tile's row with the keys' tables: the factor comes out. -/
theorem rope_k (t : Fin cfg0.N) (l : Fin 1024) (n : Fin 1024) :
    Turned (R m c (bt t) (rt t l)) (fun n => (iblk m c 8 t : Fl S1024x128) (ix2 l n)) (fun n => (iblk m c 9 t : Fl S1024x128) (ix2 l n)) n
      = Rope (R m c (bt t) (rt t l)) (fun j => A4 m c (ix2 (rt t l) j)) (fun j => A5 m c (ix2 (rt t l) j)) n * ks := by
  rw [← turned_eq, ← turned_mul _ _ _ _ ks ks_real.1 ks_real.2]
  exact congrArg₂ (fun y z => Turned (R m c (bt t) (rt t l)) y z n) (funext fun n => blk8 m c t l n _ rfl) (funext fun n => blk9 m c t l n _ rfl)

/-- The tile's part for the retention is the reference's. -/
theorem a_eq (t : Fin cfg0.N) (l : Fin 1024) (n : Fin 2048) :
    blockA (iblk m c 0 t) (iblk m c 3 t) (iblk m c 4 t) (iblk m c 5 t) (iblk m c 6 t) (iblk m c 7 t) (iblk m c 8 t) (iblk m c 9 t) (ix3 0 l n)
      = GA (A0 m c) (A1 m c) (A2 m c) (A3 m c) (A4 m c) (A5 m c) (ix3 (bt t) (rt t l) n) := by
  show _ = Qkvg (R m c (bt t) (rt t l)) (fun j => A4 m c (ix2 (rt t l) j)) (fun j => A5 m c (ix2 (rt t l) j)) n
  unfold Qkvg
  by_cases h : n.val < 512
  · rw [dif_pos h, blockA_q _ _ _ _ _ _ _ _ l n.val h _ rfl rfl, p_eq, rope_q]
  rw [dif_neg h]
  by_cases h' : n.val < 1024
  · rw [dif_pos h', blockA_k _ _ _ _ _ _ _ _ l n.val h h' _ rfl rfl, p_eq, rope_k]
  rw [dif_neg h']
  by_cases h'' : n.val < 1536
  · rw [if_pos h'', blockA_v _ _ _ _ _ _ _ _ l n.val h' h'' _ rfl rfl, p_eq]
  · rw [if_neg h'', blockA_g _ _ _ _ _ _ _ _ l n.val h'' n.isLt _ rfl rfl, p_eq]

/-- The slab's rows are the projection's, with rows of zeros beyond the sequence's ends. -/
theorem slab_eq (t : Fin cfg0.N) (r : Fin 1056) (h : 15 ≤ r.val) (h' : r.val ≤ 1040) (n : ℕ) (hn : n = t.val % 4 * 1024 + (r.val - 15)) :
    slabK (BitVec.ofNat 32 (grid0.coords t 1).val) (iblk m c 0 t) (iblk m c 1 t) (iblk m c 2 t) (iblk m c 3 t) (iblk m c 4 t) (iblk m c 5 t) r
      = At (R m c (bt t)) n := by
  subst hn
  funext j
  have ht : t.val % 4 < 4 := Nat.mod_lt _ (by decide)
  unfold slabK Slab At
  rw [coord t]
  by_cases h1 : r.val < 16
  · rw [if_pos h1, zeroAt_eq _ 0 ht (by decide)]
    by_cases h2 : t.val % 4 = 0
    · rw [if_pos h2, dif_neg (by omega)]
    · rw [if_neg h2, dif_pos (by omega)]
      refine congrFun (row_eq m c t _ ⟨t.val % 4 * 1024 + (r.val - 15) - 1, by omega⟩ (fun k => ?_)) j
      unfold rowK
      rw [dif_pos h1]
      exact blk1 m c t ⟨r.val, h1⟩ k _ (by simp only; omega)
  rw [if_neg h1]
  by_cases h3 : r.val < 1040
  · rw [if_pos h3, dif_pos (by omega)]
    refine congrFun (row_eq m c t _ ⟨t.val % 4 * 1024 + (r.val - 15) - 1, by omega⟩ (fun k => ?_)) j
    unfold rowK
    rw [dif_neg h1, dif_pos h3, blk0]
    exact congrArg (fun l => A0 m c (ix3 (bt t) l k)) (Fin.ext (by show t.val % 4 * 1024 + (r.val - 16) = t.val % 4 * 1024 + (r.val - 15) - 1; omega))
  · rw [if_neg h3, zeroAt_eq _ 3 ht (by decide)]
    by_cases h2 : t.val % 4 = 3
    · rw [if_pos h2, dif_neg (by omega)]
    · rw [if_neg h2, dif_pos (by omega)]
      refine congrFun (row_eq m c t _ ⟨t.val % 4 * 1024 + (r.val - 15) - 1, by omega⟩ (fun k => ?_)) j
      unfold rowK
      rw [dif_neg h1, dif_neg h3]
      exact blk2 m c t ⟨r.val - 1040, by omega⟩ k _ (by simp only; omega)

/-- The convolution of a tile's row is the reference's. -/
theorem conv_eq (t : Fin cfg0.N) (l : Fin 1024) :
    convK (BitVec.ofNat 32 (grid0.coords t 1).val) (iblk m c 0 t) (iblk m c 1 t) (iblk m c 2 t) (iblk m c 3 t) (iblk m c 4 t) (iblk m c 5 t) (iblk m c 10 t) (iblk m c 11 t) l
      = CV (R m c (bt t)) (A6 m c) (A7 m c) (rt t l) := by
  have e0 : (fun k j => (iblk m c 10 t : Fl S3x1536) (ix2 k j)) = fun k j => A6 m c (ix3 0 k j) := funext fun k => funext (blk10 m c t k)
  have e1 : (fun j => (iblk m c 11 t : Fl S1x1536) (ix2 0 j)) = fun j => A7 m c (ix2 0 j) := funext (blk11 m c t)
  have hl := l.isLt
  unfold convK
  rw [e0, e1, slab_eq m c t ⟨l.val + 15, _⟩ (by simp only; omega) (by simp only; omega) (rt t l).val (by unfold rt; simp only; omega),
    slab_eq m c t ⟨l.val + 16, _⟩ (by simp only; omega) (by simp only; omega) (1 + (rt t l).val) (by unfold rt; simp only; omega),
    slab_eq m c t ⟨l.val + 17, _⟩ (by simp only; omega) (by simp only; omega) (2 + (rt t l).val) (by unfold rt; simp only; omega)]
  rfl

/-- The tile's first factor of the convolution branch is the reference's. -/
theorem b_eq (t : Fin cfg0.N) (l : Fin 1024) (n : Fin 512) :
    blockB (BitVec.ofNat 32 (grid0.coords t 1).val) (iblk m c 0 t) (iblk m c 1 t) (iblk m c 2 t) (iblk m c 3 t) (iblk m c 4 t) (iblk m c 5 t) (iblk m c 10 t) (iblk m c 11 t) (ix3 0 l n)
      = GB (A0 m c) (A1 m c) (A2 m c) (A3 m c) (A6 m c) (A7 m c) (ix3 (bt t) (rt t l) n) :=
  congrFun (conv_eq m c t l) _

/-- The tile's input of the long convolution is the reference's. -/
theorem c_eq (t : Fin cfg0.N) (l : Fin 1024) (n : Fin 512) :
    blockC (BitVec.ofNat 32 (grid0.coords t 1).val) (iblk m c 0 t) (iblk m c 1 t) (iblk m c 2 t) (iblk m c 3 t) (iblk m c 4 t) (iblk m c 5 t) (iblk m c 10 t) (iblk m c 11 t) (ix3 0 l n)
      = GC (A0 m c) (A1 m c) (A2 m c) (A3 m c) (A6 m c) (A7 m c) (ix3 (bt t) (rt t l) n) :=
  (congrArg₂ (fun y z : EReal => y * z) (congrFun (conv_eq m c t l) _) (congrFun (conv_eq m c t l) _)).trans (mul_comm _ _)

/-- An index of a results' array, in a point's block. -/
theorem out_emb {N : ℕ} (x : (⟨3, ![8, 4096, N]⟩ : Shape).Idx) (idx : Fin 3 → ℕ) (t : Fin cfg0.N) (e : idx = ![t.val / 4, t.val % 4, 0])
    (l : Fin 1024) (k : Fin N) (h0 : (x 0).val = idx 0 * 1 + 1 * 0) (h1 : (x 1).val = idx 1 * 1024 + 1 * l.val) (h2 : (x 2).val = idx 2 * N + 1 * k.val) :
    ix3 (bt t) (rt t l) k = x :=
  (emb3 (B := 1024) x idx _ _ e (bt t) (rt t l) k 1 l.val h0 h1 h2 (Nat.mul_one _).symm rfl).symm

/-- An index lies in a point's block when its batch element and its row are the block's. -/
theorem out_mem {N : ℕ} (idx : Fin 3 → ℕ) (t : Fin cfg0.N) (e : idx = ![t.val / 4, t.val % 4, 0]) (x : (⟨3, ![8, 4096, N]⟩ : Shape).Idx)
    (h0 : (x 0).val = t.val / 4) (h1 : (x 1).val / 1024 = t.val % 4) :
    (idx 0 * 1 ≤ (x 0).val ∧ (x 0).val < idx 0 * 1 + 1) ∧ (idx 1 * 1024 ≤ (x 1).val ∧ (x 1).val < idx 1 * 1024 + 1024)
      ∧ (idx 2 * N ≤ (x 2).val ∧ (x 2).val < idx 2 * N + N) := by
  subst e
  have i2 : (x 2).val < N := (x 2).isLt
  refine ⟨?_, ?_, ?_⟩
  · show t.val / 4 * 1 ≤ (x 0).val ∧ (x 0).val < t.val / 4 * 1 + 1; omega
  · show t.val % 4 * 1024 ≤ (x 1).val ∧ (x 1).val < t.val % 4 * 1024 + 1024; omega
  · show 0 * N ≤ (x 2).val ∧ (x 2).val < 0 * N + N; omega

/-- The result for the retention, of all rows. -/
def G12 : FVec Ideal S8x4096x2048 .bf16 := GA (A0 m c) (A1 m c) (A2 m c) (A3 m c) (A4 m c) (A5 m c)

/-- Each point writes its block of the result back. -/
theorem flushed12_eq (t : Fin cfg0.N) : (dats m 0 c).flushed 12 t = ((cfg0.win 12).blk t).view.read (Elt Ideal) (G12 m c) := by
  rw [Cert.Kernel3Ideal.Value.flushed12_A, out_12]
  funext y
  rw [idx3 (a := 1024) (b := 2048) y]
  refine (a_eq m c t (y 1) (y 2)).trans ?_
  show G12 m c _ = G12 m c _
  congr 1
  exact out_emb _ (win0_12.index t) t (index_out t).1 (y 1) (y 2) rfl rfl rfl

theorem mem12 (t : Fin cfg0.N) (i : S8x4096x2048.Idx) (h0 : (i 0).val = t.val / 4) (h1 : (i 1).val / 1024 = t.val % 4) :
    i ∈ ((cfg0.win 12).blk t).view.set := by
  show i ∈ ((View.whole main_v10_0).slice (win0_12.rect t)).set
  rw [View.set_slice_whole, Rect.mem_set_unit]
  obtain ⟨a0, a1, a2⟩ := out_mem (win0_12.index t) t (index_out t).1 i h0 h1
  intro a
  match a with
  | ⟨0, _⟩ => exact a0
  | ⟨1, _⟩ => exact a1
  | ⟨2, _⟩ => exact a2

theorem flushes12 : ∀ t : Fin cfg0.N, (cfg0.win 12).flush t = true :=
  (by decide +kernel : ∀ t : Fin grid0.N, win0_12.flush t = true)

/-- The result for the retention after the run. -/
theorem final12 : (dats m 0 c).arrAt 12 cfg0.N = G12 m c :=
  (dats m 0 c).arrAt_eq_of_cover 12 _ (fun t _ => flushed12_eq m c t) (fun i => by
    have i0 : (i 0).val < 8 := (i 0).isLt
    have i1 : (i 1).val < 4096 := (i 1).isLt
    have hN : (i 0).val * 4 + (i 1).val / 1024 < cfg0.N := by rw [show cfg0.N = 32 from N_0]; omega
    refine ⟨⟨(i 0).val * 4 + (i 1).val / 1024, hN⟩, flushes12 _, mem12 _ i ?_ ?_⟩
    · show (i 0).val = ((i 0).val * 4 + (i 1).val / 1024) / 4; omega
    · show (i 1).val / 1024 = ((i 0).val * 4 + (i 1).val / 1024) % 4; omega)

/-- The first factor of the convolution branch, of all rows. -/
def G13 : FVec Ideal S8x4096x512 .bf16 := GB (A0 m c) (A1 m c) (A2 m c) (A3 m c) (A6 m c) (A7 m c)

/-- Each point writes its block of the result back. -/
theorem flushed13_eq (t : Fin cfg0.N) : (dats m 0 c).flushed 13 t = ((cfg0.win 13).blk t).view.read (Elt Ideal) (G13 m c) := by
  rw [Cert.Kernel3Ideal.Value.flushed13_A, out_13]
  funext y
  rw [idx3 (a := 1024) (b := 512) y]
  refine (b_eq m c t (y 1) (y 2)).trans ?_
  show G13 m c _ = G13 m c _
  congr 1
  exact out_emb _ (win0_13.index t) t (index_out t).2.1 (y 1) (y 2) rfl rfl rfl

theorem mem13 (t : Fin cfg0.N) (i : S8x4096x512.Idx) (h0 : (i 0).val = t.val / 4) (h1 : (i 1).val / 1024 = t.val % 4) :
    i ∈ ((cfg0.win 13).blk t).view.set := by
  show i ∈ ((View.whole main_v10_1).slice (win0_13.rect t)).set
  rw [View.set_slice_whole, Rect.mem_set_unit]
  obtain ⟨a0, a1, a2⟩ := out_mem (win0_13.index t) t (index_out t).2.1 i h0 h1
  intro a
  match a with
  | ⟨0, _⟩ => exact a0
  | ⟨1, _⟩ => exact a1
  | ⟨2, _⟩ => exact a2

theorem flushes13 : ∀ t : Fin cfg0.N, (cfg0.win 13).flush t = true :=
  (by decide +kernel : ∀ t : Fin grid0.N, win0_13.flush t = true)

/-- The first factor of the convolution branch after the run. -/
theorem final13 : (dats m 0 c).arrAt 13 cfg0.N = G13 m c :=
  (dats m 0 c).arrAt_eq_of_cover 13 _ (fun t _ => flushed13_eq m c t) (fun i => by
    have i0 : (i 0).val < 8 := (i 0).isLt
    have i1 : (i 1).val < 4096 := (i 1).isLt
    have hN : (i 0).val * 4 + (i 1).val / 1024 < cfg0.N := by rw [show cfg0.N = 32 from N_0]; omega
    refine ⟨⟨(i 0).val * 4 + (i 1).val / 1024, hN⟩, flushes13 _, mem13 _ i ?_ ?_⟩
    · show (i 0).val = ((i 0).val * 4 + (i 1).val / 1024) / 4; omega
    · show (i 1).val / 1024 = ((i 0).val * 4 + (i 1).val / 1024) % 4; omega)

/-- The input of the long convolution, of all rows. -/
def G14 : FVec Ideal S8x4096x512 .bf16 := GC (A0 m c) (A1 m c) (A2 m c) (A3 m c) (A6 m c) (A7 m c)

/-- Each point writes its block of the result back. -/
theorem flushed14_eq (t : Fin cfg0.N) : (dats m 0 c).flushed 14 t = ((cfg0.win 14).blk t).view.read (Elt Ideal) (G14 m c) := by
  rw [Cert.Kernel3Ideal.Value.flushed14_A, out_14]
  funext y
  rw [idx3 (a := 1024) (b := 512) y]
  refine (c_eq m c t (y 1) (y 2)).trans ?_
  show G14 m c _ = G14 m c _
  congr 1
  exact out_emb _ (win0_14.index t) t (index_out t).2.2 (y 1) (y 2) rfl rfl rfl

theorem mem14 (t : Fin cfg0.N) (i : S8x4096x512.Idx) (h0 : (i 0).val = t.val / 4) (h1 : (i 1).val / 1024 = t.val % 4) :
    i ∈ ((cfg0.win 14).blk t).view.set := by
  show i ∈ ((View.whole main_v10_2).slice (win0_14.rect t)).set
  rw [View.set_slice_whole, Rect.mem_set_unit]
  obtain ⟨a0, a1, a2⟩ := out_mem (win0_14.index t) t (index_out t).2.2 i h0 h1
  intro a
  match a with
  | ⟨0, _⟩ => exact a0
  | ⟨1, _⟩ => exact a1
  | ⟨2, _⟩ => exact a2

theorem flushes14 : ∀ t : Fin cfg0.N, (cfg0.win 14).flush t = true :=
  (by decide +kernel : ∀ t : Fin grid0.N, win0_14.flush t = true)

/-- The input of the long convolution after the run. -/
theorem final14 : (dats m 0 c).arrAt 14 cfg0.N = G14 m c :=
  (dats m 0 c).arrAt_eq_of_cover 14 _ (fun t _ => flushed14_eq m c t) (fun i => by
    have i0 : (i 0).val < 8 := (i 0).isLt
    have i1 : (i 1).val < 4096 := (i 1).isLt
    have hN : (i 0).val * 4 + (i 1).val / 1024 < cfg0.N := by rw [show cfg0.N = 32 from N_0]; omega
    refine ⟨⟨(i 0).val * 4 + (i 1).val / 1024, hN⟩, flushes14 _, mem14 _ i ?_ ?_⟩
    · show (i 0).val = ((i 0).val * 4 + (i 1).val / 1024) / 4; omega
    · show (i 1).val / 1024 = ((i 0).val * 4 + (i 1).val / 1024) % 4; omega)

end Cert.InKernel

namespace Cert.InClaim

open Idealize.ShloMosaic Idealize.ShloMosaic.TcCoe Idealize.SL.Sem Cert.InKernel

/-- The reference's frame: its arguments end unchanged and every semaphore counter is back at zero. -/
theorem frame_ref : Cert.quiescent_Reference3Ideal := fun m ρ _ =>
  (θ_run _ _ _).mono (fun r h => ⟨fun c => (h c).2.2.2, sem_eq_zero_of_no_sems (by decide) r.2⟩) (Cert.Reference3Ideal.Value.run m ρ)

/-- The kernel's three results are the reference's over the extended reals, for all arguments. -/
theorem algebraic : Cert.algebraic_Kernel3Ideal_Reference3Ideal := by
  intro m ρ m' ρ' _ hag
  refine ⟨fun c => G12 m c, fun c => G13 m c, fun c => G14 m c, ?_, ?_⟩
  · refine (θ_run _ _ _).mono (fun r h c => ?_) (Cert.Kernel3Ideal.Value.run_blocks m ρ)
    exact ⟨(h c).1.trans (final12 m c), (h c).2.1.trans (final13 m c), (h c).2.2.1.trans (final14 m c), (h c).2.2.2⟩
  · refine (θ_run _ _ _).mono (fun r h c => ?_) (Cert.Reference3Ideal.Value.run m' ρ')
    obtain ⟨h0, h1, h2, h3, h4, h5, h6, h7⟩ := hag c
    refine ⟨(h c).1.trans ((Cert.InRef.resA m' c).trans ?_), (h c).2.1.trans ((Cert.InRef.resB m' c).trans ?_), (h c).2.2.1.trans ((Cert.InRef.resC m' c).trans ?_), (h c).2.2.2⟩
    · rw [h0, h1, h2, h3, h4, h5]
      rfl
    · rw [h0, h1, h2, h3, h6, h7]
      rfl
    · rw [h0, h1, h2, h3, h6, h7]
      rfl

end Cert.InClaim
end
-- ==== Proof.CtxSpec.lean ====
module

public import proofs.«01_k».proof.Proof.InSpec

@[expose] public section

set_option maxRecDepth 16384

noncomputable section

/-! # The context's retention states, as functions of rows -/

namespace Cert.Ctx

open Idealize.ShloMosaic Cert.Ffn Cert.Inp

/-- The logarithm of a head's decay. -/
def Lg (x : EReal) : EReal := Ideal.log1p (-(Ideal.exp x))

/-- How many times the decay is applied to row `n` of the context: in the forward states (0 to 3) the rows after it are
counted, in the backward states (4 to 7) the rows before it. -/
def age (s : Fin 8) (n : Fin 256) : ℕ := if s.val < 4 then 255 - n.val else n.val

/-- The column of the keys, and of the values, of lane `d` of the head of state `s`. -/
def kcol (s : Fin 8) (d : Fin 128) : Fin 3584 := ⟨512 + (s.val % 4 * 128 + d.val), by omega⟩
@[inherit_doc kcol] def vcol (s : Fin 8) (d : Fin 128) : Fin 3584 := ⟨1024 + (s.val % 4 * 128 + d.val), by omega⟩

/-- The direction and the head of a state. -/
def dir (s : Fin 8) : Fin 2 := ⟨s.val / 4, by omega⟩
@[inherit_doc dir] def head (s : Fin 8) : Fin 4 := ⟨s.val % 4, by omega⟩

/-- A state's entry: the sum over the rows of the key, scaled and decayed, times the value. -/
def State (p : Fin 256 → Fin 3584 → EReal) (g : EReal) (s : Fin 8) (d e : Fin 128) : EReal :=
  ∑ n : Fin 256, p n (kcol s d) * ks * Ideal.exp (g * (((age s n : ℕ) : ℝ) : EReal)) * p n (vcol s e)

/-- The number 255. -/
theorem c255 : Ideal.ofBits .f32 1132396544#32 = ((255 : ℕ) : ℝ) := by simp [Ideal.ofBits, Ideal.ieee, -EReal.coe_mul]; norm_num

/-- The word of a position, as a number. -/
theorem sitofp_pos (n : Fin 256) : FloatOps.sitofp (F := Ideal) FTy.f32 (BitVec.ofNat 32 n.val) = (((n.val : ℕ) : ℝ) : EReal) := by
  show (((BitVec.ofNat 32 n.val).toInt : ℝ) : EReal) = _
  rw [show (BitVec.ofNat 32 n.val).toInt = (n.val : ℤ) from by
    have h : (BitVec.ofNat 32 n.val).toNat = n.val := by rw [BitVec.toNat_ofNat]; omega
    rw [BitVec.toInt_eq_toNat_of_lt (by rw [h]; omega), h], Int.cast_natCast]

/-- The rows after a position. -/
theorem after_pos (n : Fin 256) : (((255 : ℕ) : ℝ) : EReal) - (((n.val : ℕ) : ℝ) : EReal) = (((255 - n.val : ℕ) : ℝ) : EReal) := by
  rw [← EReal.coe_sub, Nat.cast_sub (by omega)]

end Cert.Ctx
end
-- ==== Proof.CtxKernel.lean ====
module

public import proofs.«01_k».proof.Proof.CtxSpec
public import proofs.«01_k».proof.Proof.Gen.Kernel4Ideal.Value

@[expose] public section

set_option maxRecDepth 16384

noncomputable section

/-! # The block of states that the kernel leaves -/

namespace Cert.CtxKernel

open Cert.Kernel4Ideal Cert.Kernel4Ideal.Gen Cert.Ffn Cert.Inp Cert.Ctx Idealize.ShloMosaic Idealize.ShloMosaic.TcCoe

/-- A vector of half-precision numbers, and one of single-precision numbers. -/
abbrev Bf (S : Shape) := FVec Ideal S .bf16
@[inherit_doc Bf] abbrev Fl (S : Shape) := FVec Ideal S .f32

/-- The weights of the keys for a forward state: the decay of each row to the context's end, times the keys' factor. -/
def wF (lg : Fl S8x128) (o : ℕ) (hs : S8x128.Slices ![o, 0] S1x128) : Fl S256x128 :=
  mulf (exp (mulf (broadcastTo S256x128 (extractStridedSlice S1x128 ![o, 0] lg hs : Fl S1x128) broadcasts_S1x128_S256x128 : Fl S256x128)
    (subf (broadcast S256x128 (Scalar.ofBits .f32 0x437F0000#32 : Ideal .f32) : Fl S256x128) (k0_pay7 (F := Ideal)) : Fl S256x128) : Fl S256x128) : Fl S256x128)
    (broadcast S256x128 (Scalar.ofBits .f32 0x3DB504F3#32 : Ideal .f32) : Fl S256x128)

/-- The weights of the keys for a backward state: the decay of each row from the context's start, times the keys' factor. -/
def wB (lg : Fl S8x128) (o : ℕ) (hs : S8x128.Slices ![o, 0] S1x128) : Fl S256x128 :=
  mulf (exp (mulf (broadcastTo S256x128 (extractStridedSlice S1x128 ![o, 0] lg hs : Fl S1x128) broadcasts_S1x128_S256x128 : Fl S256x128)
    (k0_pay7 (F := Ideal)) : Fl S256x128) : Fl S256x128)
    (broadcast S256x128 (Scalar.ofBits .f32 0x3DB504F3#32 : Ideal .f32) : Fl S256x128)

/-- One state of one batch element: rows from `o` on, lanes from `k` on. -/
def piece (K V : Fl S1024x512) (W : Fl S256x128) (o k : ℕ) (hs : S1024x512.Slices ![o, k] S256x128) : Fl S1x1x128x128 :=
  shapeCast S1x1x128x128 (matmul dot_S256x128_S256x128_S128x128_0_0_1_1_n_n none
    (truncf .bf16 (mulf (extractStridedSlice S256x128 ![o, k] K hs : Fl S256x128) W : Fl S256x128) bitsLt_bf16_f32 : Bf S256x128)
    (truncf .bf16 (extractStridedSlice S256x128 ![o, k] V hs : Fl S256x128) bitsLt_bf16_f32 : Bf S256x128)
    (constant S128x128 .f32 0x00000000#32 : Fl S128x128) : Fl S128x128) shapeCasts_S128x128_S1x1x128x128

theorem wF_at (lg : Fl S8x128) (o : ℕ) (ho : o < 8) (hs : S8x128.Slices ![o, 0] S1x128) (n : Fin 256) (d : Fin 128) :
    wF lg o hs (ix2 n d) = (Ideal.exp (lg (ix2 ⟨o, ho⟩ d) * (((255 - n.val : ℕ) : ℝ) : EReal)) * ks : EReal) := by
  pointwise [wF, k0_pay7]
  rw [c255, sitofp_pos, after_pos]
  rfl

theorem wB_at (lg : Fl S8x128) (o : ℕ) (ho : o < 8) (hs : S8x128.Slices ![o, 0] S1x128) (n : Fin 256) (d : Fin 128) :
    wB lg o hs (ix2 n d) = (Ideal.exp (lg (ix2 ⟨o, ho⟩ d) * (((n.val : ℕ) : ℝ) : EReal)) * ks : EReal) := by
  pointwise [wB, k0_pay7]
  rw [sitofp_pos]
  rfl

theorem piece_at (K V : Fl S1024x512) (W : Fl S256x128) (o k : ℕ) (ho : o ≤ 768) (hk : k ≤ 384) (hs : S1024x512.Slices ![o, k] S256x128) (d e : Fin 128) :
    piece K V W o k hs (ix4 0 0 d e) = (∑ n : Fin 256, K (ix2 ⟨o + n.val, by omega⟩ ⟨k + d.val, by omega⟩) * W (ix2 n d)
      * V (ix2 ⟨o + n.val, by omega⟩ ⟨k + e.val, by omega⟩) : EReal) := by
  pointwise [piece]

/-- The row of the block, and the column of its keys and values. -/
def row (b : Fin 4) (n : Fin 256) : Fin 1024 := ⟨256 * b.val + n.val, by omega⟩
@[inherit_doc row] def col (s : Fin 8) (d : Fin 128) : Fin 512 := ⟨128 * (s.val % 4) + d.val, by omega⟩

/-- The block of states, at an index. -/
def block (K V : Fl S1024x512) (lg : Fl S8x128) : Fl S4x8x128x128 := fun i =>
  (∑ n : Fin 256, K (ix2 (row (i 0) n) (col (i 1) (i 2))) * (Ideal.exp (lg (ix2 (i 1) (i 2)) * (((age (i 1) n : ℕ) : ℝ) : EReal)) * ks)
    * V (ix2 (row (i 0) n) (col (i 1) (i 3))) : EReal)

/-- Where an entry of a state lies in the block. -/
theorem emb_piece (i s : ℕ) (hi : i < 4) (hs : s < 8) (inb : ∀ a, (![i, s, 0, 0] : Fin 4 → ℕ) a + S1x1x128x128.size a ≤ S4x8x128x128.size a) (x : S1x1x128x128.Idx) :
    (Rect.unit (s := S4x8x128x128) ![i, s, 0, 0] S1x1x128x128.size inb).emb x = ix4 (⟨i, hi⟩ : Fin 4) (⟨s, hs⟩ : Fin 8) (x 2) (x 3) := by
  have x0 : (x 0).val < 1 := (x 0).isLt
  have x1 : (x 1).val < 1 := (x 1).isLt
  funext a
  apply Fin.ext
  match a with
  | ⟨0, _⟩ => show i + 1 * (x 0).val = i; omega
  | ⟨1, _⟩ => show s + 1 * (x 1).val = s; omega
  | ⟨2, _⟩ => show 0 + 1 * (x 2).val = (x 2).val; omega
  | ⟨3, _⟩ => show 0 + 1 * (x 3).val = (x 3).val; omega

theorem idx_piece (x : S1x1x128x128.Idx) : x = ix4 0 0 (x 2) (x 3) := by
  funext a
  match a with
  | ⟨0, _⟩ => exact Subsingleton.elim (α := Fin 1) _ _
  | ⟨1, _⟩ => exact Subsingleton.elim (α := Fin 1) _ _
  | ⟨2, _⟩ => rfl
  | ⟨3, _⟩ => rfl

/-- A forward state of the body is the block's. -/
theorem fwd_at (K V : Fl S1024x512) (lg : Fl S8x128) (i s : ℕ) (hi : i < 4) (h : s < 4) (hw : S8x128.Slices ![s, 0] S1x128)
    (hs : S1024x512.Slices ![256 * i, 128 * (s % 4)] S256x128) (d e : Fin 128) :
    piece K V (wF lg s hw) (256 * i) (128 * (s % 4)) hs (ix4 0 0 d e) = block K V lg (ix4 (⟨i, hi⟩ : Fin 4) (⟨s, by omega⟩ : Fin 8) d e) := by
  refine (piece_at K V _ _ _ (by omega) (by omega) hs d e).trans ?_
  unfold block
  refine Finset.sum_congr rfl fun n _ => ?_
  rw [wF_at lg s (by omega)]
  show _ = _ * (Ideal.exp (_ * (((age ⟨s, _⟩ n : ℕ) : ℝ) : EReal)) * ks) * _
  unfold age
  rw [if_pos h]
  rfl

@[inherit_doc fwd_at] theorem fwd_piece (K V : Fl S1024x512) (lg : Fl S8x128) (i s : ℕ) (hi : i < 4) (h : s < 4) (hw : S8x128.Slices ![s, 0] S1x128)
    (hs : S1024x512.Slices ![256 * i, 128 * (s % 4)] S256x128) (inb : ∀ a, (![i, s, 0, 0] : Fin 4 → ℕ) a + S1x1x128x128.size a ≤ S4x8x128x128.size a) (x : S1x1x128x128.Idx) :
    piece K V (wF lg s hw) (256 * i) (128 * (s % 4)) hs x = block K V lg ((Rect.unit (s := S4x8x128x128) ![i, s, 0, 0] S1x1x128x128.size inb).emb x) := by
  rw [emb_piece i s hi (by omega)]
  conv_lhs => rw [idx_piece x]
  exact fwd_at K V lg i s hi h hw hs (x 2) (x 3)

/-- A backward state of the body is the block's. -/
theorem bwd_at (K V : Fl S1024x512) (lg : Fl S8x128) (i s : ℕ) (hi : i < 4) (h : 4 ≤ s ∧ s < 8) (hw : S8x128.Slices ![s, 0] S1x128)
    (hs : S1024x512.Slices ![256 * i, 128 * (s % 4)] S256x128) (d e : Fin 128) :
    piece K V (wB lg s hw) (256 * i) (128 * (s % 4)) hs (ix4 0 0 d e) = block K V lg (ix4 (⟨i, hi⟩ : Fin 4) (⟨s, by omega⟩ : Fin 8) d e) := by
  refine (piece_at K V _ _ _ (by omega) (by omega) hs d e).trans ?_
  unfold block
  refine Finset.sum_congr rfl fun n _ => ?_
  rw [wB_at lg s (by omega)]
  show _ = _ * (Ideal.exp (_ * (((age ⟨s, _⟩ n : ℕ) : ℝ) : EReal)) * ks) * _
  unfold age
  rw [if_neg (by show ¬ s < 4; omega)]
  rfl

@[inherit_doc bwd_at] theorem bwd_piece (K V : Fl S1024x512) (lg : Fl S8x128) (i s : ℕ) (hi : i < 4) (h : 4 ≤ s ∧ s < 8) (hw : S8x128.Slices ![s, 0] S1x128)
    (hs : S1024x512.Slices ![256 * i, 128 * (s % 4)] S256x128) (inb : ∀ a, (![i, s, 0, 0] : Fin 4 → ℕ) a + S1x1x128x128.size a ≤ S4x8x128x128.size a) (x : S1x1x128x128.Idx) :
    piece K V (wB lg s hw) (256 * i) (128 * (s % 4)) hs x = block K V lg ((Rect.unit (s := S4x8x128x128) ![i, s, 0, 0] S1x1x128x128.size inb).emb x) := by
  rw [emb_piece i s hi (by omega)]
  conv_lhs => rw [idx_piece x]
  exact bwd_at K V lg i s hi h hw hs (x 2) (x 3)

/-- The pieces that the body stores, the last first, of keys, values and logarithms. -/
def stores (K V : Fl S1024x512) (lg : Fl S8x128) : List (View.Piece (Elt Ideal) S4x8x128x128 .f32) :=
  [⟨r0_35, k0_pay2 (F := Ideal) (k0_pay67 (F := Ideal) lg (k0_pay7 (F := Ideal))) (k0_pay80 (F := Ideal) K) (k0_pay81 (F := Ideal) V)⟩,
    ⟨r0_34, k0_pay1 (F := Ideal) (k0_pay81 (F := Ideal) V) (k0_pay82 (F := Ideal) K (k0_pay66 (F := Ideal) lg (k0_pay7 (F := Ideal))))⟩,
    ⟨r0_33, k0_pay79 (F := Ideal) K V (k0_pay67 (F := Ideal) lg (k0_pay7 (F := Ideal)))⟩,
    ⟨r0_32, k0_pay78 (F := Ideal) K V (k0_pay66 (F := Ideal) lg (k0_pay7 (F := Ideal)))⟩,
    ⟨r0_31, k0_pay75 (F := Ideal) K V (k0_pay67 (F := Ideal) lg (k0_pay7 (F := Ideal)))⟩,
    ⟨r0_30, k0_pay74 (F := Ideal) K V (k0_pay66 (F := Ideal) lg (k0_pay7 (F := Ideal)))⟩,
    ⟨r0_29, k0_pay71 (F := Ideal) K V lg (k0_pay7 (F := Ideal))⟩,
    ⟨r0_28, k0_pay70 (F := Ideal) K V lg (k0_pay7 (F := Ideal))⟩,
    ⟨r0_27, k0_pay65 (F := Ideal) (k0_pay47 (F := Ideal) lg (k0_pay7 (F := Ideal))) (k0_pay61 (F := Ideal) K) (k0_pay62 (F := Ideal) V)⟩,
    ⟨r0_26, k0_pay64 (F := Ideal) (k0_pay63 (F := Ideal) K V (k0_pay46 (F := Ideal) lg (k0_pay7 (F := Ideal))))⟩,
    ⟨r0_25, k0_pay60 (F := Ideal) K V (k0_pay47 (F := Ideal) lg (k0_pay7 (F := Ideal)))⟩,
    ⟨r0_24, k0_pay59 (F := Ideal) K V (k0_pay46 (F := Ideal) lg (k0_pay7 (F := Ideal)))⟩,
    ⟨r0_23, k0_pay56 (F := Ideal) (k0_pay47 (F := Ideal) lg (k0_pay7 (F := Ideal))) (k0_pay52 (F := Ideal) K) (k0_pay53 (F := Ideal) V)⟩,
    ⟨r0_22, k0_pay55 (F := Ideal) (k0_pay53 (F := Ideal) V) (k0_pay54 (F := Ideal) K lg (k0_pay7 (F := Ideal)))⟩,
    ⟨r0_21, k0_pay51 (F := Ideal) K V lg (k0_pay7 (F := Ideal))⟩,
    ⟨r0_20, k0_pay50 (F := Ideal) K V lg (k0_pay7 (F := Ideal))⟩,
    ⟨r0_19, k0_pay45 (F := Ideal) (k0_pay28 (F := Ideal) lg (k0_pay7 (F := Ideal))) (k0_pay42 (F := Ideal) K) (k0_pay43 (F := Ideal) V)⟩,
    ⟨r0_18, k0_pay44 (F := Ideal) K V (k0_pay27 (F := Ideal) lg (k0_pay7 (F := Ideal)))⟩,
    ⟨r0_17, k0_pay41 (F := Ideal) K V (k0_pay28 (F := Ideal) lg (k0_pay7 (F := Ideal)))⟩,
    ⟨r0_16, k0_pay40 (F := Ideal) K V (k0_pay27 (F := Ideal) lg (k0_pay7 (F := Ideal)))⟩,
    ⟨r0_15, k0_pay37 (F := Ideal) (k0_pay28 (F := Ideal) lg (k0_pay7 (F := Ideal))) (k0_pay33 (F := Ideal) K) (k0_pay34 (F := Ideal) V)⟩,
    ⟨r0_14, k0_pay36 (F := Ideal) (k0_pay35 (F := Ideal) K V lg (k0_pay7 (F := Ideal)))⟩,
    ⟨r0_13, k0_pay32 (F := Ideal) K V lg (k0_pay7 (F := Ideal))⟩,
    ⟨r0_12, k0_pay31 (F := Ideal) K V lg (k0_pay7 (F := Ideal))⟩,
    ⟨r0_11, k0_pay26 (F := Ideal) (k0_pay25 (F := Ideal) K V (k0_pay9 (F := Ideal) lg))⟩,
    ⟨r0_10, k0_pay24 (F := Ideal) K V (k0_pay8 (F := Ideal) lg)⟩,
    ⟨r0_9, k0_pay21 (F := Ideal) K V (k0_pay9 (F := Ideal) lg)⟩,
    ⟨r0_8, k0_pay20 (F := Ideal) K V (k0_pay8 (F := Ideal) lg)⟩,
    ⟨r0_7, k0_pay17 (F := Ideal) (k0_pay9 (F := Ideal) lg) (k0_pay14 (F := Ideal) K) (k0_pay15 (F := Ideal) V)⟩,
    ⟨r0_6, k0_pay16 (F := Ideal) K V lg⟩,
    ⟨r0_5, k0_pay13 (F := Ideal) K V lg⟩,
    ⟨r0_4, k0_pay12 (F := Ideal) K V lg⟩]

/-- The projections of the normalised rows to keys or to values, and the decays' logarithms. -/
def proj (x0 : Fl S4x256x1024) (x1 x2 x3 : Fl S1x1024) (w : Bf S1024x512) : Fl S1024x512 :=
  k0_pay4 (View.ld x0 r0_0) (View.ld x1 r0_1) (View.ld x3 r0_1) (View.ld x2 r0_1) (View.ld w r0_2)
@[inherit_doc proj] def logs (x6 : Fl S8x128) : Fl S8x128 := k0_pay6 (View.ld x6 r0_3)

theorem out_eq (x0 : Fl S4x256x1024) (x1 x2 x3 : Fl S1x1024) (x4 x5 : Bf S1024x512) (x6 : Fl S8x128) :
    out0_7 (F := Ideal) x0 x1 x2 x3 x4 x5 x6 = View.canon (stores (proj x0 x1 x2 x3 x4) (proj x0 x1 x2 x3 x5) (logs x6)) := rfl

/-- The block of states is what the body leaves. -/
theorem out_block (x0 : Fl S4x256x1024) (x1 x2 x3 : Fl S1x1024) (x4 x5 : Bf S1024x512) (x6 : Fl S8x128) :
    out0_7 (F := Ideal) x0 x1 x2 x3 x4 x5 x6 = block (proj x0 x1 x2 x3 x4) (proj x0 x1 x2 x3 x5) (logs x6) := by
  rw [out_eq]
  generalize proj x0 x1 x2 x3 x4 = K
  generalize proj x0 x1 x2 x3 x5 = V
  generalize logs x6 = lg
  funext y
  unfold stores
  refine View.canon_apply_of_pieces (Val := Elt Ideal) (block K V lg) _ ?_ y (cover0_7 _ _ _ _ _ _ _ _ _ _ _ _ _ _ _ _ _ _ _ _ _ _ _ _ _ _ _ _ _ _ _ _ y)
  simp only [List.forall_mem_cons]
  refine ⟨fun x => (congrFun (show (_ : Fl S1x1x128x128) = piece K V (wB lg 7 slices_S8x128_o7_0_S1x128) 768 384 slices_S1024x512_o768_384_S256x128 from rfl) x).trans (bwd_piece K V lg 3 7 (by decide) (by decide) _ _ _ x), ?_⟩
  refine ⟨fun x => (congrFun (show (_ : Fl S1x1x128x128) = piece K V (wF lg 3 slices_S8x128_o3_0_S1x128) 768 384 slices_S1024x512_o768_384_S256x128 from rfl) x).trans (fwd_piece K V lg 3 3 (by decide) (by decide) _ _ _ x), ?_⟩
  refine ⟨fun x => (congrFun (show (_ : Fl S1x1x128x128) = piece K V (wB lg 7 slices_S8x128_o7_0_S1x128) 512 384 slices_S1024x512_o512_384_S256x128 from rfl) x).trans (bwd_piece K V lg 2 7 (by decide) (by decide) _ _ _ x), ?_⟩
  refine ⟨fun x => (congrFun (show (_ : Fl S1x1x128x128) = piece K V (wF lg 3 slices_S8x128_o3_0_S1x128) 512 384 slices_S1024x512_o512_384_S256x128 from rfl) x).trans (fwd_piece K V lg 2 3 (by decide) (by decide) _ _ _ x), ?_⟩
  refine ⟨fun x => (congrFun (show (_ : Fl S1x1x128x128) = piece K V (wB lg 7 slices_S8x128_o7_0_S1x128) 256 384 slices_S1024x512_o256_384_S256x128 from rfl) x).trans (bwd_piece K V lg 1 7 (by decide) (by decide) _ _ _ x), ?_⟩
  refine ⟨fun x => (congrFun (show (_ : Fl S1x1x128x128) = piece K V (wF lg 3 slices_S8x128_o3_0_S1x128) 256 384 slices_S1024x512_o256_384_S256x128 from rfl) x).trans (fwd_piece K V lg 1 3 (by decide) (by decide) _ _ _ x), ?_⟩
  refine ⟨fun x => (congrFun (show (_ : Fl S1x1x128x128) = piece K V (wB lg 7 slices_S8x128_o7_0_S1x128) 0 384 slices_S1024x512_o0_384_S256x128 from rfl) x).trans (bwd_piece K V lg 0 7 (by decide) (by decide) _ _ _ x), ?_⟩
  refine ⟨fun x => (congrFun (show (_ : Fl S1x1x128x128) = piece K V (wF lg 3 slices_S8x128_o3_0_S1x128) 0 384 slices_S1024x512_o0_384_S256x128 from rfl) x).trans (fwd_piece K V lg 0 3 (by decide) (by decide) _ _ _ x), ?_⟩
  refine ⟨fun x => (congrFun (show (_ : Fl S1x1x128x128) = piece K V (wB lg 6 slices_S8x128_o6_0_S1x128) 768 256 slices_S1024x512_o768_256_S256x128 from rfl) x).trans (bwd_piece K V lg 3 6 (by decide) (by decide) _ _ _ x), ?_⟩
  refine ⟨fun x => (congrFun (show (_ : Fl S1x1x128x128) = piece K V (wF lg 2 slices_S8x128_o2_0_S1x128) 768 256 slices_S1024x512_o768_256_S256x128 from rfl) x).trans (fwd_piece K V lg 3 2 (by decide) (by decide) _ _ _ x), ?_⟩
  refine ⟨fun x => (congrFun (show (_ : Fl S1x1x128x128) = piece K V (wB lg 6 slices_S8x128_o6_0_S1x128) 512 256 slices_S1024x512_o512_256_S256x128 from rfl) x).trans (bwd_piece K V lg 2 6 (by decide) (by decide) _ _ _ x), ?_⟩
  refine ⟨fun x => (congrFun (show (_ : Fl S1x1x128x128) = piece K V (wF lg 2 slices_S8x128_o2_0_S1x128) 512 256 slices_S1024x512_o512_256_S256x128 from rfl) x).trans (fwd_piece K V lg 2 2 (by decide) (by decide) _ _ _ x), ?_⟩
  refine ⟨fun x => (congrFun (show (_ : Fl S1x1x128x128) = piece K V (wB lg 6 slices_S8x128_o6_0_S1x128) 256 256 slices_S1024x512_o256_256_S256x128 from rfl) x).trans (bwd_piece K V lg 1 6 (by decide) (by decide) _ _ _ x), ?_⟩
  refine ⟨fun x => (congrFun (show (_ : Fl S1x1x128x128) = piece K V (wF lg 2 slices_S8x128_o2_0_S1x128) 256 256 slices_S1024x512_o256_256_S256x128 from rfl) x).trans (fwd_piece K V lg 1 2 (by decide) (by decide) _ _ _ x), ?_⟩
  refine ⟨fun x => (congrFun (show (_ : Fl S1x1x128x128) = piece K V (wB lg 6 slices_S8x128_o6_0_S1x128) 0 256 slices_S1024x512_o0_256_S256x128 from rfl) x).trans (bwd_piece K V lg 0 6 (by decide) (by decide) _ _ _ x), ?_⟩
  refine ⟨fun x => (congrFun (show (_ : Fl S1x1x128x128) = piece K V (wF lg 2 slices_S8x128_o2_0_S1x128) 0 256 slices_S1024x512_o0_256_S256x128 from rfl) x).trans (fwd_piece K V lg 0 2 (by decide) (by decide) _ _ _ x), ?_⟩
  refine ⟨fun x => (congrFun (show (_ : Fl S1x1x128x128) = piece K V (wB lg 5 slices_S8x128_o5_0_S1x128) 768 128 slices_S1024x512_o768_128_S256x128 from rfl) x).trans (bwd_piece K V lg 3 5 (by decide) (by decide) _ _ _ x), ?_⟩
  refine ⟨fun x => (congrFun (show (_ : Fl S1x1x128x128) = piece K V (wF lg 1 slices_S8x128_o1_0_S1x128) 768 128 slices_S1024x512_o768_128_S256x128 from rfl) x).trans (fwd_piece K V lg 3 1 (by decide) (by decide) _ _ _ x), ?_⟩
  refine ⟨fun x => (congrFun (show (_ : Fl S1x1x128x128) = piece K V (wB lg 5 slices_S8x128_o5_0_S1x128) 512 128 slices_S1024x512_o512_128_S256x128 from rfl) x).trans (bwd_piece K V lg 2 5 (by decide) (by decide) _ _ _ x), ?_⟩
  refine ⟨fun x => (congrFun (show (_ : Fl S1x1x128x128) = piece K V (wF lg 1 slices_S8x128_o1_0_S1x128) 512 128 slices_S1024x512_o512_128_S256x128 from rfl) x).trans (fwd_piece K V lg 2 1 (by decide) (by decide) _ _ _ x), ?_⟩
  refine ⟨fun x => (congrFun (show (_ : Fl S1x1x128x128) = piece K V (wB lg 5 slices_S8x128_o5_0_S1x128) 256 128 slices_S1024x512_o256_128_S256x128 from rfl) x).trans (bwd_piece K V lg 1 5 (by decide) (by decide) _ _ _ x), ?_⟩
  refine ⟨fun x => (congrFun (show (_ : Fl S1x1x128x128) = piece K V (wF lg 1 slices_S8x128_o1_0_S1x128) 256 128 slices_S1024x512_o256_128_S256x128 from rfl) x).trans (fwd_piece K V lg 1 1 (by decide) (by decide) _ _ _ x), ?_⟩
  refine ⟨fun x => (congrFun (show (_ : Fl S1x1x128x128) = piece K V (wB lg 5 slices_S8x128_o5_0_S1x128) 0 128 slices_S1024x512_o0_128_S256x128 from rfl) x).trans (bwd_piece K V lg 0 5 (by decide) (by decide) _ _ _ x), ?_⟩
  refine ⟨fun x => (congrFun (show (_ : Fl S1x1x128x128) = piece K V (wF lg 1 slices_S8x128_o1_0_S1x128) 0 128 slices_S1024x512_o0_128_S256x128 from rfl) x).trans (fwd_piece K V lg 0 1 (by decide) (by decide) _ _ _ x), ?_⟩
  refine ⟨fun x => (congrFun (show (_ : Fl S1x1x128x128) = piece K V (wB lg 4 slices_S8x128_o4_0_S1x128) 768 0 slices_S1024x512_o768_0_S256x128 from rfl) x).trans (bwd_piece K V lg 3 4 (by decide) (by decide) _ _ _ x), ?_⟩
  refine ⟨fun x => (congrFun (show (_ : Fl S1x1x128x128) = piece K V (wF lg 0 slices_S8x128_o0_0_S1x128) 768 0 slices_S1024x512_o768_0_S256x128 from rfl) x).trans (fwd_piece K V lg 3 0 (by decide) (by decide) _ _ _ x), ?_⟩
  refine ⟨fun x => (congrFun (show (_ : Fl S1x1x128x128) = piece K V (wB lg 4 slices_S8x128_o4_0_S1x128) 512 0 slices_S1024x512_o512_0_S256x128 from rfl) x).trans (bwd_piece K V lg 2 4 (by decide) (by decide) _ _ _ x), ?_⟩
  refine ⟨fun x => (congrFun (show (_ : Fl S1x1x128x128) = piece K V (wF lg 0 slices_S8x128_o0_0_S1x128) 512 0 slices_S1024x512_o512_0_S256x128 from rfl) x).trans (fwd_piece K V lg 2 0 (by decide) (by decide) _ _ _ x), ?_⟩
  refine ⟨fun x => (congrFun (show (_ : Fl S1x1x128x128) = piece K V (wB lg 4 slices_S8x128_o4_0_S1x128) 256 0 slices_S1024x512_o256_0_S256x128 from rfl) x).trans (bwd_piece K V lg 1 4 (by decide) (by decide) _ _ _ x), ?_⟩
  refine ⟨fun x => (congrFun (show (_ : Fl S1x1x128x128) = piece K V (wF lg 0 slices_S8x128_o0_0_S1x128) 256 0 slices_S1024x512_o256_0_S256x128 from rfl) x).trans (fwd_piece K V lg 1 0 (by decide) (by decide) _ _ _ x), ?_⟩
  refine ⟨fun x => (congrFun (show (_ : Fl S1x1x128x128) = piece K V (wB lg 4 slices_S8x128_o4_0_S1x128) 0 0 slices_S1024x512_o0_0_S256x128 from rfl) x).trans (bwd_piece K V lg 0 4 (by decide) (by decide) _ _ _ x), ?_⟩
  refine ⟨fun x => (congrFun (show (_ : Fl S1x1x128x128) = piece K V (wF lg 0 slices_S8x128_o0_0_S1x128) 0 0 slices_S1024x512_o0_0_S256x128 from rfl) x).trans (fwd_piece K V lg 0 0 (by decide) (by decide) _ _ _ x), ?_⟩
  exact fun x hx => absurd hx List.not_mem_nil

/-- The rows of the block, normalised, scaled and shifted. -/
theorem proj_at (x0 : Fl S4x256x1024) (x1 x2 x3 : Fl S1x1024) (w : Bf S1024x512) (b : Fin 4) (n : Fin 256) (j : Fin 512) :
    proj x0 x1 x2 x3 w (ix2 (row b n) j) = (∑ x : Fin 1024, H (fun j => x0 (ix3 b n j)) (fun j => x1 (ix2 0 j)) (fun j => x3 (ix2 0 j)) (fun j => x2 (ix2 0 j)) x * w (ix2 x j) : EReal) := by
  have e0 : (⟨(row b n).val / 256, by have := (row b n).isLt; omega⟩ : Fin 4) = b := Fin.ext (by unfold row; simp only; omega)
  have e1 : (⟨(row b n).val % 256, Nat.mod_lt _ (by decide)⟩ : Fin 256) = n := Fin.ext (by unfold row; simp only; omega)
  pointwise [proj, k0_pay4, k0_pay3]
  simp only [e0, e1]
  rfl

theorem logs_at (x6 : Fl S8x128) (s : Fin 8) (d : Fin 128) : logs x6 (ix2 s d) = Lg (x6 (ix2 s d)) := by
  pointwise [logs, k0_pay6]
  rw [zero_sub]
  rfl

end Cert.CtxKernel
end
-- ==== Proof.CtxRef.lean ====
module

public import proofs.«01_k».proof.Proof.CtxSpec
public import proofs.«01_k».proof.Proof.Gen.Reference4Ideal.Run

@[expose] public section

set_option maxRecDepth 16384

noncomputable section

/-! # The reference's states, read pointwise -/

namespace Cert.CtxRef

open Cert.Reference4Ideal Cert.Reference4Ideal.Gen Cert.Reference4Ideal.Value Cert.Ffn Cert.Inp Cert.Ctx Idealize.ShloMosaic Idealize.ShloMosaic.TcCoe

/-- An array of the program, of half-precision and of single-precision numbers. -/
abbrev Bf (S : Shape) := FVec Ideal S .bf16
@[inherit_doc Bf] abbrev Fl (S : Shape) := FVec Ideal S .f32

/-- The context normalised, scaled and shifted by its modulation. -/
def rH (a0 : Fl S8x256x1024) (a1 : Fl S1x1024) (a2 : Fl S6x1024) : Fl S8x256x1024 :=
  addf (mulf (mulf (mulf a0 (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf a0 a0) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 (shapeCast _ a1 shapeCasts_S1x1024_S1024)))) (broadcastInDim S8x256x1024 ![0, 1, 2] bcast_S1x1x1024_S8x256x1024_0_1_2 (broadcastInDim S1x1x1024 ![2] bcast_S1024_S1x1x1024_2 (addf (broadcastInDim S1024 ![] bcast_S_S1024 (constant S_ .f32 0x3F800000#32)) (shapeCast _ (extractStridedSlice S1x1024 ![1, 0] a2 slices_S6x1024_S1x1024_1_0) shapeCasts_S1x1024_S1024))))) (broadcastInDim S8x256x1024 ![0, 1, 2] bcast_S1x1x1024_S8x256x1024_0_1_2 (broadcastInDim S1x1x1024 ![2] bcast_S1024_S1x1x1024_2 (shapeCast _ (extractStridedSlice S1x1024 ![0, 0] a2 slices_S6x1024_S1x1024_0_0) shapeCasts_S1x1024_S1024)))

/-- The projection of the normalised context to keys and values. -/
def rP (h : Fl S8x256x1024) (a3 : Bf S1024x3584) : Fl S8x256x1024 :=
  Host.dotGeneral dot_S8x256x1024_S1024x1024_S8x256x1024_2_0_01_1_n_n none h (extractStridedSlice S1024x1024 ![0, 512] (extf .f32 a3 bitsLt_bf16_f32) slices_S1024x3584_S1024x1024_0_512)

/-- A slice of the projection, by heads. -/
def heads (s : Fl S8x256x512) : Fl S8x4x256x128 :=
  transpose S8x4x256x128 [0, 2, 1, 3] (shapeCast _ s shapeCasts_S8x256x512_S8x256x4x128) transposes_S8x256x4x128_S8x4x256x128_0_2_1_3

/-- The keys and the values by heads; the keys are scaled. -/
def rK (p : Fl S8x256x1024) : Fl S8x4x256x128 :=
  mulf (heads (extractStridedSlice S8x256x512 ![0, 0, 0] p slices_S8x256x1024_S8x256x512_0_0_0)) (broadcastInDim S8x4x256x128 ![] bcast_S_S8x4x256x128 (constant S_ .f32 0x3DB504F3#32))
@[inherit_doc rK] def rV (p : Fl S8x256x1024) : Fl S8x4x256x128 :=
  heads (extractStridedSlice S8x256x512 ![0, 0, 512] p slices_S8x256x1024_S8x256x512_0_0_512)

/-- The logarithms of the decays. -/
def rLg (a4 : Fl S1x2x4) : Fl S2x4 :=
  Host.log1p (Host.negf (Host.exp (shapeCast _ a4 shapeCasts_S1x2x4_S2x4)))

/-- The decay of each row to the end of the context, head by head. -/
def rW (l : Fl S2x4) (o : ℕ) (hs : S2x4.Slices ![o, 0] S1x4) : Fl S4x256 :=
  Host.exp (mulf (broadcastInDim S4x256 ![0, 1] bcast_S4x1_S4x256_0_1 (broadcastInDim S4x1 ![0] bcast_S4_S4x1_0 (shapeCast _ (extractStridedSlice S1x4 ![o, 0] l hs) shapeCasts_S1x4_S4))) (broadcastInDim S4x256 ![0, 1] bcast_S1x256_S4x256_0_1 (broadcastInDim S1x256 ![1] bcast_S256_S1x256_1 (subf (broadcastInDim S256 ![] bcast_S_S256 (constant S_ .f32 0x437F0000#32)) (sitofp .f32 (iotaInDim S256 32 0))))))

/-- The states of one direction. -/
def rS (k v : Fl S8x4x256x128) (w : Fl S4x256) : Fl S8x4x128x128 :=
  Host.dotGeneral dot_S8x4x256x128_S8x4x256x128_S8x4x128x128_2_2_3_3_01_01 none (mulf k (broadcastInDim S8x4x256x128 ![0, 1, 2, 3] bcast_S1x4x256x1_S8x4x256x128_0_1_2_3 (broadcastInDim S1x4x256x1 ![1, 2] bcast_S4x256_S1x4x256x1_1_2 w))) v

/-- The rows in the opposite order. -/
def rRev (k : Fl S8x4x256x128) : Fl S8x4x256x128 := Host.reverse [2] k

/-- The states of both directions. -/
def rAll (f b : Fl S8x4x128x128) : Fl S8x8x128x128 :=
  concatenate S8x8x128x128 1 [⟨S8x4x128x128, f⟩, ⟨S8x4x128x128, b⟩] concatenates_S8x4x128x128_S8x4x128x128_S8x8x128x128_d1

theorem rH_at (a0 : Fl S8x256x1024) (a1 : Fl S1x1024) (a2 : Fl S6x1024) (b : Fin 8) (r : Fin 256) (k : Fin 1024) :
    rH a0 a1 a2 (ix3 b r k) = H (fun j => a0 (ix3 b r j)) (fun j => a1 (ix2 0 j)) (fun j => a2 (ix2 1 j)) (fun j => a2 (ix2 0 j)) k := by
  pointwise [rH]
  rfl

theorem rP_at (h : Fl S8x256x1024) (a3 : Bf S1024x3584) (b : Fin 8) (r : Fin 256) (j : Fin 1024) :
    rP h a3 (ix3 b r j) = P (fun x => h (ix3 b r x)) (fun x j => a3 (ix2 x j)) ⟨512 + j.val, by omega⟩ := by
  pointwise [rP]
  rfl

theorem rK_at (p : Fl S8x256x1024) (b : Fin 8) (h : Fin 4) (r : Fin 256) (d : Fin 128) :
    rK p (ix4 b h r d) = (p (ix3 b r ⟨h.val * 128 + d.val, by omega⟩) * ks : EReal) := by
  pointwise [rK, heads]
  rfl

theorem rV_at (p : Fl S8x256x1024) (b : Fin 8) (h : Fin 4) (r : Fin 256) (d : Fin 128) :
    rV p (ix4 b h r d) = p (ix3 b r ⟨512 + (h.val * 128 + d.val), by omega⟩) := by
  pointwise [rV, heads]

theorem rLg_at (a4 : Fl S1x2x4) (i : Fin 2) (h : Fin 4) : rLg a4 (ix2 i h) = Lg (a4 (ix3 0 i h)) := by
  pointwise [rLg]
  rfl

theorem rW_at (l : Fl S2x4) (o : ℕ) (ho : o < 2) (hs : S2x4.Slices ![o, 0] S1x4) (h : Fin 4) (n : Fin 256) :
    rW l o hs (ix2 h n) = Ideal.exp (l (ix2 ⟨o, ho⟩ h) * (((255 - n.val : ℕ) : ℝ) : EReal)) := by
  pointwise [rW]
  rw [c255, sitofp_pos, after_pos]

theorem rS_at (k v : Fl S8x4x256x128) (w : Fl S4x256) (b : Fin 8) (h : Fin 4) (d e : Fin 128) :
    rS k v w (ix4 b h d e) = (∑ n : Fin 256, k (ix4 b h n d) * w (ix2 h n) * v (ix4 b h n e) : EReal) := by
  pointwise [rS]

theorem rRev_at (k : Fl S8x4x256x128) (b : Fin 8) (h : Fin 4) (n : Fin 256) (d : Fin 128) :
    rRev k (ix4 b h n d) = k (ix4 b h n.rev d) := by
  show k _ = k _
  congr 1
  funext a
  match a with
  | ⟨0, _⟩ => rfl
  | ⟨1, _⟩ => rfl
  | ⟨2, _⟩ => rfl
  | ⟨3, _⟩ => rfl

theorem rAll_at (f g : Fl S8x4x128x128) (b s : Fin 8) (d e : Fin 128) :
    rAll f g (ix4 b s d e) = if s.val < 4 then f (ix4 b (head s) d e) else g (ix4 b (head s) d e) := by
  pointwise [rAll]
  by_cases h : s.val < 4
  · rw [dif_pos h, if_pos h]
    exact congrArg (fun j => f (ix4 b j d e)) (Fin.ext (by unfold head; simp only; omega))
  · rw [dif_neg h, if_neg h]
    exact congrArg (fun j => g (ix4 b j d e)) (Fin.ext (by unfold head; simp only; omega))

/-- All states, of the program's arguments. -/
def G (a0 : Fl S8x256x1024) (a1 : Fl S1x1024) (a2 : Fl S6x1024) (a3 : Bf S1024x3584) (a4 : Fl S1x2x4) : Fl S8x8x128x128 := fun i =>
  State (fun n => P (H (fun j => a0 (ix3 (i 0) n j)) (fun j => a1 (ix2 0 j)) (fun j => a2 (ix2 1 j)) (fun j => a2 (ix2 0 j))) (fun x j => a3 (ix2 x j)))
    (Lg (a4 (ix3 0 (dir (i 1)) (head (i 1))))) (i 1) (i 2) (i 3)

/-- The reference's term by its parts. -/
def all (a0 : Fl S8x256x1024) (a1 : Fl S1x1024) (a2 : Fl S6x1024) (a3 : Bf S1024x3584) (a4 : Fl S1x2x4) : Fl S8x8x128x128 :=
  let p := rP (rH a0 a1 a2) a3
  rAll (rS (rK p) (rV p) (rW (rLg a4) 0 slices_S2x4_S1x4_0_0)) (rS (rRev (rK p)) (rRev (rV p)) (rW (rLg a4) 1 slices_S2x4_S1x4_1_0))

/-- Each state of the reference is the sum over the context's rows; for the backward states the rows are counted the other way round. -/
theorem all_at (a0 : Fl S8x256x1024) (a1 : Fl S1x1024) (a2 : Fl S6x1024) (a3 : Bf S1024x3584) (a4 : Fl S1x2x4) (b s : Fin 8) (d e : Fin 128) :
    all a0 a1 a2 a3 a4 (ix4 b s d e) = G a0 a1 a2 a3 a4 (ix4 b s d e) := by
  have hp : ∀ n : Fin 256, ∀ j : Fin 1024, rP (rH a0 a1 a2) a3 (ix3 b n j) = P (H (fun j => a0 (ix3 b n j)) (fun j => a1 (ix2 0 j)) (fun j => a2 (ix2 1 j)) (fun j => a2 (ix2 0 j))) (fun x j => a3 (ix2 x j)) ⟨512 + j.val, by omega⟩ := by
    intro n j
    rw [rP_at]
    exact congrArg (fun h => P h (fun x j => a3 (ix2 x j)) ⟨512 + j.val, by omega⟩) (funext fun x => rH_at a0 a1 a2 b n x)
  have hv : ∀ j : Fin 128, (⟨512 + (512 + ((head s).val * 128 + j.val)), by omega⟩ : Fin 3584) = vcol s j := fun j => Fin.ext (by unfold head vcol; simp only; omega)
  have hk : ∀ j : Fin 128, (⟨512 + ((head s).val * 128 + j.val), by omega⟩ : Fin 3584) = kcol s j := fun j => rfl
  unfold all
  simp only [rAll_at, rS_at, rRev_at, rK_at, rV_at, rLg_at, hp, hv, hk]
  show _ = State (fun n => P (H (fun j => a0 (ix3 b n j)) (fun j => a1 (ix2 0 j)) (fun j => a2 (ix2 1 j)) (fun j => a2 (ix2 0 j))) (fun x j => a3 (ix2 x j)))
    (Lg (a4 (ix3 0 (dir s) (head s)))) s d e
  unfold State age
  by_cases h : s.val < 4
  · have hd : dir s = ⟨0, by omega⟩ := Fin.ext (by unfold dir; simp only; omega)
    simp only [if_pos h, rW_at _ 0 (by omega), rLg_at, hd]
  · have hd : dir s = ⟨1, by omega⟩ := Fin.ext (by unfold dir; simp only; omega)
    simp only [if_neg h, rW_at _ 1 (by omega), rLg_at, hd]
    refine Fintype.sum_equiv Fin.revPerm _ _ fun n => ?_
    show _ = _ * Ideal.exp (_ * (((n.rev.val : ℕ) : ℝ) : EReal)) * _
    rw [show n.rev.val = 255 - n.val from by rw [Fin.val_rev]; omega]
    rfl

variable (m : (ℓ : Loc nD τ sig) → Buf (Elt Ideal) ℓ) (c : Dev nD)

/-- The reference's result is the states of its arguments. -/
theorem res : res_main_v73 (F := Ideal) m c =
    G (m (c.tc.loc main_arg0)) (m (c.tc.loc main_arg1)) (m (c.tc.loc main_arg2)) (m (c.tc.loc main_arg3)) (m (c.tc.loc main_arg4)) := by
  have hsplit : ∀ i : S8x8x128x128.Idx, i = ix4 (i 0) (i 1) (i 2) (i 3) := fun i => by
    funext a
    match a with
    | ⟨0, _⟩ => rfl
    | ⟨1, _⟩ => rfl
    | ⟨2, _⟩ => rfl
    | ⟨3, _⟩ => rfl
  funext i
  rw [hsplit i]
  exact all_at (m (c.tc.loc main_arg0)) (m (c.tc.loc main_arg1)) (m (c.tc.loc main_arg2)) (m (c.tc.loc main_arg3)) (m (c.tc.loc main_arg4)) (i 0) (i 1) (i 2) (i 3)

end Cert.CtxRef
end
-- ==== Proof.CtxValue.lean ====
module

public import proofs.«01_k».proof.Proof.CtxKernel
public import proofs.«01_k».proof.Proof.CtxRef
public import proofs.«01_k».proof.Defs

@[expose] public section

set_option maxRecDepth 16384

noncomputable section

/-! # The states' kernel and its reference have the same result -/

namespace Cert.CtxKernel

open Cert.Kernel4Ideal Cert.Kernel4Ideal.Gen Cert.Ffn Cert.Inp Cert.Ctx Idealize.ShloMosaic Idealize.ShloMosaic.TcCoe Idealize.SL.Sem
open Cert.CtxRef (G)
open Idealize.ShloMosaic.Pipeline (Dat)

/-- The decays, one row for each state, read at a lane. -/
theorem dec_at (a : Fl S1x2x4) (s : Fin 8) (d : Fin 128) :
    (broadcastInDim S8x128 ![0, 1] bcast_S8x1_S8x128_0_1 (shapeCast S8x1 (shapeCast S2x4 a shapeCasts_S1x2x4_S2x4 : Fl S2x4) shapeCasts_S2x4_S8x1 : Fl S8x1) : Fl S8x128) (ix2 s d)
      = a (ix3 0 (dir s) (head s)) := by
  pointwise []
  rfl

/-- A row that loses and regains its axis of length one. -/
theorem gain_at (a : Fl S1x1024) (k : Fin 1024) :
    (broadcastInDim S1x1024 ![1] bcast_S1024_S1x1024_1 (shapeCast S1024 a shapeCasts_S1x1024_S1024 : Fl S1024) : Fl S1x1024) (ix2 0 k) = a (ix2 0 k) := by
  pointwise

/-- The modulation's rows: the shift and the scale. -/
theorem shift_at (a : Fl S6x1024) (k : Fin 1024) :
    (extractStridedSlice S1x1024 ![0, 0] a slices_S6x1024_S1x1024_0_0 : Fl S1x1024) (ix2 0 k) = a (ix2 0 k) := by
  pointwise
@[inherit_doc shift_at] theorem scale_at (a : Fl S6x1024) (k : Fin 1024) :
    (extractStridedSlice S1x1024 ![1, 0] a slices_S6x1024_S1x1024_1_0 : Fl S1x1024) (ix2 0 k) = a (ix2 1 k) := by
  pointwise

variable (m : (ℓ : Loc nD τ sig) → Buf (Elt Ideal) ℓ) (c : Dev nD)

/-- The arrays that the host computes for the region: the decays, the norm's gain, the shift and the scale. -/
theorem V_dec (a : Fl S1x2x4) (ha : m ((c : Thread nD τ).loc main_arg4) = a) :
    (V m c main_v2 : Fl S8x128) = broadcastInDim S8x128 ![0, 1] bcast_S8x1_S8x128_0_1 (shapeCast S8x1 (shapeCast S2x4 a shapeCasts_S1x2x4_S2x4 : Fl S2x4) shapeCasts_S2x4_S8x1 : Fl S8x1) := by
  subst ha
  show StableHlo.after hostOps0 _ (Proc.devRef .tc main_v2) = _
  after_results
  try rfl

@[inherit_doc V_dec] theorem V_gain (a : Fl S1x1024) (ha : m ((c : Thread nD τ).loc main_arg1) = a) :
    (V m c main_v4 : Fl S1x1024) = broadcastInDim S1x1024 ![1] bcast_S1024_S1x1024_1 (shapeCast S1024 a shapeCasts_S1x1024_S1024 : Fl S1024) := by
  subst ha
  show StableHlo.after hostOps0 _ (Proc.devRef .tc main_v4) = _
  after_results
  try rfl

@[inherit_doc V_dec] theorem V_shift (a : Fl S6x1024) (ha : m ((c : Thread nD τ).loc main_arg2) = a) :
    (V m c main_v5 : Fl S1x1024) = extractStridedSlice S1x1024 ![0, 0] a slices_S6x1024_S1x1024_0_0 := by
  subst ha
  show StableHlo.after hostOps0 _ (Proc.devRef .tc main_v5) = _
  after_results
  try rfl

@[inherit_doc V_dec] theorem V_scale (a : Fl S6x1024) (ha : m ((c : Thread nD τ).loc main_arg2) = a) :
    (V m c main_v6 : Fl S1x1024) = extractStridedSlice S1x1024 ![1, 0] a slices_S6x1024_S1x1024_1_0 := by
  subst ha
  show StableHlo.after hostOps0 _ (Proc.devRef .tc main_v6) = _
  after_results
  try rfl

/-- The blocks at a grid point: four batch elements of the context and of the states, and of the weights the columns of
the keys and those of the values. -/
theorem index_all : ∀ t : Fin cfg0.N, win0_0.index t = ![t.val, 0, 0] ∧ win0_1.index t = ![0, 0] ∧ win0_2.index t = ![0, 0] ∧ win0_3.index t = ![0, 0]
    ∧ win0_4.index t = ![0, 1] ∧ win0_5.index t = ![0, 2] ∧ win0_6.index t = ![0, 0] ∧ win0_7.index t = ![t.val, 0, 0, 0] :=
  (by decide +kernel : ∀ t : Fin grid0.N, win0_0.index t = ![t.val, 0, 0] ∧ win0_1.index t = ![0, 0] ∧ win0_2.index t = ![0, 0] ∧ win0_3.index t = ![0, 0]
    ∧ win0_4.index t = ![0, 1] ∧ win0_5.index t = ![0, 2] ∧ win0_6.index t = ![0, 0] ∧ win0_7.index t = ![t.val, 0, 0, 0])

theorem t_lt (t : Fin cfg0.N) : t.val < 2 := lt_of_lt_of_eq t.isLt N_0

/-- The batch element that the block's element `b` at point `t` is. -/
def bt (t : Fin cfg0.N) (b : Fin 4) : Fin 8 := ⟨t.val * 4 + b.val, by have := t_lt t; omega⟩

/-- An index of a two-axis array, from its place in a block. -/
theorem emb2 {n₀ n₁ s₀ s₁ : ℕ} (x : (⟨2, ![n₀, n₁]⟩ : Shape).Idx) (idx : Fin 2 → ℕ) (p q : ℕ) (e : idx = ![p, q]) (l : Fin n₀) (k : Fin n₁) (r j : ℕ)
    (h0 : (x 0).val = idx 0 * s₀ + 1 * r) (h1 : (x 1).val = idx 1 * s₁ + 1 * j) (hl : l.val = p * s₀ + r) (hk : k.val = q * s₁ + j) : x = ix2 l k := by
  subst e
  funext y
  apply Fin.ext
  match y with
  | ⟨0, _⟩ => rw [show (x ⟨0, _⟩).val = _ from h0]; show p * s₀ + 1 * r = l.val; omega
  | ⟨1, _⟩ => rw [show (x ⟨1, _⟩).val = _ from h1]; show q * s₁ + 1 * j = k.val; omega

theorem blk0 (t : Fin cfg0.N) (b : Fin 4) (n : Fin 256) (j : Fin 1024) :
    (iblk m c 0 t : Fl S4x256x1024) (ix3 b n j) = (m ((c : Thread nD τ).loc main_arg0) : Fl S8x256x1024) (ix3 (bt t b) n j) := by
  unfold iblk
  rw [show V m c (Pipeline.arrRef spec0 0) = m ((c : Thread nD τ).loc main_arg0) from V_main_arg0 m c]
  show (m ((c : Thread nD τ).loc main_arg0) : Fl S8x256x1024) _ = _
  congr 1
  funext y
  apply Fin.ext
  have e := (index_all t).1
  match y with
  | ⟨0, _⟩ => show win0_0.index t 0 * 4 + 1 * b.val = t.val * 4 + b.val; rw [e]; show t.val * 4 + 1 * b.val = _; omega
  | ⟨1, _⟩ => show win0_0.index t 1 * 256 + 1 * n.val = n.val; rw [e]; show 0 * 256 + 1 * n.val = _; omega
  | ⟨2, _⟩ => show win0_0.index t 2 * 1024 + 1 * j.val = j.val; rw [e]; show 0 * 1024 + 1 * j.val = _; omega

theorem blk1 (t : Fin cfg0.N) (j : Fin 1024) :
    (iblk m c 1 t : Fl S1x1024) (ix2 0 j) = (m ((c : Thread nD τ).loc main_arg1) : Fl S1x1024) (ix2 0 j) := by
  refine Eq.trans ?_ ((congrFun (V_gain m c _ rfl) (ix2 0 j)).trans (gain_at _ j))
  unfold iblk
  rw [show V m c (Pipeline.arrRef spec0 1) = V m c main_v4 from rfl]
  generalize V m c main_v4 = w
  show (w : Fl S1x1024) _ = _
  congr 1
  exact emb2 (s₀ := 1) (s₁ := 1024) _ (win0_1.index t) 0 0 (index_all t).2.1 0 j 0 j.val rfl rfl rfl (by omega)

theorem blk2 (t : Fin cfg0.N) (j : Fin 1024) :
    (iblk m c 2 t : Fl S1x1024) (ix2 0 j) = (m ((c : Thread nD τ).loc main_arg2) : Fl S6x1024) (ix2 0 j) := by
  refine Eq.trans ?_ ((congrFun (V_shift m c _ rfl) (ix2 0 j)).trans (shift_at _ j))
  unfold iblk
  rw [show V m c (Pipeline.arrRef spec0 2) = V m c main_v5 from rfl]
  generalize V m c main_v5 = w
  show (w : Fl S1x1024) _ = _
  congr 1
  exact emb2 (s₀ := 1) (s₁ := 1024) _ (win0_2.index t) 0 0 (index_all t).2.2.1 0 j 0 j.val rfl rfl rfl (by omega)

theorem blk3 (t : Fin cfg0.N) (j : Fin 1024) :
    (iblk m c 3 t : Fl S1x1024) (ix2 0 j) = (m ((c : Thread nD τ).loc main_arg2) : Fl S6x1024) (ix2 1 j) := by
  refine Eq.trans ?_ ((congrFun (V_scale m c _ rfl) (ix2 0 j)).trans (scale_at _ j))
  unfold iblk
  rw [show V m c (Pipeline.arrRef spec0 3) = V m c main_v6 from rfl]
  generalize V m c main_v6 = w
  show (w : Fl S1x1024) _ = _
  congr 1
  exact emb2 (s₀ := 1) (s₁ := 1024) _ (win0_3.index t) 0 0 (index_all t).2.2.2.1 0 j 0 j.val rfl rfl rfl (by omega)

theorem blk4 (t : Fin cfg0.N) (x : Fin 1024) (j : Fin 512) (k : Fin 3584) (hk : k.val = 1 * 512 + j.val) :
    (iblk m c 4 t : Bf S1024x512) (ix2 x j) = (m ((c : Thread nD τ).loc main_arg3) : Bf S1024x3584) (ix2 x k) := by
  unfold iblk
  rw [show V m c (Pipeline.arrRef spec0 4) = m ((c : Thread nD τ).loc main_arg3) from V_main_arg3 m c]
  show (m ((c : Thread nD τ).loc main_arg3) : Bf S1024x3584) _ = _
  congr 1
  exact emb2 (s₀ := 1024) (s₁ := 512) _ (win0_4.index t) 0 1 (index_all t).2.2.2.2.1 x k x.val j.val rfl rfl (by omega) hk

theorem blk5 (t : Fin cfg0.N) (x : Fin 1024) (j : Fin 512) (k : Fin 3584) (hk : k.val = 2 * 512 + j.val) :
    (iblk m c 5 t : Bf S1024x512) (ix2 x j) = (m ((c : Thread nD τ).loc main_arg3) : Bf S1024x3584) (ix2 x k) := by
  unfold iblk
  rw [show V m c (Pipeline.arrRef spec0 5) = m ((c : Thread nD τ).loc main_arg3) from V_main_arg3 m c]
  show (m ((c : Thread nD τ).loc main_arg3) : Bf S1024x3584) _ = _
  congr 1
  exact emb2 (s₀ := 1024) (s₁ := 512) _ (win0_5.index t) 0 2 (index_all t).2.2.2.2.2.1 x k x.val j.val rfl rfl (by omega) hk

theorem blk6 (t : Fin cfg0.N) (s : Fin 8) (d : Fin 128) :
    (iblk m c 6 t : Fl S8x128) (ix2 s d) = (m ((c : Thread nD τ).loc main_arg4) : Fl S1x2x4) (ix3 0 (dir s) (head s)) := by
  refine Eq.trans ?_ ((congrFun (V_dec m c _ rfl) (ix2 s d)).trans (dec_at _ s d))
  unfold iblk
  rw [show V m c (Pipeline.arrRef spec0 6) = V m c main_v2 from rfl]
  generalize V m c main_v2 = w
  show (w : Fl S8x128) _ = _
  congr 1
  exact emb2 (s₀ := 8) (s₁ := 128) _ (win0_6.index t) 0 0 (index_all t).2.2.2.2.2.2.1 s d s.val d.val rfl rfl (by omega) (by omega)

/-- A row of the context, normalised, scaled and shifted, times the weights' columns. -/
def Prow (b : Fin 8) (n : Fin 256) : Fin 3584 → EReal :=
  P (H (fun j => (m ((c : Thread nD τ).loc main_arg0) : Fl S8x256x1024) (ix3 b n j)) (fun j => (m ((c : Thread nD τ).loc main_arg1) : Fl S1x1024) (ix2 0 j))
    (fun j => (m ((c : Thread nD τ).loc main_arg2) : Fl S6x1024) (ix2 1 j)) (fun j => (m ((c : Thread nD τ).loc main_arg2) : Fl S6x1024) (ix2 0 j)))
    (fun x j => (m ((c : Thread nD τ).loc main_arg3) : Bf S1024x3584) (ix2 x j))

/-- The keys and the values of a point's block are the projection's. -/
theorem keys_eq (t : Fin cfg0.N) (b : Fin 4) (n : Fin 256) (s : Fin 8) (d : Fin 128) :
    proj (iblk m c 0 t) (iblk m c 1 t) (iblk m c 2 t) (iblk m c 3 t) (iblk m c 4 t) (ix2 (row b n) (col s d)) = Prow m c (bt t b) n (kcol s d) := by
  refine (proj_at _ _ _ _ _ b n (col s d)).trans ?_
  simp only [blk0, blk1, blk2, blk3, fun x => blk4 m c t x (col s d) (kcol s d) (by unfold kcol col; simp only; omega)]
  rfl

@[inherit_doc keys_eq] theorem values_eq (t : Fin cfg0.N) (b : Fin 4) (n : Fin 256) (s : Fin 8) (d : Fin 128) :
    proj (iblk m c 0 t) (iblk m c 1 t) (iblk m c 2 t) (iblk m c 3 t) (iblk m c 5 t) (ix2 (row b n) (col s d)) = Prow m c (bt t b) n (vcol s d) := by
  refine (proj_at _ _ _ _ _ b n (col s d)).trans ?_
  simp only [blk0, blk1, blk2, blk3, fun x => blk5 m c t x (col s d) (vcol s d) (by unfold vcol col; simp only; omega)]
  rfl

/-- The states of all batch elements. -/
def G7 : Fl S8x8x128x128 := G (m ((c : Thread nD τ).loc main_arg0)) (m ((c : Thread nD τ).loc main_arg1)) (m ((c : Thread nD τ).loc main_arg2))
  (m ((c : Thread nD τ).loc main_arg3)) (m ((c : Thread nD τ).loc main_arg4))

/-- A point's block of states is the reference's: the keys' factor is on the decay in the one, on the key in the other. -/
theorem block_eq (t : Fin cfg0.N) (b : Fin 4) (s : Fin 8) (d e : Fin 128) :
    block (proj (iblk m c 0 t) (iblk m c 1 t) (iblk m c 2 t) (iblk m c 3 t) (iblk m c 4 t))
      (proj (iblk m c 0 t) (iblk m c 1 t) (iblk m c 2 t) (iblk m c 3 t) (iblk m c 5 t)) (logs (iblk m c 6 t)) (ix4 b s d e) = G7 m c (ix4 (bt t b) s d e) := by
  show _ = State (Prow m c (bt t b)) (Lg ((m ((c : Thread nD τ).loc main_arg4) : Fl S1x2x4) (ix3 0 (dir s) (head s)))) s d e
  unfold State
  refine Finset.sum_congr rfl fun n _ => ?_
  refine (congrArg₂ (fun y z : EReal => y * z) (congrArg₂ (fun y z : EReal => y * z) (keys_eq m c t b n s d)
    (congrArg (fun g : EReal => Ideal.exp (g * (((age s n : ℕ) : ℝ) : EReal)) * ks) ((logs_at (iblk m c 6 t) s d).trans (congrArg Lg (blk6 m c t s d))))) (values_eq m c t b n s e)).trans ?_
  rw [mul_comm (Ideal.exp _) ks, ← mul_assoc (Prow m c (bt t b) n (kcol s d)) ks]

/-- An index of a four-axis array by its coordinates. -/
theorem idx4 {n₀ n₁ n₂ n₃ : ℕ} (y : (⟨4, ![n₀, n₁, n₂, n₃]⟩ : Shape).Idx) : y = ix4 (y 0 : Fin n₀) (y 1 : Fin n₁) (y 2 : Fin n₂) (y 3 : Fin n₃) := by
  funext a
  match a with
  | ⟨0, _⟩ => rfl
  | ⟨1, _⟩ => rfl
  | ⟨2, _⟩ => rfl
  | ⟨3, _⟩ => rfl

/-- An index of the states' array, in a point's block. -/
theorem out_emb (x : S8x8x128x128.Idx) (idx : Fin 4 → ℕ) (t : Fin cfg0.N) (he : idx = ![t.val, 0, 0, 0]) (b : Fin 4) (s : Fin 8) (d e : Fin 128)
    (h0 : (x 0).val = idx 0 * 4 + 1 * b.val) (h1 : (x 1).val = idx 1 * 8 + 1 * s.val) (h2 : (x 2).val = idx 2 * 128 + 1 * d.val) (h3 : (x 3).val = idx 3 * 128 + 1 * e.val) :
    ix4 (bt t b) s d e = x := by
  subst he
  funext y
  apply Fin.ext
  match y with
  | ⟨0, _⟩ => rw [show (x ⟨0, _⟩).val = _ from h0]; show t.val * 4 + b.val = t.val * 4 + 1 * b.val; omega
  | ⟨1, _⟩ => rw [show (x ⟨1, _⟩).val = _ from h1]; show s.val = 0 * 8 + 1 * s.val; omega
  | ⟨2, _⟩ => rw [show (x ⟨2, _⟩).val = _ from h2]; show d.val = 0 * 128 + 1 * d.val; omega
  | ⟨3, _⟩ => rw [show (x ⟨3, _⟩).val = _ from h3]; show e.val = 0 * 128 + 1 * e.val; omega

/-- Each point writes its block of the states back. -/
theorem flushed7_eq (t : Fin cfg0.N) : (dats m 0 c).flushed 7 t = ((cfg0.win 7).blk t).view.read (Elt Ideal) (G7 m c) := by
  rw [Cert.Kernel4Ideal.Value.flushed7, out_block]
  funext y
  rw [idx4 (n₀ := 4) (n₁ := 8) (n₂ := 128) (n₃ := 128) y]
  refine (block_eq m c t (y 0) (y 1) (y 2) (y 3)).trans ?_
  show G7 m c _ = G7 m c _
  congr 1
  exact out_emb _ (win0_7.index t) t (index_all t).2.2.2.2.2.2.2 (y 0) (y 1) (y 2) (y 3) rfl rfl rfl rfl

/-- An index lies in a point's block when its batch element is one of the block's. -/
theorem mem7 (t : Fin cfg0.N) (i : S8x8x128x128.Idx) (h0 : (i 0).val / 4 = t.val) : i ∈ ((cfg0.win 7).blk t).view.set := by
  show i ∈ ((View.whole main_v7).slice (win0_7.rect t)).set
  rw [View.set_slice_whole, Rect.mem_set_unit]
  have e := (index_all t).2.2.2.2.2.2.2
  have i1 : (i 1).val < 8 := (i 1).isLt
  have i2 : (i 2).val < 128 := (i 2).isLt
  have i3 : (i 3).val < 128 := (i 3).isLt
  intro a
  match a with
  | ⟨0, _⟩ => show win0_7.index t 0 * 4 ≤ (i 0).val ∧ (i 0).val < win0_7.index t 0 * 4 + 4; rw [e]; show t.val * 4 ≤ (i 0).val ∧ (i 0).val < t.val * 4 + 4; omega
  | ⟨1, _⟩ => show win0_7.index t 1 * 8 ≤ (i 1).val ∧ (i 1).val < win0_7.index t 1 * 8 + 8; rw [e]; show 0 * 8 ≤ (i 1).val ∧ (i 1).val < 0 * 8 + 8; omega
  | ⟨2, _⟩ => show win0_7.index t 2 * 128 ≤ (i 2).val ∧ (i 2).val < win0_7.index t 2 * 128 + 128; rw [e]; show 0 * 128 ≤ (i 2).val ∧ (i 2).val < 0 * 128 + 128; omega
  | ⟨3, _⟩ => show win0_7.index t 3 * 128 ≤ (i 3).val ∧ (i 3).val < win0_7.index t 3 * 128 + 128; rw [e]; show 0 * 128 ≤ (i 3).val ∧ (i 3).val < 0 * 128 + 128; omega

theorem flushes7 : ∀ t : Fin cfg0.N, (cfg0.win 7).flush t = true :=
  (by decide +kernel : ∀ t : Fin grid0.N, win0_7.flush t = true)

/-- The states after the run. -/
theorem final7 : (dats m 0 c).arrAt 7 cfg0.N = G7 m c :=
  (dats m 0 c).arrAt_eq_of_cover 7 _ (fun t _ => flushed7_eq m c t) (fun i => by
    have i0 : (i 0).val < 8 := (i 0).isLt
    have hN : (i 0).val / 4 < cfg0.N := by rw [show cfg0.N = 2 from N_0]; omega
    exact ⟨⟨(i 0).val / 4, hN⟩, flushes7 _, mem7 _ i rfl⟩)

end Cert.CtxKernel

namespace Cert.CtxClaim

open Idealize.ShloMosaic Idealize.ShloMosaic.TcCoe Idealize.SL.Sem Cert.CtxKernel

/-- The reference's frame: its arguments end unchanged and every semaphore counter is back at zero. -/
theorem frame_ref : Cert.quiescent_Reference4Ideal := fun m ρ _ =>
  (θ_run _ _ _).mono (fun r h => ⟨fun c => (h c).2, sem_eq_zero_of_no_sems (by decide) r.2⟩) (Cert.Reference4Ideal.Value.run m ρ)

/-- The kernel's states are the reference's over the extended reals, for all arguments. -/
theorem algebraic : Cert.algebraic_Kernel4Ideal_Reference4Ideal := by
  intro m ρ m' ρ' _ hag
  refine ⟨fun c => G7 m c, ?_, ?_⟩
  · refine (θ_run _ _ _).mono (fun r h c => ?_) (Cert.Kernel4Ideal.Value.run_blocks m ρ)
    exact ⟨(h c).1.trans (final7 m c), (h c).2⟩
  · refine (θ_run _ _ _).mono (fun r h c => ?_) (Cert.Reference4Ideal.Value.run m' ρ')
    obtain ⟨h0, h1, h2, h3, h4⟩ := hag c
    refine ⟨(h c).1.trans ((Cert.CtxRef.res m' c).trans ?_), (h c).2⟩
    rw [h0, h1, h2, h3, h4]
    rfl

end Cert.CtxClaim
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.KernelIdeal.Value
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.RetClaim
public import proofs.«01_k».proof.Proof.FfnValue
public import proofs.«01_k».proof.Proof.InValue
public import proofs.«01_k».proof.Proof.CtxValue
public import Idealize.ShloMosaic.Adequacy
public import Idealize.ShloMosaic.Init

@[expose] public section

noncomputable section

namespace Cert.Proof

open Idealize.ShloMosaic Idealize.SL.Sem Cert.Kernel

/-- All the claims: the programs' stated facts, the frames, and for each program the two value claims. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.RetClaim.preFacts,
  fun m ρ _ => Cert.Kernel.Gen.frame m ρ,
  fun m ρ _ => Cert.KernelIdeal.Gen.frame m ρ,
  fun m ρ _ => Cert.KernelIdeal.Gen.frame m ρ,
  fun m ρ _ => Cert.RetRef.frame m ρ,
  fun m ρ _ => Cert.RetRef.frame m ρ,
  fun m ρ _ => Cert.Kernel2.Gen.frame m ρ,
  fun m ρ _ => Cert.Kernel2Ideal.Gen.frame m ρ,
  Cert.FfnClaim.frame_ref,
  fun m ρ _ => Cert.Kernel3.Gen.frame m ρ,
  fun m ρ _ => Cert.Kernel3Ideal.Gen.frame m ρ,
  Cert.InClaim.frame_ref,
  fun m ρ _ => Cert.Kernel4.Gen.frame m ρ,
  fun m ρ _ => Cert.Kernel4Ideal.Gen.frame m ρ,
  Cert.CtxClaim.frame_ref,
  trivial,
  Cert.RetClaim.algebraic,
  trivial,
  Cert.FfnClaim.algebraic,
  trivial,
  Cert.InClaim.algebraic,
  trivial,
  Cert.CtxClaim.algebraic⟩

end Cert.Proof

end
